-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![1, 2048, 2, 128]⟩ ⟨4, ![1, 65536, 2, 128]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![1, 2048, 2, 128]⟩ ⟨4, ![1, 65536, 2, 128]⟩ 1 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x512x1024 : Shape := ⟨3, ![1, 512, 1024]⟩
abbrev S1024x1024 : Shape := ⟨2, ![1024, 1024]⟩
abbrev S1x2048x2x128 : Shape := ⟨4, ![1, 2048, 2, 128]⟩
abbrev S_ : Shape := ⟨0, ![]⟩

class Facts : Prop where
  bitsLt_bf16_f32 : FTy.bits .bf16 < FTy.bits .f32
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x2x128 : S_.BroadcastsInDim S1x2048x2x128 (![] : Fin 0 → Fin S1x2048x2x128.rank)
  reducesTo_S1x2048x2x128_S_d0_1_2_3 : S1x2048x2x128.ReducesTo [0, 1, 2, 3] S_

variable [Facts]

def fn {F : FTy → Type} [FloatOps F] (main_arg0 : FVec F S1x512x1024 .bf16) (main_arg1 : FVec F S1024x1024 .bf16) (main_arg2 : FVec F S1024x1024 .bf16) (main_arg3 : FVec F S1x2048x2x128 .bf16) (main_arg4 : FVec F S1x2048x2x128 .bf16) : IVec S_ 1 :=
  let main_v0 : FVec F S1x512x1024 .f32 := (extf .f32 · bitsLt_bf16_f32) main_arg0
  let main_v1 : FVec F S1x512x1024 .f32 := Host.absf main_v0
  let main_cst : FVec F S_ .f32 := constant S_ .f32 0x7F800000#32
  let main_v2 : FVec F S1x512x1024 .f32 := broadcastInDim S1x512x1024 ![] bcast_S_S1x512x1024 main_cst
  let main_v3 : IVec S1x512x1024 1 := cmpf .olt main_v1 main_v2
  let main_c : IVec S_ 1 := constantI S_ 1 1#1
  let main_v4 : IVec S_ 1 := (fun x v => Host.reduce IntOp.andi x v reducesTo_S1x512x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x2048x2x128 .f32 := (extf .f32 · bitsLt_bf16_f32) main_arg3
  let main_v12 : FVec F S1x2048x2x128 .f32 := Host.absf main_v11
  let main_cst_2 : FVec F S_ .f32 := constant S_ .f32 0x7F800000#32
  let main_v13 : FVec F S1x2048x2x128 .f32 := broadcastInDim S1x2048x2x128 ![] bcast_S_S1x2048x2x128 main_cst_2
  let main_v14 : IVec S1x2048x2x128 1 := cmpf .olt main_v12 main_v13
  let main_c_3 : IVec S_ 1 := constantI S_ 1 1#1
  let main_v15 : IVec S_ 1 := (fun x v => Host.reduce IntOp.andi x v reducesTo_S1x2048x2x128_S_d0_1_2_3 h_S_) main_v14 main_c_3
  let main_v16 : IVec S_ 1 := andi main_v10 main_v15
  main_v16
-- ==== Pre_finite_ReferenceIdeal.lean ====
abbrev S1x512x1024 : Shape := ⟨3, ![1, 512, 1024]⟩
abbrev S1024x1024 : Shape := ⟨2, ![1024, 1024]⟩
abbrev S1x65536x2x128 : Shape := ⟨4, ![1, 65536, 2, 128]⟩
abbrev S_ : Shape := ⟨0, ![]⟩

class Facts : Prop where
  bitsLt_bf16_f32 : FTy.bits .bf16 < FTy.bits .f32
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x65536x2x128 : S_.BroadcastsInDim S1x65536x2x128 (![] : Fin 0 → Fin S1x65536x2x128.rank)
  reducesTo_S1x65536x2x128_S_d0_1_2_3 : S1x65536x2x128.ReducesTo [0, 1, 2, 3] S_

variable [Facts]

def fn {F : FTy → Type} [FloatOps F] (main_arg0 : FVec F S1x512x1024 .bf16) (main_arg1 : FVec F S1024x1024 .bf16) (main_arg2 : FVec F S1024x1024 .bf16) (main_arg3 : FVec F S1x65536x2x128 .bf16) (main_arg4 : FVec F S1x65536x2x128 .bf16) : IVec S_ 1 :=
  let main_v0 : FVec F S1x512x1024 .f32 := (extf .f32 · bitsLt_bf16_f32) main_arg0
  let main_v1 : FVec F S1x512x1024 .f32 := Host.absf main_v0
  let main_cst : FVec F S_ .f32 := constant S_ .f32 0x7F800000#32
  let main_v2 : FVec F S1x512x1024 .f32 := broadcastInDim S1x512x1024 ![] bcast_S_S1x512x1024 main_cst
  let main_v3 : IVec S1x512x1024 1 := cmpf .olt main_v1 main_v2
  let main_c : IVec S_ 1 := constantI S_ 1 1#1
  let main_v4 : IVec S_ 1 := (fun x v => Host.reduce IntOp.andi x v reducesTo_S1x512x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x65536x2x128 .f32 := (extf .f32 · bitsLt_bf16_f32) main_arg3
  let main_v12 : FVec F S1x65536x2x128 .f32 := Host.absf main_v11
  let main_cst_2 : FVec F S_ .f32 := constant S_ .f32 0x7F800000#32
  let main_v13 : FVec F S1x65536x2x128 .f32 := broadcastInDim S1x65536x2x128 ![] bcast_S_S1x65536x2x128 main_cst_2
  let main_v14 : IVec S1x65536x2x128 1 := cmpf .olt main_v12 main_v13
  let main_c_3 : IVec S_ 1 := constantI S_ 1 1#1
  let main_v15 : IVec S_ 1 := (fun x v => Host.reduce IntOp.andi x v reducesTo_S1x65536x2x128_S_d0_1_2_3 h_S_) main_v14 main_c_3
  let main_v16 : IVec S_ 1 := andi main_v10 main_v15
  main_v16
-- ==== Kernel.lean ====
abbrev S1x512x1024 : Shape := ⟨3, ![1, 512, 1024]⟩
abbrev S1024x1024 : Shape := ⟨2, ![1024, 1024]⟩
abbrev S1x2048x2x128 : Shape := ⟨4, ![1, 2048, 2, 128]⟩
abbrev S9x512x128 : Shape := ⟨3, ![9, 512, 128]⟩
abbrev S32x9x16x128 : Shape := ⟨4, ![32, 9, 16, 128]⟩
abbrev S32 : Shape := ⟨1, ![32]⟩
abbrev S_ : Shape := ⟨0, ![]⟩
abbrev S512x1024 : Shape := ⟨2, ![512, 1024]⟩
abbrev S512x128 : Shape := ⟨2, ![512, 128]⟩
abbrev S1x512x128 : Shape := ⟨3, ![1, 512, 128]⟩
abbrev S1x2048x1x128 : Shape := ⟨4, ![1, 2048, 1, 128]⟩
abbrev S2048x128 : Shape := ⟨2, ![2048, 128]⟩
abbrev S512x2048 : Shape := ⟨2, ![512, 2048]⟩
abbrev S512 : Shape := ⟨1, ![512]⟩
abbrev S1x512x1 : Shape := ⟨3, ![1, 512, 1]⟩
abbrev S1 : Shape := ⟨1, ![1]⟩
abbrev S1x9x16x128 : Shape := ⟨4, ![1, 9, 16, 128]⟩
abbrev S9x16x128 : Shape := ⟨3, ![9, 16, 128]⟩
abbrev S1x16x8 : Shape := ⟨3, ![1, 16, 8]⟩
abbrev S16x8 : Shape := ⟨2, ![16, 8]⟩
abbrev S16x1024 : Shape := ⟨2, ![16, 1024]⟩
abbrev S1x16x128 : Shape := ⟨3, ![1, 16, 128]⟩
abbrev S16x128 : Shape := ⟨2, ![16, 128]⟩
abbrev S16x1 : Shape := ⟨2, ![16, 1]⟩
abbrev S16 : Shape := ⟨1, ![16]⟩
abbrev S128x1024 : Shape := ⟨2, ![128, 1024]⟩
abbrev S1x16x1024 : Shape := ⟨3, ![1, 16, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1024x1024, .bf16⟩
  | .hbm, ⟨3, _⟩ => ⟨S1x2048x2x128, .bf16⟩
  | .hbm, ⟨4, _⟩ => ⟨S1x2048x2x128, .bf16⟩
  | .hbm, ⟨5, _⟩ => ⟨S1x512x1024, .f32⟩
  | .local _ .vmem, ⟨0, _⟩ => ⟨S1x512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x2048x2x128, .bf16⟩
  | .local _ .vmem, ⟨4, _⟩ => ⟨S1x2048x2x128, .bf16⟩
  | .local _ .vmem, ⟨5, _⟩ => ⟨S1x512x1024, .f32⟩
  | .local _ .vmem, ⟨6, _⟩ => ⟨S9x512x128, .bf16⟩
  | .local _ .vmem, ⟨7, _⟩ => ⟨S32x9x16x128, .bf16⟩
  | _, _ => ⟨S1x512x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_dev17 : Nat :=
  let c0_i32_51 : BitVec 32 := 0#32
  let c16_i32 : BitVec 32 := 16#32
  let c1_i32_50 : BitVec 32 := 1#32
  let v36 : BitVec 32 := Scalar.muli c16_i32 c1_i32_50
  let v37 : BitVec 32 := Scalar.addi c0_i32_51 v36
  v37.toNat
def k0_dev18 : Nat :=
  let c0_i32_54 : BitVec 32 := 0#32
  let c17_i32 : BitVec 32 := 17#32
  let c1_i32_53 : BitVec 32 := 1#32
  let v38 : BitVec 32 := Scalar.muli c17_i32 c1_i32_53
  let v39 : BitVec 32 := Scalar.addi c0_i32_54 v38
  v39.toNat
def k0_dev19 : Nat :=
  let c0_i32_57 : BitVec 32 := 0#32
  let c18_i32 : BitVec 32 := 18#32
  let c1_i32_56 : BitVec 32 := 1#32
  let v40 : BitVec 32 := Scalar.muli c18_i32 c1_i32_56
  let v41 : BitVec 32 := Scalar.addi c0_i32_57 v40
  v41.toNat
def k0_dev20 : Nat :=
  let c0_i32_60 : BitVec 32 := 0#32
  let c19_i32 : BitVec 32 := 19#32
  let c1_i32_59 : BitVec 32 := 1#32
  let v42 : BitVec 32 := Scalar.muli c19_i32 c1_i32_59
  let v43 : BitVec 32 := Scalar.addi c0_i32_60 v42
  v43.toNat
def k0_dev21 : Nat :=
  let c0_i32_63 : BitVec 32 := 0#32
  let c20_i32 : BitVec 32 := 20#32
  let c1_i32_62 : BitVec 32 := 1#32
  let v44 : BitVec 32 := Scalar.muli c20_i32 c1_i32_62
  let v45 : BitVec 32 := Scalar.addi c0_i32_63 v44
  v45.toNat
def k0_dev22 : Nat :=
  let c0_i32_66 : BitVec 32 := 0#32
  let c21_i32 : BitVec 32 := 21#32
  let c1_i32_65 : BitVec 32 := 1#32
  let v46 : BitVec 32 := Scalar.muli c21_i32 c1_i32_65
  let v47 : BitVec 32 := Scalar.addi c0_i32_66 v46
  v47.toNat
def k0_dev23 : Nat :=
  let c0_i32_69 : BitVec 32 := 0#32
  let c22_i32 : BitVec 32 := 22#32
  let c1_i32_68 : BitVec 32 := 1#32
  let v48 : BitVec 32 := Scalar.muli c22_i32 c1_i32_68
  let v49 : BitVec 32 := Scalar.addi c0_i32_69 v48
  v49.toNat
def k0_dev24 : Nat :=
  let c0_i32_72 : BitVec 32 := 0#32
  let c23_i32 : BitVec 32 := 23#32
  let c1_i32_71 : BitVec 32 := 1#32
  let v50 : BitVec 32 := Scalar.muli c23_i32 c1_i32_71
  let v51 : BitVec 32 := Scalar.addi c0_i32_72 v50
  v51.toNat
def k0_dev25 : Nat :=
  let c0_i32_75 : BitVec 32 := 0#32
  let c24_i32 : BitVec 32 := 24#32
  let c1_i32_74 : BitVec 32 := 1#32
  let v52 : BitVec 32 := Scalar.muli c24_i32 c1_i32_74
  let v53 : BitVec 32 := Scalar.addi c0_i32_75 v52
  v53.toNat
def k0_dev26 : Nat :=
  let c0_i32_78 : BitVec 32 := 0#32
  let c25_i32 : BitVec 32 := 25#32
  let c1_i32_77 : BitVec 32 := 1#32
  let v54 : BitVec 32 := Scalar.muli c25_i32 c1_i32_77
  let v55 : BitVec 32 := Scalar.addi c0_i32_78 v54
  v55.toNat
def k0_dev27 : Nat :=
  let c0_i32_81 : BitVec 32 := 0#32
  let c26_i32 : BitVec 32 := 26#32
  let c1_i32_80 : BitVec 32 := 1#32
  let v56 : BitVec 32 := Scalar.muli c26_i32 c1_i32_80
  let v57 : BitVec 32 := Scalar.addi c0_i32_81 v56
  v57.toNat
def k0_dev28 : Nat :=
  let c0_i32_84 : BitVec 32 := 0#32
  let c27_i32 : BitVec 32 := 27#32
  let c1_i32_83 : BitVec 32 := 1#32
  let v58 : BitVec 32 := Scalar.muli c27_i32 c1_i32_83
  let v59 : BitVec 32 := Scalar.addi c0_i32_84 v58
  v59.toNat
def k0_dev29 : Nat :=
  let c0_i32_87 : BitVec 32 := 0#32
  let c28_i32 : BitVec 32 := 28#32
  let c1_i32_86 : BitVec 32 := 1#32
  let v60 : BitVec 32 := Scalar.muli c28_i32 c1_i32_86
  let v61 : BitVec 32 := Scalar.addi c0_i32_87 v60
  v61.toNat
def k0_dev30 : Nat :=
  let c0_i32_90 : BitVec 32 := 0#32
  let c29_i32 : BitVec 32 := 29#32
  let c1_i32_89 : BitVec 32 := 1#32
  let v62 : BitVec 32 := Scalar.muli c29_i32 c1_i32_89
  let v63 : BitVec 32 := Scalar.addi c0_i32_90 v62
  v63.toNat
def k0_dev31 : Nat :=
  let c0_i32_93 : BitVec 32 := 0#32
  let c30_i32 : BitVec 32 := 30#32
  let c1_i32_92 : BitVec 32 := 1#32
  let v64 : BitVec 32 := Scalar.muli c30_i32 c1_i32_92
  let v65 : BitVec 32 := Scalar.addi c0_i32_93 v64
  v65.toNat
def k0_dev32 : Nat :=
  let c0_i32_96 : BitVec 32 := 0#32
  let c31_i32 : BitVec 32 := 31#32
  let c1_i32_95 : BitVec 32 := 1#32
  let v66 : BitVec 32 := Scalar.muli c31_i32 c1_i32_95
  let v67 : BitVec 32 := Scalar.addi c0_i32_96 v66
  v67.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_235 : BitVec 32 := 0#32
  let v231 : BitVec 1 := Scalar.cmpi .ne v2 c0_i32_235
  let v232 : BitVec 32 := Scalar.extui v231
  let c0_i32_236 : BitVec 32 := 0#32
  let v233 : BitVec 1 := Scalar.cmpi .ne v232 c0_i32_236
  v233

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev33 : Nat :=
  let c0_i32_752 : BitVec 32 := 0#32
  let c0_i32_750 : BitVec 32 := 0#32
  let c1_i32_751 : BitVec 32 := 1#32
  let v1045 : BitVec 32 := Scalar.muli c0_i32_750 c1_i32_751
  let v1046 : BitVec 32 := Scalar.addi c0_i32_752 v1045
  v1046.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_237 : BitVec 32 := 1#32
  let v234 : BitVec 1 := Scalar.cmpi .ne v2 c1_i32_237
  let v235 : BitVec 32 := Scalar.extui v234
  let c0_i32_238 : BitVec 32 := 0#32
  let v236 : BitVec 1 := Scalar.cmpi .ne v235 c0_i32_238
  v236

def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev34 : Nat :=
  let c0_i32_752 : BitVec 32 := 0#32
  let c1_i32_750 : BitVec 32 := 1#32
  let c1_i32_751 : BitVec 32 := 1#32
  let v1045 : BitVec 32 := Scalar.muli c1_i32_750 c1_i32_751
  let v1046 : BitVec 32 := Scalar.addi c0_i32_752 v1045
  v1046.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_239 : BitVec 32 := 2#32
  let v237 : BitVec 1 := Scalar.cmpi .ne v2 c2_i32_239
  let v238 : BitVec 32 := Scalar.extui v237
  let c0_i32_240 : BitVec 32 := 0#32
  let v239 : BitVec 1 := Scalar.cmpi .ne v238 c0_i32_240
  v239

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev35 : Nat :=
  let c0_i32_752 : BitVec 32 := 0#32
  let c2_i32_750 : BitVec 32 := 2#32
  let c1_i32_751 : BitVec 32 := 1#32
  let v1045 : BitVec 32 := Scalar.muli c2_i32_750 c1_i32_751
  let v1046 : BitVec 32 := Scalar.addi c0_i32_752 v1045
  v1046.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_241 : BitVec 32 := 3#32
  let v240 : BitVec 1 := Scalar.cmpi .ne v2 c3_i32_241
  let v241 : BitVec 32 := Scalar.extui v240
  let c0_i32_242 : BitVec 32 := 0#32
  let v242 : BitVec 1 := Scalar.cmpi .ne v241 c0_i32_242
  v242

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev36 : Nat :=
  let c0_i32_752 : BitVec 32 := 0#32
  let c3_i32_750 : BitVec 32 := 3#32
  let c1_i32_751 : BitVec 32 := 1#32
  let v1045 : BitVec 32 := Scalar.muli c3_i32_750 c1_i32_751
  let v1046 : BitVec 32 := Scalar.addi c0_i32_752 v1045
  v1046.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_243 : BitVec 32 := 4#32
  let v243 : BitVec 1 := Scalar.cmpi .ne v2 c4_i32_243
  let v244 : BitVec 32 := Scalar.extui v243
  let c0_i32_244 : BitVec 32 := 0#32
  let v245 : BitVec 1 := Scalar.cmpi .ne v244 c0_i32_244
  v245

def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev37 : Nat :=
  let c0_i32_752 : BitVec 32 := 0#32
  let c4_i32_750 : BitVec 32 := 4#32
  let c1_i32_751 : BitVec 32 := 1#32
  let v1045 : BitVec 32 := Scalar.muli c4_i32_750 c1_i32_751
  let v1046 : BitVec 32 := Scalar.addi c0_i32_752 v1045
  v1046.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_245 : BitVec 32 := 5#32
  let v246 : BitVec 1 := Scalar.cmpi .ne v2 c5_i32_245
  let v247 : BitVec 32 := Scalar.extui v246
  let c0_i32_246 : BitVec 32 := 0#32
  let v248 : BitVec 1 := Scalar.cmpi .ne v247 c0_i32_246
  v248

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev38 : Nat :=
  let c0_i32_752 : BitVec 32 := 0#32
  let c5_i32_750 : BitVec 32 := 5#32
  let c1_i32_751 : BitVec 32 := 1#32
  let v1045 : BitVec 32 := Scalar.muli c5_i32_750 c1_i32_751
  let v1046 : BitVec 32 := Scalar.addi c0_i32_752 v1045
  v1046.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_247 : BitVec 32 := 6#32
  let v249 : BitVec 1 := Scalar.cmpi .ne v2 c6_i32_247
  let v250 : BitVec 32 := Scalar.extui v249
  let c0_i32_248 : BitVec 32 := 0#32
  let v251 : BitVec 1 := Scalar.cmpi .ne v250 c0_i32_248
  v251

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev39 : Nat :=
  let c0_i32_752 : BitVec 32 := 0#32
  let c6_i32_750 : BitVec 32 := 6#32
  let c1_i32_751 : BitVec 32 := 1#32
  let v1045 : BitVec 32 := Scalar.muli c6_i32_750 c1_i32_751
  let v1046 : BitVec 32 := Scalar.addi c0_i32_752 v1045
  v1046.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_249 : BitVec 32 := 7#32
  let v252 : BitVec 1 := Scalar.cmpi .ne v2 c7_i32_249
  let v253 : BitVec 32 := Scalar.extui v252
  let c0_i32_250 : BitVec 32 := 0#32
  let v254 : BitVec 1 := Scalar.cmpi .ne v253 c0_i32_250
  v254

def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev40 : Nat :=
  let c0_i32_752 : BitVec 32 := 0#32
  let c7_i32_750 : BitVec 32 := 7#32
  let c1_i32_751 : BitVec 32 := 1#32
  let v1045 : BitVec 32 := Scalar.muli c7_i32_750 c1_i32_751
  let v1046 : BitVec 32 := Scalar.addi c0_i32_752 v1045
  v1046.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_251 : BitVec 32 := 8#32
  let v255 : BitVec 1 := Scalar.cmpi .ne v2 c8_i32_251
  let v256 : BitVec 32 := Scalar.extui v255
  let c0_i32_252 : BitVec 32 := 0#32
  let v257 : BitVec 1 := Scalar.cmpi .ne v256 c0_i32_252
  v257

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev41 : Nat :=
  let c0_i32_752 : BitVec 32 := 0#32
  let c8_i32_750 : BitVec 32 := 8#32
  let c1_i32_751 : BitVec 32 := 1#32
  let v1045 : BitVec 32 := Scalar.muli c8_i32_750 c1_i32_751
  let v1046 : BitVec 32 := Scalar.addi c0_i32_752 v1045
  v1046.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_253 : BitVec 32 := 9#32
  let v258 : BitVec 1 := Scalar.cmpi .ne v2 c9_i32_253
  let v259 : BitVec 32 := Scalar.extui v258
  let c0_i32_254 : BitVec 32 := 0#32
  let v260 : BitVec 1 := Scalar.cmpi .ne v259 c0_i32_254
  v260

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev42 : Nat :=
  let c0_i32_752 : BitVec 32 := 0#32
  let c9_i32_750 : BitVec 32 := 9#32
  let c1_i32_751 : BitVec 32 := 1#32
  let v1045 : BitVec 32 := Scalar.muli c9_i32_750 c1_i32_751
  let v1046 : BitVec 32 := Scalar.addi c0_i32_752 v1045
  v1046.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_255 : BitVec 32 := 10#32
  let v261 : BitVec 1 := Scalar.cmpi .ne v2 c10_i32_255
  let v262 : BitVec 32 := Scalar.extui v261
  let c0_i32_256 : BitVec 32 := 0#32
  let v263 : BitVec 1 := Scalar.cmpi .ne v262 c0_i32_256
  v263

def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev43 : Nat :=
  let c0_i32_752 : BitVec 32 := 0#32
  let c10_i32_750 : BitVec 32 := 10#32
  let c1_i32_751 : BitVec 32 := 1#32
  let v1045 : BitVec 32 := Scalar.muli c10_i32_750 c1_i32_751
  let v1046 : BitVec 32 := Scalar.addi c0_i32_752 v1045
  v1046.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_257 : BitVec 32 := 11#32
  let v264 : BitVec 1 := Scalar.cmpi .ne v2 c11_i32_257
  let v265 : BitVec 32 := Scalar.extui v264
  let c0_i32_258 : BitVec 32 := 0#32
  let v266 : BitVec 1 := Scalar.cmpi .ne v265 c0_i32_258
  v266

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev44 : Nat :=
  let c0_i32_752 : BitVec 32 := 0#32
  let c11_i32_750 : BitVec 32 := 11#32
  let c1_i32_751 : BitVec 32 := 1#32
  let v1045 : BitVec 32 := Scalar.muli c11_i32_750 c1_i32_751
  let v1046 : BitVec 32 := Scalar.addi c0_i32_752 v1045
  v1046.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_259 : BitVec 32 := 12#32
  let v267 : BitVec 1 := Scalar.cmpi .ne v2 c12_i32_259
  let v268 : BitVec 32 := Scalar.extui v267
  let c0_i32_260 : BitVec 32 := 0#32
  let v269 : BitVec 1 := Scalar.cmpi .ne v268 c0_i32_260
  v269

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev45 : Nat :=
  let c0_i32_752 : BitVec 32 := 0#32
  let c12_i32_750 : BitVec 32 := 12#32
  let c1_i32_751 : BitVec 32 := 1#32
  let v1045 : BitVec 32 := Scalar.muli c12_i32_750 c1_i32_751
  let v1046 : BitVec 32 := Scalar.addi c0_i32_752 v1045
  v1046.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_261 : BitVec 32 := 13#32
  let v270 : BitVec 1 := Scalar.cmpi .ne v2 c13_i32_261
  let v271 : BitVec 32 := Scalar.extui v270
  let c0_i32_262 : BitVec 32 := 0#32
  let v272 : BitVec 1 := Scalar.cmpi .ne v271 c0_i32_262
  v272

def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev46 : Nat :=
  let c0_i32_752 : BitVec 32 := 0#32
  let c13_i32_750 : BitVec 32 := 13#32
  let c1_i32_751 : BitVec 32 := 1#32
  let v1045 : BitVec 32 := Scalar.muli c13_i32_750 c1_i32_751
  let v1046 : BitVec 32 := Scalar.addi c0_i32_752 v1045
  v1046.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_263 : BitVec 32 := 14#32
  let v273 : BitVec 1 := Scalar.cmpi .ne v2 c14_i32_263
  let v274 : BitVec 32 := Scalar.extui v273
  let c0_i32_264 : BitVec 32 := 0#32
  let v275 : BitVec 1 := Scalar.cmpi .ne v274 c0_i32_264
  v275

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev47 : Nat :=
  let c0_i32_752 : BitVec 32 := 0#32
  let c14_i32_750 : BitVec 32 := 14#32
  let c1_i32_751 : BitVec 32 := 1#32
  let v1045 : BitVec 32 := Scalar.muli c14_i32_750 c1_i32_751
  let v1046 : BitVec 32 := Scalar.addi c0_i32_752 v1045
  v1046.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_265 : BitVec 32 := 15#32
  let v276 : BitVec 1 := Scalar.cmpi .ne v2 c15_i32_265
  let v277 : BitVec 32 := Scalar.extui v276
  let c0_i32_266 : BitVec 32 := 0#32
  let v278 : BitVec 1 := Scalar.cmpi .ne v277 c0_i32_266
  v278

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev48 : Nat :=
  let c0_i32_752 : BitVec 32 := 0#32
  let c15_i32_750 : BitVec 32 := 15#32
  let c1_i32_751 : BitVec 32 := 1#32
  let v1045 : BitVec 32 := Scalar.muli c15_i32_750 c1_i32_751
  let v1046 : BitVec 32 := Scalar.addi c0_i32_752 v1045
  v1046.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_267 : BitVec 32 := 16#32
  let v279 : BitVec 1 := Scalar.cmpi .ne v2 c16_i32_267
  let v280 : BitVec 32 := Scalar.extui v279
  let c0_i32_268 : BitVec 32 := 0#32
  let v281 : BitVec 1 := Scalar.cmpi .ne v280 c0_i32_268
  v281

def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev49 : Nat :=
  let c0_i32_752 : BitVec 32 := 0#32
  let c16_i32_750 : BitVec 32 := 16#32
  let c1_i32_751 : BitVec 32 := 1#32
  let v1045 : BitVec 32 := Scalar.muli c16_i32_750 c1_i32_751
  let v1046 : BitVec 32 := Scalar.addi c0_i32_752 v1045
  v1046.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_269 : BitVec 32 := 17#32
  let v282 : BitVec 1 := Scalar.cmpi .ne v2 c17_i32_269
  let v283 : BitVec 32 := Scalar.extui v282
  let c0_i32_270 : BitVec 32 := 0#32
  let v284 : BitVec 1 := Scalar.cmpi .ne v283 c0_i32_270
  v284

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev50 : Nat :=
  let c0_i32_752 : BitVec 32 := 0#32
  let c17_i32_750 : BitVec 32 := 17#32
  let c1_i32_751 : BitVec 32 := 1#32
  let v1045 : BitVec 32 := Scalar.muli c17_i32_750 c1_i32_751
  let v1046 : BitVec 32 := Scalar.addi c0_i32_752 v1045
  v1046.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_271 : BitVec 32 := 18#32
  let v285 : BitVec 1 := Scalar.cmpi .ne v2 c18_i32_271
  let v286 : BitVec 32 := Scalar.extui v285
  let c0_i32_272 : BitVec 32 := 0#32
  let v287 : BitVec 1 := Scalar.cmpi .ne v286 c0_i32_272
  v287

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev51 : Nat :=
  let c0_i32_752 : BitVec 32 := 0#32
  let c18_i32_750 : BitVec 32 := 18#32
  let c1_i32_751 : BitVec 32 := 1#32
  let v1045 : BitVec 32 := Scalar.muli c18_i32_750 c1_i32_751
  let v1046 : BitVec 32 := Scalar.addi c0_i32_752 v1045
  v1046.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_273 : BitVec 32 := 19#32
  let v288 : BitVec 1 := Scalar.cmpi .ne v2 c19_i32_273
  let v289 : BitVec 32 := Scalar.extui v288
  let c0_i32_274 : BitVec 32 := 0#32
  let v290 : BitVec 1 := Scalar.cmpi .ne v289 c0_i32_274
  v290

def k0_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off40 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev52 : Nat :=
  let c0_i32_752 : BitVec 32 := 0#32
  let c19_i32_750 : BitVec 32 := 19#32
  let c1_i32_751 : BitVec 32 := 1#32
  let v1045 : BitVec 32 := Scalar.muli c19_i32_750 c1_i32_751
  let v1046 : BitVec 32 := Scalar.addi c0_i32_752 v1045
  v1046.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_275 : BitVec 32 := 20#32
  let v291 : BitVec 1 := Scalar.cmpi .ne v2 c20_i32_275
  let v292 : BitVec 32 := Scalar.extui v291
  let c0_i32_276 : BitVec 32 := 0#32
  let v293 : BitVec 1 := Scalar.cmpi .ne v292 c0_i32_276
  v293

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev53 : Nat :=
  let c0_i32_752 : BitVec 32 := 0#32
  let c20_i32_750 : BitVec 32 := 20#32
  let c1_i32_751 : BitVec 32 := 1#32
  let v1045 : BitVec 32 := Scalar.muli c20_i32_750 c1_i32_751
  let v1046 : BitVec 32 := Scalar.addi c0_i32_752 v1045
  v1046.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_277 : BitVec 32 := 21#32
  let v294 : BitVec 1 := Scalar.cmpi .ne v2 c21_i32_277
  let v295 : BitVec 32 := Scalar.extui v294
  let c0_i32_278 : BitVec 32 := 0#32
  let v296 : BitVec 1 := Scalar.cmpi .ne v295 c0_i32_278
  v296

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev54 : Nat :=
  let c0_i32_752 : BitVec 32 := 0#32
  let c21_i32_750 : BitVec 32 := 21#32
  let c1_i32_751 : BitVec 32 := 1#32
  let v1045 : BitVec 32 := Scalar.muli c21_i32_750 c1_i32_751
  let v1046 : BitVec 32 := Scalar.addi c0_i32_752 v1045
  v1046.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_279 : BitVec 32 := 22#32
  let v297 : BitVec 1 := Scalar.cmpi .ne v2 c22_i32_279
  let v298 : BitVec 32 := Scalar.extui v297
  let c0_i32_280 : BitVec 32 := 0#32
  let v299 : BitVec 1 := Scalar.cmpi .ne v298 c0_i32_280
  v299

def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev55 : Nat :=
  let c0_i32_752 : BitVec 32 := 0#32
  let c22_i32_750 : BitVec 32 := 22#32
  let c1_i32_751 : BitVec 32 := 1#32
  let v1045 : BitVec 32 := Scalar.muli c22_i32_750 c1_i32_751
  let v1046 : BitVec 32 := Scalar.addi c0_i32_752 v1045
  v1046.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_281 : BitVec 32 := 23#32
  let v300 : BitVec 1 := Scalar.cmpi .ne v2 c23_i32_281
  let v301 : BitVec 32 := Scalar.extui v300
  let c0_i32_282 : BitVec 32 := 0#32
  let v302 : BitVec 1 := Scalar.cmpi .ne v301 c0_i32_282
  v302

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev56 : Nat :=
  let c0_i32_752 : BitVec 32 := 0#32
  let c23_i32_750 : BitVec 32 := 23#32
  let c1_i32_751 : BitVec 32 := 1#32
  let v1045 : BitVec 32 := Scalar.muli c23_i32_750 c1_i32_751
  let v1046 : BitVec 32 := Scalar.addi c0_i32_752 v1045
  v1046.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_283 : BitVec 32 := 24#32
  let v303 : BitVec 1 := Scalar.cmpi .ne v2 c24_i32_283
  let v304 : BitVec 32 := Scalar.extui v303
  let c0_i32_284 : BitVec 32 := 0#32
  let v305 : BitVec 1 := Scalar.cmpi .ne v304 c0_i32_284
  v305

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev57 : Nat :=
  let c0_i32_752 : BitVec 32 := 0#32
  let c24_i32_750 : BitVec 32 := 24#32
  let c1_i32_751 : BitVec 32 := 1#32
  let v1045 : BitVec 32 := Scalar.muli c24_i32_750 c1_i32_751
  let v1046 : BitVec 32 := Scalar.addi c0_i32_752 v1045
  v1046.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_285 : BitVec 32 := 25#32
  let v306 : BitVec 1 := Scalar.cmpi .ne v2 c25_i32_285
  let v307 : BitVec 32 := Scalar.extui v306
  let c0_i32_286 : BitVec 32 := 0#32
  let v308 : BitVec 1 := Scalar.cmpi .ne v307 c0_i32_286
  v308

def k0_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off52 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev58 : Nat :=
  let c0_i32_752 : BitVec 32 := 0#32
  let c25_i32_750 : BitVec 32 := 25#32
  let c1_i32_751 : BitVec 32 := 1#32
  let v1045 : BitVec 32 := Scalar.muli c25_i32_750 c1_i32_751
  let v1046 : BitVec 32 := Scalar.addi c0_i32_752 v1045
  v1046.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_287 : BitVec 32 := 26#32
  let v309 : BitVec 1 := Scalar.cmpi .ne v2 c26_i32_287
  let v310 : BitVec 32 := Scalar.extui v309
  let c0_i32_288 : BitVec 32 := 0#32
  let v311 : BitVec 1 := Scalar.cmpi .ne v310 c0_i32_288
  v311

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev59 : Nat :=
  let c0_i32_752 : BitVec 32 := 0#32
  let c26_i32_750 : BitVec 32 := 26#32
  let c1_i32_751 : BitVec 32 := 1#32
  let v1045 : BitVec 32 := Scalar.muli c26_i32_750 c1_i32_751
  let v1046 : BitVec 32 := Scalar.addi c0_i32_752 v1045
  v1046.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_289 : BitVec 32 := 27#32
  let v312 : BitVec 1 := Scalar.cmpi .ne v2 c27_i32_289
  let v313 : BitVec 32 := Scalar.extui v312
  let c0_i32_290 : BitVec 32 := 0#32
  let v314 : BitVec 1 := Scalar.cmpi .ne v313 c0_i32_290
  v314

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev60 : Nat :=
  let c0_i32_752 : BitVec 32 := 0#32
  let c27_i32_750 : BitVec 32 := 27#32
  let c1_i32_751 : BitVec 32 := 1#32
  let v1045 : BitVec 32 := Scalar.muli c27_i32_750 c1_i32_751
  let v1046 : BitVec 32 := Scalar.addi c0_i32_752 v1045
  v1046.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_291 : BitVec 32 := 28#32
  let v315 : BitVec 1 := Scalar.cmpi .ne v2 c28_i32_291
  let v316 : BitVec 32 := Scalar.extui v315
  let c0_i32_292 : BitVec 32 := 0#32
  let v317 : BitVec 1 := Scalar.cmpi .ne v316 c0_i32_292
  v317

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off58 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev61 : Nat :=
  let c0_i32_752 : BitVec 32 := 0#32
  let c28_i32_750 : BitVec 32 := 28#32
  let c1_i32_751 : BitVec 32 := 1#32
  let v1045 : BitVec 32 := Scalar.muli c28_i32_750 c1_i32_751
  let v1046 : BitVec 32 := Scalar.addi c0_i32_752 v1045
  v1046.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_293 : BitVec 32 := 29#32
  let v318 : BitVec 1 := Scalar.cmpi .ne v2 c29_i32_293
  let v319 : BitVec 32 := Scalar.extui v318
  let c0_i32_294 : BitVec 32 := 0#32
  let v320 : BitVec 1 := Scalar.cmpi .ne v319 c0_i32_294
  v320

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev62 : Nat :=
  let c0_i32_752 : BitVec 32 := 0#32
  let c29_i32_750 : BitVec 32 := 29#32
  let c1_i32_751 : BitVec 32 := 1#32
  let v1045 : BitVec 32 := Scalar.muli c29_i32_750 c1_i32_751
  let v1046 : BitVec 32 := Scalar.addi c0_i32_752 v1045
  v1046.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_295 : BitVec 32 := 30#32
  let v321 : BitVec 1 := Scalar.cmpi .ne v2 c30_i32_295
  let v322 : BitVec 32 := Scalar.extui v321
  let c0_i32_296 : BitVec 32 := 0#32
  let v323 : BitVec 1 := Scalar.cmpi .ne v322 c0_i32_296
  v323

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev63 : Nat :=
  let c0_i32_752 : BitVec 32 := 0#32
  let c30_i32_750 : BitVec 32 := 30#32
  let c1_i32_751 : BitVec 32 := 1#32
  let v1045 : BitVec 32 := Scalar.muli c30_i32_750 c1_i32_751
  let v1046 : BitVec 32 := Scalar.addi c0_i32_752 v1045
  v1046.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_297 : BitVec 32 := 31#32
  let v324 : BitVec 1 := Scalar.cmpi .ne v2 c31_i32_297
  let v325 : BitVec 32 := Scalar.extui v324
  let c0_i32_298 : BitVec 32 := 0#32
  let v326 : BitVec 1 := Scalar.cmpi .ne v325 c0_i32_298
  v326

def k0_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off64 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  let c0_i32_755 : BitVec 32 := 0#32
  ![v2.toNat, 0, 0, 0]
def k0_dev64 : Nat :=
  let c0_i32_752 : BitVec 32 := 0#32
  let c31_i32_750 : BitVec 32 := 31#32
  let c1_i32_751 : BitVec 32 := 1#32
  let v1045 : BitVec 32 := Scalar.muli c31_i32_750 c1_i32_751
  let v1046 : BitVec 32 := Scalar.addi c0_i32_752 v1045
  v1046.toNat
def k0_off65 (d0 : Dev nD) : Fin 3 → Nat :=
  let c0_364 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_363 : BitVec 32 := 16#32
  let v423 : BitVec 32 := Scalar.muli v2 c16_i32_363
  let v424 : Index := Scalar.indexCast v423
  let c0_365 : Index := 0#32
  ![0, v424.toNat, 0]
def k0_off66 (d0 : Dev nD) : Fin 3 → Nat :=
  let c0_555 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_554 : BitVec 32 := 16#32
  let v752 : BitVec 32 := Scalar.muli v2 c16_i32_554
  let v753 : Index := Scalar.indexCast v752
  let c0_556 : Index := 0#32
  ![0, v753.toNat, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_557 : BitVec 32 := 0#32
  let v757 : BitVec 1 := Scalar.cmpi .ne v2 c0_i32_557
  let v758 : BitVec 32 := Scalar.extui v757
  let c0_i32_558 : BitVec 32 := 0#32
  let v759 : BitVec 1 := Scalar.cmpi .ne v758 c0_i32_558
  v759

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev65 : Nat :=
  let c0_i32_756 : BitVec 32 := 0#32
  let c0_i32_754 : BitVec 32 := 0#32
  let c1_i32_755 : BitVec 32 := 1#32
  let v1047 : BitVec 32 := Scalar.muli c0_i32_754 c1_i32_755
  let v1048 : BitVec 32 := Scalar.addi c0_i32_756 v1047
  v1048.toNat
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_559 : BitVec 32 := 1#32
  let v760 : BitVec 1 := Scalar.cmpi .ne v2 c1_i32_559
  let v761 : BitVec 32 := Scalar.extui v760
  let c0_i32_560 : BitVec 32 := 0#32
  let v762 : BitVec 1 := Scalar.cmpi .ne v761 c0_i32_560
  v762

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off70 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev66 : Nat :=
  let c0_i32_756 : BitVec 32 := 0#32
  let c1_i32_754 : BitVec 32 := 1#32
  let c1_i32_755 : BitVec 32 := 1#32
  let v1047 : BitVec 32 := Scalar.muli c1_i32_754 c1_i32_755
  let v1048 : BitVec 32 := Scalar.addi c0_i32_756 v1047
  v1048.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_561 : BitVec 32 := 2#32
  let v763 : BitVec 1 := Scalar.cmpi .ne v2 c2_i32_561
  let v764 : BitVec 32 := Scalar.extui v763
  let c0_i32_562 : BitVec 32 := 0#32
  let v765 : BitVec 1 := Scalar.cmpi .ne v764 c0_i32_562
  v765

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev67 : Nat :=
  let c0_i32_756 : BitVec 32 := 0#32
  let c2_i32_754 : BitVec 32 := 2#32
  let c1_i32_755 : BitVec 32 := 1#32
  let v1047 : BitVec 32 := Scalar.muli c2_i32_754 c1_i32_755
  let v1048 : BitVec 32 := Scalar.addi c0_i32_756 v1047
  v1048.toNat
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_563 : BitVec 32 := 3#32
  let v766 : BitVec 1 := Scalar.cmpi .ne v2 c3_i32_563
  let v767 : BitVec 32 := Scalar.extui v766
  let c0_i32_564 : BitVec 32 := 0#32
  let v768 : BitVec 1 := Scalar.cmpi .ne v767 c0_i32_564
  v768

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev68 : Nat :=
  let c0_i32_756 : BitVec 32 := 0#32
  let c3_i32_754 : BitVec 32 := 3#32
  let c1_i32_755 : BitVec 32 := 1#32
  let v1047 : BitVec 32 := Scalar.muli c3_i32_754 c1_i32_755
  let v1048 : BitVec 32 := Scalar.addi c0_i32_756 v1047
  v1048.toNat
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_565 : BitVec 32 := 4#32
  let v769 : BitVec 1 := Scalar.cmpi .ne v2 c4_i32_565
  let v770 : BitVec 32 := Scalar.extui v769
  let c0_i32_566 : BitVec 32 := 0#32
  let v771 : BitVec 1 := Scalar.cmpi .ne v770 c0_i32_566
  v771

def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off76 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev69 : Nat :=
  let c0_i32_756 : BitVec 32 := 0#32
  let c4_i32_754 : BitVec 32 := 4#32
  let c1_i32_755 : BitVec 32 := 1#32
  let v1047 : BitVec 32 := Scalar.muli c4_i32_754 c1_i32_755
  let v1048 : BitVec 32 := Scalar.addi c0_i32_756 v1047
  v1048.toNat
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_567 : BitVec 32 := 5#32
  let v772 : BitVec 1 := Scalar.cmpi .ne v2 c5_i32_567
  let v773 : BitVec 32 := Scalar.extui v772
  let c0_i32_568 : BitVec 32 := 0#32
  let v774 : BitVec 1 := Scalar.cmpi .ne v773 c0_i32_568
  v774

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev70 : Nat :=
  let c0_i32_756 : BitVec 32 := 0#32
  let c5_i32_754 : BitVec 32 := 5#32
  let c1_i32_755 : BitVec 32 := 1#32
  let v1047 : BitVec 32 := Scalar.muli c5_i32_754 c1_i32_755
  let v1048 : BitVec 32 := Scalar.addi c0_i32_756 v1047
  v1048.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_569 : BitVec 32 := 6#32
  let v775 : BitVec 1 := Scalar.cmpi .ne v2 c6_i32_569
  let v776 : BitVec 32 := Scalar.extui v775
  let c0_i32_570 : BitVec 32 := 0#32
  let v777 : BitVec 1 := Scalar.cmpi .ne v776 c0_i32_570
  v777

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev71 : Nat :=
  let c0_i32_756 : BitVec 32 := 0#32
  let c6_i32_754 : BitVec 32 := 6#32
  let c1_i32_755 : BitVec 32 := 1#32
  let v1047 : BitVec 32 := Scalar.muli c6_i32_754 c1_i32_755
  let v1048 : BitVec 32 := Scalar.addi c0_i32_756 v1047
  v1048.toNat
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_571 : BitVec 32 := 7#32
  let v778 : BitVec 1 := Scalar.cmpi .ne v2 c7_i32_571
  let v779 : BitVec 32 := Scalar.extui v778
  let c0_i32_572 : BitVec 32 := 0#32
  let v780 : BitVec 1 := Scalar.cmpi .ne v779 c0_i32_572
  v780

def k0_off81 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off82 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev72 : Nat :=
  let c0_i32_756 : BitVec 32 := 0#32
  let c7_i32_754 : BitVec 32 := 7#32
  let c1_i32_755 : BitVec 32 := 1#32
  let v1047 : BitVec 32 := Scalar.muli c7_i32_754 c1_i32_755
  let v1048 : BitVec 32 := Scalar.addi c0_i32_756 v1047
  v1048.toNat
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_573 : BitVec 32 := 8#32
  let v781 : BitVec 1 := Scalar.cmpi .ne v2 c8_i32_573
  let v782 : BitVec 32 := Scalar.extui v781
  let c0_i32_574 : BitVec 32 := 0#32
  let v783 : BitVec 1 := Scalar.cmpi .ne v782 c0_i32_574
  v783

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev73 : Nat :=
  let c0_i32_756 : BitVec 32 := 0#32
  let c8_i32_754 : BitVec 32 := 8#32
  let c1_i32_755 : BitVec 32 := 1#32
  let v1047 : BitVec 32 := Scalar.muli c8_i32_754 c1_i32_755
  let v1048 : BitVec 32 := Scalar.addi c0_i32_756 v1047
  v1048.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_575 : BitVec 32 := 9#32
  let v784 : BitVec 1 := Scalar.cmpi .ne v2 c9_i32_575
  let v785 : BitVec 32 := Scalar.extui v784
  let c0_i32_576 : BitVec 32 := 0#32
  let v786 : BitVec 1 := Scalar.cmpi .ne v785 c0_i32_576
  v786

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev74 : Nat :=
  let c0_i32_756 : BitVec 32 := 0#32
  let c9_i32_754 : BitVec 32 := 9#32
  let c1_i32_755 : BitVec 32 := 1#32
  let v1047 : BitVec 32 := Scalar.muli c9_i32_754 c1_i32_755
  let v1048 : BitVec 32 := Scalar.addi c0_i32_756 v1047
  v1048.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_577 : BitVec 32 := 10#32
  let v787 : BitVec 1 := Scalar.cmpi .ne v2 c10_i32_577
  let v788 : BitVec 32 := Scalar.extui v787
  let c0_i32_578 : BitVec 32 := 0#32
  let v789 : BitVec 1 := Scalar.cmpi .ne v788 c0_i32_578
  v789

def k0_off87 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off88 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev75 : Nat :=
  let c0_i32_756 : BitVec 32 := 0#32
  let c10_i32_754 : BitVec 32 := 10#32
  let c1_i32_755 : BitVec 32 := 1#32
  let v1047 : BitVec 32 := Scalar.muli c10_i32_754 c1_i32_755
  let v1048 : BitVec 32 := Scalar.addi c0_i32_756 v1047
  v1048.toNat
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_579 : BitVec 32 := 11#32
  let v790 : BitVec 1 := Scalar.cmpi .ne v2 c11_i32_579
  let v791 : BitVec 32 := Scalar.extui v790
  let c0_i32_580 : BitVec 32 := 0#32
  let v792 : BitVec 1 := Scalar.cmpi .ne v791 c0_i32_580
  v792

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev76 : Nat :=
  let c0_i32_756 : BitVec 32 := 0#32
  let c11_i32_754 : BitVec 32 := 11#32
  let c1_i32_755 : BitVec 32 := 1#32
  let v1047 : BitVec 32 := Scalar.muli c11_i32_754 c1_i32_755
  let v1048 : BitVec 32 := Scalar.addi c0_i32_756 v1047
  v1048.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_581 : BitVec 32 := 12#32
  let v793 : BitVec 1 := Scalar.cmpi .ne v2 c12_i32_581
  let v794 : BitVec 32 := Scalar.extui v793
  let c0_i32_582 : BitVec 32 := 0#32
  let v795 : BitVec 1 := Scalar.cmpi .ne v794 c0_i32_582
  v795

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev77 : Nat :=
  let c0_i32_756 : BitVec 32 := 0#32
  let c12_i32_754 : BitVec 32 := 12#32
  let c1_i32_755 : BitVec 32 := 1#32
  let v1047 : BitVec 32 := Scalar.muli c12_i32_754 c1_i32_755
  let v1048 : BitVec 32 := Scalar.addi c0_i32_756 v1047
  v1048.toNat
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_583 : BitVec 32 := 13#32
  let v796 : BitVec 1 := Scalar.cmpi .ne v2 c13_i32_583
  let v797 : BitVec 32 := Scalar.extui v796
  let c0_i32_584 : BitVec 32 := 0#32
  let v798 : BitVec 1 := Scalar.cmpi .ne v797 c0_i32_584
  v798

def k0_off93 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off94 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev78 : Nat :=
  let c0_i32_756 : BitVec 32 := 0#32
  let c13_i32_754 : BitVec 32 := 13#32
  let c1_i32_755 : BitVec 32 := 1#32
  let v1047 : BitVec 32 := Scalar.muli c13_i32_754 c1_i32_755
  let v1048 : BitVec 32 := Scalar.addi c0_i32_756 v1047
  v1048.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_585 : BitVec 32 := 14#32
  let v799 : BitVec 1 := Scalar.cmpi .ne v2 c14_i32_585
  let v800 : BitVec 32 := Scalar.extui v799
  let c0_i32_586 : BitVec 32 := 0#32
  let v801 : BitVec 1 := Scalar.cmpi .ne v800 c0_i32_586
  v801

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev79 : Nat :=
  let c0_i32_756 : BitVec 32 := 0#32
  let c14_i32_754 : BitVec 32 := 14#32
  let c1_i32_755 : BitVec 32 := 1#32
  let v1047 : BitVec 32 := Scalar.muli c14_i32_754 c1_i32_755
  let v1048 : BitVec 32 := Scalar.addi c0_i32_756 v1047
  v1048.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_587 : BitVec 32 := 15#32
  let v802 : BitVec 1 := Scalar.cmpi .ne v2 c15_i32_587
  let v803 : BitVec 32 := Scalar.extui v802
  let c0_i32_588 : BitVec 32 := 0#32
  let v804 : BitVec 1 := Scalar.cmpi .ne v803 c0_i32_588
  v804

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev80 : Nat :=
  let c0_i32_756 : BitVec 32 := 0#32
  let c15_i32_754 : BitVec 32 := 15#32
  let c1_i32_755 : BitVec 32 := 1#32
  let v1047 : BitVec 32 := Scalar.muli c15_i32_754 c1_i32_755
  let v1048 : BitVec 32 := Scalar.addi c0_i32_756 v1047
  v1048.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_589 : BitVec 32 := 16#32
  let v805 : BitVec 1 := Scalar.cmpi .ne v2 c16_i32_589
  let v806 : BitVec 32 := Scalar.extui v805
  let c0_i32_590 : BitVec 32 := 0#32
  let v807 : BitVec 1 := Scalar.cmpi .ne v806 c0_i32_590
  v807

def k0_off99 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off100 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev81 : Nat :=
  let c0_i32_756 : BitVec 32 := 0#32
  let c16_i32_754 : BitVec 32 := 16#32
  let c1_i32_755 : BitVec 32 := 1#32
  let v1047 : BitVec 32 := Scalar.muli c16_i32_754 c1_i32_755
  let v1048 : BitVec 32 := Scalar.addi c0_i32_756 v1047
  v1048.toNat
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_591 : BitVec 32 := 17#32
  let v808 : BitVec 1 := Scalar.cmpi .ne v2 c17_i32_591
  let v809 : BitVec 32 := Scalar.extui v808
  let c0_i32_592 : BitVec 32 := 0#32
  let v810 : BitVec 1 := Scalar.cmpi .ne v809 c0_i32_592
  v810

def k0_off101 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off102 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev82 : Nat :=
  let c0_i32_756 : BitVec 32 := 0#32
  let c17_i32_754 : BitVec 32 := 17#32
  let c1_i32_755 : BitVec 32 := 1#32
  let v1047 : BitVec 32 := Scalar.muli c17_i32_754 c1_i32_755
  let v1048 : BitVec 32 := Scalar.addi c0_i32_756 v1047
  v1048.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_593 : BitVec 32 := 18#32
  let v811 : BitVec 1 := Scalar.cmpi .ne v2 c18_i32_593
  let v812 : BitVec 32 := Scalar.extui v811
  let c0_i32_594 : BitVec 32 := 0#32
  let v813 : BitVec 1 := Scalar.cmpi .ne v812 c0_i32_594
  v813

def k0_off103 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off104 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev83 : Nat :=
  let c0_i32_756 : BitVec 32 := 0#32
  let c18_i32_754 : BitVec 32 := 18#32
  let c1_i32_755 : BitVec 32 := 1#32
  let v1047 : BitVec 32 := Scalar.muli c18_i32_754 c1_i32_755
  let v1048 : BitVec 32 := Scalar.addi c0_i32_756 v1047
  v1048.toNat
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_595 : BitVec 32 := 19#32
  let v814 : BitVec 1 := Scalar.cmpi .ne v2 c19_i32_595
  let v815 : BitVec 32 := Scalar.extui v814
  let c0_i32_596 : BitVec 32 := 0#32
  let v816 : BitVec 1 := Scalar.cmpi .ne v815 c0_i32_596
  v816

def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev84 : Nat :=
  let c0_i32_756 : BitVec 32 := 0#32
  let c19_i32_754 : BitVec 32 := 19#32
  let c1_i32_755 : BitVec 32 := 1#32
  let v1047 : BitVec 32 := Scalar.muli c19_i32_754 c1_i32_755
  let v1048 : BitVec 32 := Scalar.addi c0_i32_756 v1047
  v1048.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_597 : BitVec 32 := 20#32
  let v817 : BitVec 1 := Scalar.cmpi .ne v2 c20_i32_597
  let v818 : BitVec 32 := Scalar.extui v817
  let c0_i32_598 : BitVec 32 := 0#32
  let v819 : BitVec 1 := Scalar.cmpi .ne v818 c0_i32_598
  v819

def k0_off107 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off108 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev85 : Nat :=
  let c0_i32_756 : BitVec 32 := 0#32
  let c20_i32_754 : BitVec 32 := 20#32
  let c1_i32_755 : BitVec 32 := 1#32
  let v1047 : BitVec 32 := Scalar.muli c20_i32_754 c1_i32_755
  let v1048 : BitVec 32 := Scalar.addi c0_i32_756 v1047
  v1048.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_599 : BitVec 32 := 21#32
  let v820 : BitVec 1 := Scalar.cmpi .ne v2 c21_i32_599
  let v821 : BitVec 32 := Scalar.extui v820
  let c0_i32_600 : BitVec 32 := 0#32
  let v822 : BitVec 1 := Scalar.cmpi .ne v821 c0_i32_600
  v822

def k0_off109 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off110 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev86 : Nat :=
  let c0_i32_756 : BitVec 32 := 0#32
  let c21_i32_754 : BitVec 32 := 21#32
  let c1_i32_755 : BitVec 32 := 1#32
  let v1047 : BitVec 32 := Scalar.muli c21_i32_754 c1_i32_755
  let v1048 : BitVec 32 := Scalar.addi c0_i32_756 v1047
  v1048.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_601 : BitVec 32 := 22#32
  let v823 : BitVec 1 := Scalar.cmpi .ne v2 c22_i32_601
  let v824 : BitVec 32 := Scalar.extui v823
  let c0_i32_602 : BitVec 32 := 0#32
  let v825 : BitVec 1 := Scalar.cmpi .ne v824 c0_i32_602
  v825

def k0_off111 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off112 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev87 : Nat :=
  let c0_i32_756 : BitVec 32 := 0#32
  let c22_i32_754 : BitVec 32 := 22#32
  let c1_i32_755 : BitVec 32 := 1#32
  let v1047 : BitVec 32 := Scalar.muli c22_i32_754 c1_i32_755
  let v1048 : BitVec 32 := Scalar.addi c0_i32_756 v1047
  v1048.toNat
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_603 : BitVec 32 := 23#32
  let v826 : BitVec 1 := Scalar.cmpi .ne v2 c23_i32_603
  let v827 : BitVec 32 := Scalar.extui v826
  let c0_i32_604 : BitVec 32 := 0#32
  let v828 : BitVec 1 := Scalar.cmpi .ne v827 c0_i32_604
  v828

def k0_off113 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off114 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev88 : Nat :=
  let c0_i32_756 : BitVec 32 := 0#32
  let c23_i32_754 : BitVec 32 := 23#32
  let c1_i32_755 : BitVec 32 := 1#32
  let v1047 : BitVec 32 := Scalar.muli c23_i32_754 c1_i32_755
  let v1048 : BitVec 32 := Scalar.addi c0_i32_756 v1047
  v1048.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_605 : BitVec 32 := 24#32
  let v829 : BitVec 1 := Scalar.cmpi .ne v2 c24_i32_605
  let v830 : BitVec 32 := Scalar.extui v829
  let c0_i32_606 : BitVec 32 := 0#32
  let v831 : BitVec 1 := Scalar.cmpi .ne v830 c0_i32_606
  v831

def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev89 : Nat :=
  let c0_i32_756 : BitVec 32 := 0#32
  let c24_i32_754 : BitVec 32 := 24#32
  let c1_i32_755 : BitVec 32 := 1#32
  let v1047 : BitVec 32 := Scalar.muli c24_i32_754 c1_i32_755
  let v1048 : BitVec 32 := Scalar.addi c0_i32_756 v1047
  v1048.toNat
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_607 : BitVec 32 := 25#32
  let v832 : BitVec 1 := Scalar.cmpi .ne v2 c25_i32_607
  let v833 : BitVec 32 := Scalar.extui v832
  let c0_i32_608 : BitVec 32 := 0#32
  let v834 : BitVec 1 := Scalar.cmpi .ne v833 c0_i32_608
  v834

def k0_off117 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off118 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev90 : Nat :=
  let c0_i32_756 : BitVec 32 := 0#32
  let c25_i32_754 : BitVec 32 := 25#32
  let c1_i32_755 : BitVec 32 := 1#32
  let v1047 : BitVec 32 := Scalar.muli c25_i32_754 c1_i32_755
  let v1048 : BitVec 32 := Scalar.addi c0_i32_756 v1047
  v1048.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_609 : BitVec 32 := 26#32
  let v835 : BitVec 1 := Scalar.cmpi .ne v2 c26_i32_609
  let v836 : BitVec 32 := Scalar.extui v835
  let c0_i32_610 : BitVec 32 := 0#32
  let v837 : BitVec 1 := Scalar.cmpi .ne v836 c0_i32_610
  v837

def k0_off119 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off120 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev91 : Nat :=
  let c0_i32_756 : BitVec 32 := 0#32
  let c26_i32_754 : BitVec 32 := 26#32
  let c1_i32_755 : BitVec 32 := 1#32
  let v1047 : BitVec 32 := Scalar.muli c26_i32_754 c1_i32_755
  let v1048 : BitVec 32 := Scalar.addi c0_i32_756 v1047
  v1048.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_611 : BitVec 32 := 27#32
  let v838 : BitVec 1 := Scalar.cmpi .ne v2 c27_i32_611
  let v839 : BitVec 32 := Scalar.extui v838
  let c0_i32_612 : BitVec 32 := 0#32
  let v840 : BitVec 1 := Scalar.cmpi .ne v839 c0_i32_612
  v840

def k0_off121 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off122 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev92 : Nat :=
  let c0_i32_756 : BitVec 32 := 0#32
  let c27_i32_754 : BitVec 32 := 27#32
  let c1_i32_755 : BitVec 32 := 1#32
  let v1047 : BitVec 32 := Scalar.muli c27_i32_754 c1_i32_755
  let v1048 : BitVec 32 := Scalar.addi c0_i32_756 v1047
  v1048.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_613 : BitVec 32 := 28#32
  let v841 : BitVec 1 := Scalar.cmpi .ne v2 c28_i32_613
  let v842 : BitVec 32 := Scalar.extui v841
  let c0_i32_614 : BitVec 32 := 0#32
  let v843 : BitVec 1 := Scalar.cmpi .ne v842 c0_i32_614
  v843

def k0_off123 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off124 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev93 : Nat :=
  let c0_i32_756 : BitVec 32 := 0#32
  let c28_i32_754 : BitVec 32 := 28#32
  let c1_i32_755 : BitVec 32 := 1#32
  let v1047 : BitVec 32 := Scalar.muli c28_i32_754 c1_i32_755
  let v1048 : BitVec 32 := Scalar.addi c0_i32_756 v1047
  v1048.toNat
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_615 : BitVec 32 := 29#32
  let v844 : BitVec 1 := Scalar.cmpi .ne v2 c29_i32_615
  let v845 : BitVec 32 := Scalar.extui v844
  let c0_i32_616 : BitVec 32 := 0#32
  let v846 : BitVec 1 := Scalar.cmpi .ne v845 c0_i32_616
  v846

def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev94 : Nat :=
  let c0_i32_756 : BitVec 32 := 0#32
  let c29_i32_754 : BitVec 32 := 29#32
  let c1_i32_755 : BitVec 32 := 1#32
  let v1047 : BitVec 32 := Scalar.muli c29_i32_754 c1_i32_755
  let v1048 : BitVec 32 := Scalar.addi c0_i32_756 v1047
  v1048.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_617 : BitVec 32 := 30#32
  let v847 : BitVec 1 := Scalar.cmpi .ne v2 c30_i32_617
  let v848 : BitVec 32 := Scalar.extui v847
  let c0_i32_618 : BitVec 32 := 0#32
  let v849 : BitVec 1 := Scalar.cmpi .ne v848 c0_i32_618
  v849

def k0_off127 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off128 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev95 : Nat :=
  let c0_i32_756 : BitVec 32 := 0#32
  let c30_i32_754 : BitVec 32 := 30#32
  let c1_i32_755 : BitVec 32 := 1#32
  let v1047 : BitVec 32 := Scalar.muli c30_i32_754 c1_i32_755
  let v1048 : BitVec 32 := Scalar.addi c0_i32_756 v1047
  v1048.toNat
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_619 : BitVec 32 := 31#32
  let v850 : BitVec 1 := Scalar.cmpi .ne v2 c31_i32_619
  let v851 : BitVec 32 := Scalar.extui v850
  let c0_i32_620 : BitVec 32 := 0#32
  let v852 : BitVec 1 := Scalar.cmpi .ne v851 c0_i32_620
  v852

def k0_off129 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off130 (d0 : Dev nD) : Fin 3 → Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_750 : BitVec 32 := 16#32
  let v1046 : BitVec 32 := Scalar.muli v2 c16_i32_750
  let c0_i32_757 : BitVec 32 := 0#32
  ![0, v1046.toNat, 0]
def k0_dev96 : Nat :=
  let c0_i32_756 : BitVec 32 := 0#32
  let c31_i32_754 : BitVec 32 := 31#32
  let c1_i32_755 : BitVec 32 := 1#32
  let v1047 : BitVec 32 := Scalar.muli c31_i32_754 c1_i32_755
  let v1048 : BitVec 32 := Scalar.addi c0_i32_756 v1047
  v1048.toNat
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_685 : BitVec 32 := 0#32
  let v949 : BitVec 1 := Scalar.cmpi .ne v2 c0_i32_685
  let v950 : BitVec 32 := Scalar.extui v949
  let c0_i32_686 : BitVec 32 := 0#32
  let v951 : BitVec 1 := Scalar.cmpi .ne v950 c0_i32_686
  v951

def k0_off131 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_755 : BitVec 32 := 0#32
  let c0_i32_756 : BitVec 32 := 0#32
  let c0_i32_757 : BitVec 32 := 0#32
  ![v2.toNat, 0, 0, 0]
def k0_off132 (d0 : Dev nD) : Fin 3 → Nat :=
  let c0_i32_761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_758 : BitVec 32 := 16#32
  let v1050 : BitVec 32 := Scalar.muli v2 c16_i32_758
  let c0_i32_765 : BitVec 32 := 0#32
  ![0, v1050.toNat, 0]
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_687 : BitVec 32 := 1#32
  let v952 : BitVec 1 := Scalar.cmpi .ne v2 c1_i32_687
  let v953 : BitVec 32 := Scalar.extui v952
  let c0_i32_688 : BitVec 32 := 0#32
  let v954 : BitVec 1 := Scalar.cmpi .ne v953 c0_i32_688
  v954

def k0_off133 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_755 : BitVec 32 := 0#32
  let c0_i32_756 : BitVec 32 := 0#32
  let c0_i32_757 : BitVec 32 := 0#32
  ![v2.toNat, 0, 0, 0]
def k0_off134 (d0 : Dev nD) : Fin 3 → Nat :=
  let c0_i32_761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_758 : BitVec 32 := 16#32
  let v1050 : BitVec 32 := Scalar.muli v2 c16_i32_758
  let c0_i32_765 : BitVec 32 := 0#32
  ![0, v1050.toNat, 0]
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_689 : BitVec 32 := 2#32
  let v955 : BitVec 1 := Scalar.cmpi .ne v2 c2_i32_689
  let v956 : BitVec 32 := Scalar.extui v955
  let c0_i32_690 : BitVec 32 := 0#32
  let v957 : BitVec 1 := Scalar.cmpi .ne v956 c0_i32_690
  v957

def k0_off135 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_755 : BitVec 32 := 0#32
  let c0_i32_756 : BitVec 32 := 0#32
  let c0_i32_757 : BitVec 32 := 0#32
  ![v2.toNat, 0, 0, 0]
def k0_off136 (d0 : Dev nD) : Fin 3 → Nat :=
  let c0_i32_761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_758 : BitVec 32 := 16#32
  let v1050 : BitVec 32 := Scalar.muli v2 c16_i32_758
  let c0_i32_765 : BitVec 32 := 0#32
  ![0, v1050.toNat, 0]
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_691 : BitVec 32 := 3#32
  let v958 : BitVec 1 := Scalar.cmpi .ne v2 c3_i32_691
  let v959 : BitVec 32 := Scalar.extui v958
  let c0_i32_692 : BitVec 32 := 0#32
  let v960 : BitVec 1 := Scalar.cmpi .ne v959 c0_i32_692
  v960

def k0_off137 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off138 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_693 : BitVec 32 := 4#32
  let v961 : BitVec 1 := Scalar.cmpi .ne v2 c4_i32_693
  let v962 : BitVec 32 := Scalar.extui v961
  let c0_i32_694 : BitVec 32 := 0#32
  let v963 : BitVec 1 := Scalar.cmpi .ne v962 c0_i32_694
  v963

def k0_off139 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off140 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_695 : BitVec 32 := 5#32
  let v964 : BitVec 1 := Scalar.cmpi .ne v2 c5_i32_695
  let v965 : BitVec 32 := Scalar.extui v964
  let c0_i32_696 : BitVec 32 := 0#32
  let v966 : BitVec 1 := Scalar.cmpi .ne v965 c0_i32_696
  v966

def k0_off141 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off142 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_697 : BitVec 32 := 6#32
  let v967 : BitVec 1 := Scalar.cmpi .ne v2 c6_i32_697
  let v968 : BitVec 32 := Scalar.extui v967
  let c0_i32_698 : BitVec 32 := 0#32
  let v969 : BitVec 1 := Scalar.cmpi .ne v968 c0_i32_698
  v969

def k0_off143 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off144 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_699 : BitVec 32 := 7#32
  let v970 : BitVec 1 := Scalar.cmpi .ne v2 c7_i32_699
  let v971 : BitVec 32 := Scalar.extui v970
  let c0_i32_700 : BitVec 32 := 0#32
  let v972 : BitVec 1 := Scalar.cmpi .ne v971 c0_i32_700
  v972

def k0_off145 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off146 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_701 : BitVec 32 := 8#32
  let v973 : BitVec 1 := Scalar.cmpi .ne v2 c8_i32_701
  let v974 : BitVec 32 := Scalar.extui v973
  let c0_i32_702 : BitVec 32 := 0#32
  let v975 : BitVec 1 := Scalar.cmpi .ne v974 c0_i32_702
  v975

def k0_off147 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off148 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_703 : BitVec 32 := 9#32
  let v976 : BitVec 1 := Scalar.cmpi .ne v2 c9_i32_703
  let v977 : BitVec 32 := Scalar.extui v976
  let c0_i32_704 : BitVec 32 := 0#32
  let v978 : BitVec 1 := Scalar.cmpi .ne v977 c0_i32_704
  v978

def k0_off149 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off150 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_705 : BitVec 32 := 10#32
  let v979 : BitVec 1 := Scalar.cmpi .ne v2 c10_i32_705
  let v980 : BitVec 32 := Scalar.extui v979
  let c0_i32_706 : BitVec 32 := 0#32
  let v981 : BitVec 1 := Scalar.cmpi .ne v980 c0_i32_706
  v981

def k0_off151 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off152 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_707 : BitVec 32 := 11#32
  let v982 : BitVec 1 := Scalar.cmpi .ne v2 c11_i32_707
  let v983 : BitVec 32 := Scalar.extui v982
  let c0_i32_708 : BitVec 32 := 0#32
  let v984 : BitVec 1 := Scalar.cmpi .ne v983 c0_i32_708
  v984

def k0_off153 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off154 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_709 : BitVec 32 := 12#32
  let v985 : BitVec 1 := Scalar.cmpi .ne v2 c12_i32_709
  let v986 : BitVec 32 := Scalar.extui v985
  let c0_i32_710 : BitVec 32 := 0#32
  let v987 : BitVec 1 := Scalar.cmpi .ne v986 c0_i32_710
  v987

def k0_off155 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off156 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_711 : BitVec 32 := 13#32
  let v988 : BitVec 1 := Scalar.cmpi .ne v2 c13_i32_711
  let v989 : BitVec 32 := Scalar.extui v988
  let c0_i32_712 : BitVec 32 := 0#32
  let v990 : BitVec 1 := Scalar.cmpi .ne v989 c0_i32_712
  v990

def k0_off157 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off158 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_713 : BitVec 32 := 14#32
  let v991 : BitVec 1 := Scalar.cmpi .ne v2 c14_i32_713
  let v992 : BitVec 32 := Scalar.extui v991
  let c0_i32_714 : BitVec 32 := 0#32
  let v993 : BitVec 1 := Scalar.cmpi .ne v992 c0_i32_714
  v993

def k0_off159 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off160 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_715 : BitVec 32 := 15#32
  let v994 : BitVec 1 := Scalar.cmpi .ne v2 c15_i32_715
  let v995 : BitVec 32 := Scalar.extui v994
  let c0_i32_716 : BitVec 32 := 0#32
  let v996 : BitVec 1 := Scalar.cmpi .ne v995 c0_i32_716
  v996

def k0_off161 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off162 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_717 : BitVec 32 := 16#32
  let v997 : BitVec 1 := Scalar.cmpi .ne v2 c16_i32_717
  let v998 : BitVec 32 := Scalar.extui v997
  let c0_i32_718 : BitVec 32 := 0#32
  let v999 : BitVec 1 := Scalar.cmpi .ne v998 c0_i32_718
  v999

def k0_off163 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off164 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_719 : BitVec 32 := 17#32
  let v1000 : BitVec 1 := Scalar.cmpi .ne v2 c17_i32_719
  let v1001 : BitVec 32 := Scalar.extui v1000
  let c0_i32_720 : BitVec 32 := 0#32
  let v1002 : BitVec 1 := Scalar.cmpi .ne v1001 c0_i32_720
  v1002

def k0_off165 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off166 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_721 : BitVec 32 := 18#32
  let v1003 : BitVec 1 := Scalar.cmpi .ne v2 c18_i32_721
  let v1004 : BitVec 32 := Scalar.extui v1003
  let c0_i32_722 : BitVec 32 := 0#32
  let v1005 : BitVec 1 := Scalar.cmpi .ne v1004 c0_i32_722
  v1005

def k0_off167 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off168 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_723 : BitVec 32 := 19#32
  let v1006 : BitVec 1 := Scalar.cmpi .ne v2 c19_i32_723
  let v1007 : BitVec 32 := Scalar.extui v1006
  let c0_i32_724 : BitVec 32 := 0#32
  let v1008 : BitVec 1 := Scalar.cmpi .ne v1007 c0_i32_724
  v1008

def k0_off169 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off170 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_725 : BitVec 32 := 20#32
  let v1009 : BitVec 1 := Scalar.cmpi .ne v2 c20_i32_725
  let v1010 : BitVec 32 := Scalar.extui v1009
  let c0_i32_726 : BitVec 32 := 0#32
  let v1011 : BitVec 1 := Scalar.cmpi .ne v1010 c0_i32_726
  v1011

def k0_off171 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off172 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_727 : BitVec 32 := 21#32
  let v1012 : BitVec 1 := Scalar.cmpi .ne v2 c21_i32_727
  let v1013 : BitVec 32 := Scalar.extui v1012
  let c0_i32_728 : BitVec 32 := 0#32
  let v1014 : BitVec 1 := Scalar.cmpi .ne v1013 c0_i32_728
  v1014

def k0_off173 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off174 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_729 : BitVec 32 := 22#32
  let v1015 : BitVec 1 := Scalar.cmpi .ne v2 c22_i32_729
  let v1016 : BitVec 32 := Scalar.extui v1015
  let c0_i32_730 : BitVec 32 := 0#32
  let v1017 : BitVec 1 := Scalar.cmpi .ne v1016 c0_i32_730
  v1017

def k0_off175 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off176 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_731 : BitVec 32 := 23#32
  let v1018 : BitVec 1 := Scalar.cmpi .ne v2 c23_i32_731
  let v1019 : BitVec 32 := Scalar.extui v1018
  let c0_i32_732 : BitVec 32 := 0#32
  let v1020 : BitVec 1 := Scalar.cmpi .ne v1019 c0_i32_732
  v1020

def k0_off177 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off178 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_733 : BitVec 32 := 24#32
  let v1021 : BitVec 1 := Scalar.cmpi .ne v2 c24_i32_733
  let v1022 : BitVec 32 := Scalar.extui v1021
  let c0_i32_734 : BitVec 32 := 0#32
  let v1023 : BitVec 1 := Scalar.cmpi .ne v1022 c0_i32_734
  v1023

def k0_off179 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off180 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_735 : BitVec 32 := 25#32
  let v1024 : BitVec 1 := Scalar.cmpi .ne v2 c25_i32_735
  let v1025 : BitVec 32 := Scalar.extui v1024
  let c0_i32_736 : BitVec 32 := 0#32
  let v1026 : BitVec 1 := Scalar.cmpi .ne v1025 c0_i32_736
  v1026

def k0_off181 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off182 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_737 : BitVec 32 := 26#32
  let v1027 : BitVec 1 := Scalar.cmpi .ne v2 c26_i32_737
  let v1028 : BitVec 32 := Scalar.extui v1027
  let c0_i32_738 : BitVec 32 := 0#32
  let v1029 : BitVec 1 := Scalar.cmpi .ne v1028 c0_i32_738
  v1029

def k0_off183 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off184 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_739 : BitVec 32 := 27#32
  let v1030 : BitVec 1 := Scalar.cmpi .ne v2 c27_i32_739
  let v1031 : BitVec 32 := Scalar.extui v1030
  let c0_i32_740 : BitVec 32 := 0#32
  let v1032 : BitVec 1 := Scalar.cmpi .ne v1031 c0_i32_740
  v1032

def k0_off185 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off186 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_741 : BitVec 32 := 28#32
  let v1033 : BitVec 1 := Scalar.cmpi .ne v2 c28_i32_741
  let v1034 : BitVec 32 := Scalar.extui v1033
  let c0_i32_742 : BitVec 32 := 0#32
  let v1035 : BitVec 1 := Scalar.cmpi .ne v1034 c0_i32_742
  v1035

def k0_off187 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off188 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_743 : BitVec 32 := 29#32
  let v1036 : BitVec 1 := Scalar.cmpi .ne v2 c29_i32_743
  let v1037 : BitVec 32 := Scalar.extui v1036
  let c0_i32_744 : BitVec 32 := 0#32
  let v1038 : BitVec 1 := Scalar.cmpi .ne v1037 c0_i32_744
  v1038

def k0_off189 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off190 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_745 : BitVec 32 := 30#32
  let v1039 : BitVec 1 := Scalar.cmpi .ne v2 c30_i32_745
  let v1040 : BitVec 32 := Scalar.extui v1039
  let c0_i32_746 : BitVec 32 := 0#32
  let v1041 : BitVec 1 := Scalar.cmpi .ne v1040 c0_i32_746
  v1041

def k0_off191 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off192 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_747 : BitVec 32 := 31#32
  let v1042 : BitVec 1 := Scalar.cmpi .ne v2 c31_i32_747
  let v1043 : BitVec 32 := Scalar.extui v1042
  let c0_i32_748 : BitVec 32 := 0#32
  let v1044 : BitVec 1 := Scalar.cmpi .ne v1043 c0_i32_748
  v1044

def k0_off193 (d0 : Dev nD) : Fin 4 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_754 : BitVec 32 := 0#32
  let c0_i32_755 : BitVec 32 := 0#32
  let c0_i32_756 : BitVec 32 := 0#32
  ![v2.toNat, 0, 0, 0]
def k0_off194 (d0 : Dev nD) : Fin 3 → Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_757 : BitVec 32 := 16#32
  let v1050 : BitVec 32 := Scalar.muli v2 c16_i32_757
  let c0_i32_764 : BitVec 32 := 0#32
  ![0, v1050.toNat, 0]
abbrev stage0_0 : Fin 1 → Memref sig .tc .vmem S1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x2x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048x2x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x512x1024 : Shape := ⟨3, ![1, 512, 1024]⟩
abbrev S1024x1024 : Shape := ⟨2, ![1024, 1024]⟩
abbrev S1x65536x2x128 : Shape := ⟨4, ![1, 65536, 2, 128]⟩
abbrev S512x1024 : Shape := ⟨2, ![512, 1024]⟩
abbrev S512x8x128 : Shape := ⟨3, ![512, 8, 128]⟩
abbrev S65536x2x128 : Shape := ⟨3, ![65536, 2, 128]⟩
abbrev S65536x2x4x128 : Shape := ⟨4, ![65536, 2, 4, 128]⟩
abbrev S65536x8x128 : Shape := ⟨3, ![65536, 8, 128]⟩
abbrev S8x512x65536 : Shape := ⟨3, ![8, 512, 65536]⟩
abbrev S_ : Shape := ⟨0, ![]⟩
abbrev S8x512 : Shape := ⟨2, ![8, 512]⟩
abbrev S8x512x1 : Shape := ⟨3, ![8, 512, 1]⟩
abbrev S8x128x512 : Shape := ⟨3, ![8, 128, 512]⟩
abbrev S512x8x1 : Shape := ⟨3, ![512, 8, 1]⟩

abbrev nBuf : Space → Nat
  | .hbm => 44
  | .vmem => 0
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1024x1024, .bf16⟩
  | .hbm, ⟨3, _⟩ => ⟨S1x65536x2x128, .bf16⟩
  | .hbm, ⟨4, _⟩ => ⟨S1x65536x2x128, .bf16⟩
  | .hbm, ⟨5, _⟩ => ⟨S512x1024, .bf16⟩
  | .hbm, ⟨6, _⟩ => ⟨S512x1024, .f32⟩
  | .hbm, ⟨7, _⟩ => ⟨S1024x1024, .f32⟩
  | .hbm, ⟨8, _⟩ => ⟨S512x1024, .f32⟩
  | .hbm, ⟨9, _⟩ => ⟨S512x1024, .bf16⟩
  | .hbm, ⟨10, _⟩ => ⟨S512x8x128, .bf16⟩
  | .hbm, ⟨11, _⟩ => ⟨S512x8x128, .f32⟩
  | .hbm, ⟨12, _⟩ => ⟨S65536x2x128, .bf16⟩
  | .hbm, ⟨13, _⟩ => ⟨S65536x2x128, .f32⟩
  | .hbm, ⟨14, _⟩ => ⟨S65536x2x4x128, .f32⟩
  | .hbm, ⟨15, _⟩ => ⟨S65536x8x128, .f32⟩
  | .hbm, ⟨16, _⟩ => ⟨S65536x2x128, .bf16⟩
  | .hbm, ⟨17, _⟩ => ⟨S65536x2x128, .f32⟩
  | .hbm, ⟨18, _⟩ => ⟨S65536x2x4x128, .f32⟩
  | .hbm, ⟨19, _⟩ => ⟨S65536x8x128, .f32⟩
  | .hbm, ⟨20, _⟩ => ⟨S8x512x65536, .f32⟩
  | .hbm, ⟨21, _⟩ => ⟨S8x512x65536, .bf16⟩
  | .hbm, ⟨22, _⟩ => ⟨S8x512x65536, .f32⟩
  | .hbm, ⟨23, _⟩ => ⟨S_, .f32⟩
  | .hbm, ⟨24, _⟩ => ⟨S8x512x65536, .f32⟩
  | .hbm, ⟨25, _⟩ => ⟨S8x512x65536, .f32⟩
  | .hbm, ⟨26, _⟩ => ⟨S_, .f32⟩
  | .hbm, ⟨27, _⟩ => ⟨S8x512, .f32⟩
  | .hbm, ⟨28, _⟩ => ⟨S8x512x1, .f32⟩
  | .hbm, ⟨29, _⟩ => ⟨S8x512x65536, .f32⟩
  | .hbm, ⟨30, _⟩ => ⟨S8x512x65536, .f32⟩
  | .hbm, ⟨31, _⟩ => ⟨S8x512x65536, .f32⟩
  | .hbm, ⟨32, _⟩ => ⟨S_, .f32⟩
  | .hbm, ⟨33, _⟩ => ⟨S8x512, .f32⟩
  | .hbm, ⟨34, _⟩ => ⟨S8x512x1, .f32⟩
  | .hbm, ⟨35, _⟩ => ⟨S8x128x512, .f32⟩
  | .hbm, ⟨36, _⟩ => ⟨S512x8x128, .f32⟩
  | .hbm, ⟨37, _⟩ => ⟨S512x8x1, .f32⟩
  | .hbm, ⟨38, _⟩ => ⟨S512x8x128, .f32⟩
  | .hbm, ⟨39, _⟩ => ⟨S512x8x128, .f32⟩
  | .hbm, ⟨40, _⟩ => ⟨S512x1024, .f32⟩
  | .hbm, ⟨41, _⟩ => ⟨S1024x1024, .f32⟩
  | .hbm, ⟨42, _⟩ => ⟨S512x1024, .f32⟩
  | .hbm, ⟨43, _⟩ => ⟨S1x512x1024, .f32⟩
  | _, _ => ⟨S1x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Proof.KI.Blocks.lean ====
module

public import proofs.«01_k».proof.Proof.Gen.KernelIdeal.Points
public import proofs.«01_k».proof.Proof.Gen.KernelIdeal.Skeleton

@[expose] public section

noncomputable section

/-! The kernel's communication, one block per statement of its loops at a symbolic peer `j`. -/

namespace Cert.KernelIdeal.Body

open Idealize.ShloMosaic Idealize.ShloMosaic.TcCoe Idealize.SL.Sem Cert.KernelIdeal Cert.KernelIdeal.Gen

variable {F : FTy → Type} [FloatOps F]

/-- A kernel program returning `α`. -/
abbrev P (F : FTy → Type) [FloatOps F] (α : Type) := Prog (TpuEff nD τ sig (Elt F) Λ₀ .tc) α

/-- The device's own index, as the kernel computes it. -/
abbrev me (d : Dev nD) : BitVec 32 := Scalar.remsi (Scalar.divsi (Dev.word d) 1#32) 32#32
/-- The comparison of the own index with `j`, widened. -/
abbrev cmp (d : Dev nD) (j : ℕ) : BitVec 32 := Scalar.extui (Scalar.cmpi .ne (me d) (BitVec.ofNat 32 j))
/-- The condition "the peer `j` is not this device". -/
abbrev cnd (d : Dev nD) (j : ℕ) : BitVec 1 := Scalar.cmpi .ne (cmp d j) 0#32
/-- The peer `j` as the kernel computes it. -/
abbrev peerN (j : ℕ) : ℕ := (Scalar.addi 0#32 (Scalar.muli (BitVec.ofNat 32 j) 1#32)).toNat
theorem peerN_lt : ∀ j : Fin 32, peerN j.val < nD := by decide +kernel
theorem peerN_eq : ∀ j : Fin 32, peerN j.val = j.val := by decide +kernel
abbrev peer (j : Fin 32) : Dev nD := ⟨peerN j.val, peerN_lt j⟩
theorem cnd_iff : ∀ (d : Dev nD) (j : Fin 32), cnd d j.val = 1#1 ↔ j.val ≠ d.val := by decide +kernel

theorem inbSem : ∀ (j : Fin 32) a, (![j.val] : Fin 1 → ℕ) a + S1.size a ≤ S32.size a := by decide +kernel
theorem inbSend : ∀ (j : Fin 32) a, (![0, 16 * j.val, 0] : Fin 3 → ℕ) a + S9x16x128.size a ≤ S9x512x128.size a := by decide +kernel
theorem inbSlot : ∀ (j : Fin 32) a, (![j.val, 0, 0, 0] : Fin 4 → ℕ) a + S1x9x16x128.size a ≤ S32x9x16x128.size a := by decide +kernel
theorem inbRow : ∀ (j : Fin 32) a, (![0, 16 * j.val, 0] : Fin 3 → ℕ) a + S1x16x1024.size a ≤ S1x512x1024.size a := by decide +kernel
theorem inbOffSem : ∀ (d : Dev nD) a, (k0_off1 d) a + S1.size a ≤ S32.size a := by decide +kernel
theorem inbOffSlot : ∀ (d : Dev nD) a, (k0_off2 d) a + S1x9x16x128.size a ≤ S32x9x16x128.size a := by decide +kernel
theorem wwSend : ∀ j : Fin 32, (Rect.unit (s := S9x512x128) ![0, 16 * j.val, 0] S9x16x128.size (inbSend j)).WholeWords (EltTy.packing .bf16) := by decide +kernel
theorem wwSlot : ∀ j : Fin 32, (Rect.unit (s := S32x9x16x128) ![j.val, 0, 0, 0] S1x9x16x128.size (inbSlot j)).WholeWords (EltTy.packing .bf16) := by decide +kernel
theorem wwOffSlot : ∀ d : Dev nD, (Rect.unit (s := S32x9x16x128) (k0_off2 d) S1x9x16x128.size (inbOffSlot d)).WholeWords (EltTy.packing .bf16) := by decide +kernel

/-- The whole buffers and semaphore arrays the body works on. -/
abbrev oSend : Memref sig .tc .vmem S9x512x128 .bf16 := Memref.whole cc0_scratch0
abbrev oRecv : Memref sig .tc .vmem S32x9x16x128 .bf16 := Memref.whole cc0_scratch1
abbrev outB : Memref sig .tc .vmem S1x512x1024 .f32 := Memref.whole cc0_stg5_0

/-- Entry `j` of an array of semaphores. -/
abbrev semAt (a : DmaSems sig S32) (j : Fin 32) : DmaSem sig :=
  ((a.slice (Rect.unit (s := S32) ![j.val] S1.size (inbSem j))).squeeze S_ squeezes_S1_S_).sem
/-- The entry of the device's own index. -/
abbrev semMe (a : DmaSems sig S32) (d : Dev nD) : DmaSem sig :=
  ((a.slice (Rect.unit (s := S32) (k0_off1 d) S1.size (inbOffSem d))).squeeze S_ squeezes_S1_S_).sem
/-- Rows `16 j … 16 j + 15` of every head's partial result. -/
abbrev sendM (j : Fin 32) : Memref sig .tc .vmem S9x16x128 .bf16 :=
  oSend.slice (Rect.unit (s := S9x512x128) ![0, 16 * j.val, 0] S9x16x128.size (inbSend j)) (fun _ => rfl)
/-- Slot `j` of the receive buffer. -/
abbrev slotM (j : Fin 32) : Memref sig .tc .vmem S9x16x128 .bf16 :=
  (oRecv.slice (Rect.unit (s := S32x9x16x128) ![j.val, 0, 0, 0] S1x9x16x128.size (inbSlot j)) (fun _ => rfl)).squeeze S9x16x128 squeezes_S1x9x16x128_S9x16x128
abbrev slotMe (d : Dev nD) : Memref sig .tc .vmem S9x16x128 .bf16 :=
  (oRecv.slice (Rect.unit (s := S32x9x16x128) (k0_off2 d) S1x9x16x128.size (inbOffSlot d)) (fun _ => rfl)).squeeze S9x16x128 squeezes_S1x9x16x128_S9x16x128
/-- Rows `16 j … 16 j + 15` of the result. -/
abbrev rowM (j : Fin 32) : Memref sig .tc .vmem S16x1024 .f32 :=
  (outB.slice (Rect.unit (s := S1x512x1024) ![0, 16 * j.val, 0] S1x16x1024.size (inbRow j)) (fun _ => rfl)).squeeze S16x1024 squeezes_S1x16x1024_S16x1024
theorem inbOffRow : ∀ (d : Dev nD) a, (k0_off66 d) a + S1x16x1024.size a ≤ S1x512x1024.size a := k0_off66_inb
abbrev rowMe (d : Dev nD) : Memref sig .tc .vmem S16x1024 .f32 :=
  (outB.slice (Rect.unit (s := S1x512x1024) (k0_off66 d) S1x16x1024.size (inbOffRow d)) (fun _ => rfl)).squeeze S16x1024 squeezes_S1x16x1024_S16x1024

/-- The barrier semaphore. -/
abbrev barS : Sems sig S_ := SemArray.scalar (sig.barrier 0 rfl)
/-- The operation a block performs. -/
abbrev Eff (F : FTy → Type) [FloatOps F] := TpuEff nD τ sig (Elt F) Λ₀ .tc PUnit

/-- The copy of rows `16 j …` of the partial results into peer `j`'s slot. -/
abbrev opRS (d : Dev nD) (j : Fin 32) : Eff F :=
  .enqueueDma (sendM j) (.remote (Dev.tc (peer j)) (slotMe d) (.dma (semAt cc0_scratch2 j))) (.dma (semMe cc0_scratch3 d)) ((Memref.isWhole_whole _).wordExact_slice rfl _ (wwSend j)) (((Memref.isWhole_whole _).wordExact_slice rfl _ (wwOffSlot d)).reshape _ _) ⟨⟨rfl, Or.inl rfl⟩, trivial⟩
/-- The wait for the copy from peer `j`. -/
abbrev opWR (j : Fin 32) : Eff F :=
  .waitDma2 (semAt cc0_scratch3 j) (slotM j) (slotM j) (((Memref.isWhole_whole _).wordExact_slice rfl _ (wwSlot j)).reshape _ _) (((Memref.isWhole_whole _).wordExact_slice rfl _ (wwSlot j)).reshape _ _)
/-- The copy of the device's finished rows into peer `j`'s result. -/
abbrev opAG (d : Dev nD) (j : Fin 32) : Eff F :=
  .enqueueDma (rowMe d) (.remote (Dev.tc (peer j)) (rowMe d) (.dma (semAt cc0_scratch4 j))) (.dma (semMe cc0_scratch5 d)) ((View.wordExact_bits rfl).reshape _ _) ((View.wordExact_bits rfl).reshape _ _) ⟨⟨rfl, Or.inl rfl⟩, trivial⟩
/-- The wait for peer `j`'s finished rows. -/
abbrev opWA (j : Fin 32) : Eff F :=
  .waitDma2 (semAt cc0_scratch5 j) (rowM j) (rowM j) ((View.wordExact_bits rfl).reshape _ _) ((View.wordExact_bits rfl).reshape _ _)
/-- The waits for the two copies sent to peer `j`. -/
abbrev opS1 (d : Dev nD) (j : Fin 32) : Eff F :=
  .waitDma2 (semAt cc0_scratch2 j) (slotMe d) (sendM j) (((Memref.isWhole_whole _).wordExact_slice rfl _ (wwOffSlot d)).reshape _ _) ((Memref.isWhole_whole _).wordExact_slice rfl _ (wwSend j))
abbrev opS2 (d : Dev nD) (j : Fin 32) : Eff F :=
  .waitDma2 (semAt cc0_scratch4 j) (rowMe d) (rowMe d) ((View.wordExact_bits rfl).reshape _ _) ((View.wordExact_bits rfl).reshape _ _)

/-- `e`, if the peer is another device, then `k`. -/
def one {α : Type} (c : BitVec 1) (e : Eff F) (k : P F α) : P F α :=
  if _h : c = 1#1 then Prog.lift e >>= fun _ => k else k
/-- `e` and `e'`, if the peer is another device, then `k`. -/
def two {α : Type} (c : BitVec 1) (e e' : Eff F) (k : P F α) : P F α :=
  if _h : c = 1#1 then Prog.lift e >>= fun _ => Prog.lift e' >>= fun _ => k else k
/-- The barrier's signals to peers `a … a + n - 1`, then `k`. -/
def sigs {α : Type} : (a n : ℕ) → a + n ≤ 32 → P F α → P F α
  | _, 0, _, k => k
  | a, n + 1, h, k => semSignalWord (peer ⟨a, by omega⟩) barS.sem 1#32 >>= fun _ => sigs (a + 1) n (by omega) k
/-- The blocks of peers `a … a + n - 1` in order, then `k`. -/
def ones {α : Type} (d : Dev nD) (e : Fin 32 → Eff F) : (a n : ℕ) → a + n ≤ 32 → P F α → P F α
  | _, 0, _, k => k
  | a, n + 1, h, k => one (cnd d a) (e ⟨a, by omega⟩) (ones d e (a + 1) n (by omega) k)
def twos {α : Type} (d : Dev nD) (e e' : Fin 32 → Eff F) : (a n : ℕ) → a + n ≤ 32 → P F α → P F α
  | _, 0, _, k => k
  | a, n + 1, h, k => two (cnd d a) (e ⟨a, by omega⟩) (e' ⟨a, by omega⟩) (twos d e e' (a + 1) n (by omega) k)

theorem stepS {α : Type} {a n : ℕ} {h : a + (n + 1) ≤ 32} {k K : P F α} {p : Dev nD}
    (hp : p = peer ⟨a, by omega⟩) (hk : K = sigs (a + 1) n (by omega) k) :
    (semSignalWord p barS.sem 1#32 >>= fun _ => K) = sigs a (n + 1) h k := by
  subst hp hk; rw [sigs]
theorem step1 {α : Type} {d : Dev nD} {e : Fin 32 → Eff F} {a n : ℕ} {h : a + (n + 1) ≤ 32} {k K : P F α}
    {c : BitVec 1} {e₀ : c = 1#1 → Eff F} (hc : c = cnd d a) (he : ∀ x, e₀ x = e ⟨a, by omega⟩)
    (hk : K = ones d e (a + 1) n (by omega) k) :
    (if x : c = 1#1 then Prog.lift (e₀ x) >>= fun _ => K else K) = ones d e a (n + 1) h k := by
  subst hc hk; rw [ones, one]; congr 1; funext x; rw [he x]
theorem step2 {α : Type} {d : Dev nD} {e e' : Fin 32 → Eff F} {a n : ℕ} {h : a + (n + 1) ≤ 32} {k K : P F α}
    {c : BitVec 1} {e₀ e₁ : c = 1#1 → Eff F} (hc : c = cnd d a) (he : ∀ x, e₀ x = e ⟨a, by omega⟩)
    (he' : ∀ x, e₁ x = e' ⟨a, by omega⟩)
    (hk : K = twos d e e' (a + 1) n (by omega) k) :
    (if x : c = 1#1 then Prog.lift (e₀ x) >>= fun _ => Prog.lift (e₁ x) >>= fun _ => K else K) = twos d e e' a (n + 1) h k := by
  subst hc hk; rw [twos, two]; congr 1; funext x; rw [he x, he' x]

end Cert.KernelIdeal.Body
end
-- ==== Proof.KI.Proto.lean ====
module

public import proofs.«01_k».proof.Proof.KI.Blocks
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

/-! The protocol: which semaphore cells there are, who pays each and with what, and in which order they are waited for.

A device's cells are its barrier cell and, for every peer, the send and receive cells of the two exchanges. On the
barrier, device `d` pays device `j` with the slot and the rows of its own buffers that `j` will write. A copy pays its
receive cell with the written slot (or rows) at the sender's contents and its send cell with the source back. -/

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Cells -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A device's cells: the barrier, then (exchange and direction, peer). -/
abbrev CI : Type := Option (Fin 4 × Fin 32)
abbrev semArr : Fin 4 → DmaSems sig S32
  | 0 => cc0_scratch2 | 1 => cc0_scratch3 | 2 => cc0_scratch4 | 3 => cc0_scratch5
abbrev osem (k : Fin 4 × Fin 32) : SemLoc sig := .dma (semAt (semArr k.1) k.2)
abbrev csem : CI → SemLoc sig
  | none => .reg barS.sem
  | some k => osem k
theorem semAt_val : ∀ (k : Fin 4) (j : Fin 32), (semAt (semArr k) j).val = 6 + 32 * k.val + j.val := by decide +kernel
theorem osem_inj : Function.Injective osem := by
  rintro ⟨k, j⟩ ⟨k', j'⟩ h
  have h1 : semAt (semArr k) j = semAt (semArr k') j' := by injection h
  have h2 := congrArg Fin.val h1
  rw [semAt_val, semAt_val] at h2
  have := k.isLt; have := k'.isLt; have := j.isLt; have := j'.isLt
  exact Prod.ext (Fin.ext (by dsimp only; omega)) (Fin.ext (by dsimp only; omega))
theorem csem_inj : Function.Injective csem := by
  rintro (_ | a) (_ | b) h
  · rfl
  · cases h
  · cases h
  · exact congrArg some (osem_inj h)
/-- Which of the cells a semaphore is. -/
def dec (s : SemLoc sig) : Option CI := Function.partialInv csem s
theorem dec_csem (k : CI) : dec (csem k) = some k := Function.partialInv_left csem_inj k
/-- Cell `k` of device `c`. -/
abbrev cell (c : Dev nD) (k : CI) : GSem nD τ sig := ((c : Thread nD τ), csem k)
theorem cell_inj {c d : Dev nD} {k l : CI} (h : cell c k = cell d l) : c = d ∧ k = l := by
  have h1 : c = d := congrArg (fun g : GSem nD τ sig => g.1.1) h
  exact ⟨h1, csem_inj (congrArg Prod.snd h)⟩

/-! ## The pieces of the buffers -/

abbrev CSend (F : FTy → Type) := (cc0_scratch0 : Ref sig .tc).ty.Contents (Elt F)
abbrev CRecv (F : FTy → Type) := (cc0_scratch1 : Ref sig .tc).ty.Contents (Elt F)
abbrev COut (F : FTy → Type) := (cc0_stg5_0 : Ref sig .tc).ty.Contents (Elt F)

/-- Rows `16 j …` of device `c`'s partial results. -/
abbrev sendPts (c : Dev nD) (j : Fin 32) (f : CSend F) : sProp 𝕄 :=
  (sendM j).view.loc (c : Thread nD τ) ↦[(sendM j).view.set]{fullShare} f
/-- Slot `j` of device `c`'s receive buffer. -/
abbrev slotPts (c : Dev nD) (j : Fin 32) (f : CRecv F) : sProp 𝕄 :=
  (slotM j).view.loc (c : Thread nD τ) ↦[(slotM j).view.set]{fullShare} f
/-- Rows `16 j …` of device `c`'s result, at share `q`. -/
abbrev rowPts (c : Dev nD) (j : Fin 32) (q : PosShare TreeShare) (f : COut F) : sProp 𝕄 :=
  (rowM j).view.loc (c : Thread nD τ) ↦[(rowM j).view.set]{q} f

abbrev piece (j : Fin 32) : PosShare TreeShare := Transfers.shareTok fullShare 32 j

/-- The credit of one partial block, of one result block. -/
abbrev N : ℕ := (slotM 0).view.dmaCredit
abbrev N' : ℕ := (rowM 0).view.dmaCredit
theorem N_pos : 0 < N := View.dmaCredit_pos _ (by decide)
theorem N'_pos : 0 < N' := View.dmaCredit_pos _ (by decide)

/-! ## The schedule -/

section Sched
variable (OS : Dev nD → CSend F) (RV : Dev nD → CRecv F) (Y : COut F)

/-- What device `d` pays on device `c`'s barrier. -/
def barPay (c d : Dev nD) : sProp 𝕄 :=
  if d = c then iprop(emp) else iprop((∃ f, slotPts d c f) ∗ ∃ f, rowPts d c fullShare f)

/-- What a cell of device `c` is paid with. -/
def pay (c : Dev nD) (d : Fin 32) : CI → sProp 𝕄
  | none => barPay c d
  | some (k, j) => if k = 0 then sendPts c j (OS c) else if k = 1 then slotPts c j (RV c)
      else if k = 2 then rowPts c c (piece j) Y else rowPts c j fullShare Y
def amt : CI → ℕ
  | none => 1
  | some (k, _) => if k.val < 2 then N else N'
def dut (c : Dev nD) : CI → Finset (Fin 32)
  | none => Finset.univ
  | some (_, j) => if j = c then ∅ else {0}

/-- One round. -/
def Rd : Rounds.Schedule (GSem nD τ sig) (Fin 32) 𝕄 where
  duties g r := if r = 0 ∧ g.1.2 = .tc then (dec g.2).elim ∅ (dut g.1.1) else ∅
  unitless _ := False
  amount g _ _ := (dec g.2).elim 1 amt
  payload g _ d := (dec g.2).elim iprop(emp) (pay OS RV Y g.1.1 d)
  amount_pos g _ _ _ := by
    rcases dec g.2 with _ | _ | ⟨k, j⟩
    · exact Nat.one_pos
    · exact Nat.one_pos
    · show 0 < (if k.val < 2 then N else N')
      split
      · exact N_pos
      · exact N'_pos

instance barPay_storable (c d : Dev nD) : BI.Storable (upEmb : UEmb _ 𝕄) (barPay (F := F) c d) := by
  unfold barPay; split <;> infer_instance
instance pay_storable (c : Dev nD) (d : Fin 32) (k : CI) : BI.Storable (upEmb : UEmb _ 𝕄) (pay OS RV Y c d k) := by
  rcases k with _ | ⟨k, j⟩
  · show BI.Storable _ (barPay c d); infer_instance
  · unfold pay; (repeat' split) <;> infer_instance
instance Rd_payload_storable (g : GSem nD τ sig) (r : ℕ) (d : Fin 32) :
    BI.Storable (upEmb : UEmb _ 𝕄) ((Rd OS RV Y).payload g r d) := by
  show BI.Storable _ ((dec g.2).elim iprop(emp) (pay OS RV Y g.1.1 d))
  rcases dec g.2 with _ | k
  · show BI.Storable _ (iprop(emp) : sProp 𝕄); infer_instance
  · show BI.Storable _ (pay OS RV Y g.1.1 d k); infer_instance

theorem Rd_duties (c : Dev nD) (k : CI) : (Rd OS RV Y).duties (cell c k) 0 = dut c k := by
  show (if 0 = 0 ∧ (cell c k).1.2 = .tc then (dec (csem k)).elim ∅ (dut c) else ∅) = _
  rw [if_pos ⟨rfl, rfl⟩, dec_csem]; rfl
theorem Rd_later (c : Dev nD) (k : CI) : ∀ r, 1 ≤ r → (Rd OS RV Y).duties (cell c k) r = ∅ :=
  fun r hr => if_neg fun h => by omega
theorem Rd_amount (c : Dev nD) (k : CI) (d : Fin 32) : (Rd OS RV Y).amount (cell c k) 0 d = amt k := by
  show (dec (csem k)).elim 1 amt = _
  rw [dec_csem]; rfl
theorem Rd_payload (c : Dev nD) (k : CI) (d : Fin 32) : (Rd OS RV Y).payload (cell c k) 0 d = pay OS RV Y c d k := by
  show (dec (csem k)).elim iprop(emp) (pay OS RV Y c d) = _
  rw [dec_csem]; rfl
theorem dut_other {c : Dev nD} {j : Fin 32} (h : j ≠ c) (k : Fin 4) : dut c (some (k, j)) = {0} := if_neg h
theorem dut_self (c : Dev nD) (k : Fin 4) : dut c (some (k, c)) = ∅ := if_pos rfl
theorem Rd_expect_bar (c : Dev nD) : (Rd OS RV Y).expect (cell c none) 0 = 32 := by
  unfold Schedule.expect Schedule.amountOf
  rw [Rd_duties, Finset.sum_congr rfl fun d _ => Rd_amount OS RV Y c none d]
  show ∑ _d : Fin 32, 1 = 32
  rw [Finset.sum_const, Finset.card_univ, Fintype.card_fin, smul_eq_mul]
theorem Rd_expect {c : Dev nD} {j : Fin 32} (h : j ≠ c) (k : Fin 4) : (Rd OS RV Y).expect (cell c (some (k, j))) 0 = amt (some (k, j)) := by
  unfold Schedule.expect Schedule.amountOf
  rw [Rd_duties, dut_other h, Finset.sum_singleton, Rd_amount]
theorem Rd_rest_bar (c : Dev nD) : bigSep ((Rd OS RV Y).duties (cell c none) 0 \ ∅) (fun d => (Rd OS RV Y).payload (cell c none) 0 d)
    = bigSep Finset.univ fun d : Fin 32 => barPay (F := F) c d := by
  rw [Finset.sdiff_empty, Rd_duties]
  exact bigSep_congr fun d _ => Rd_payload OS RV Y c none d
theorem Rd_rest {c : Dev nD} {j : Fin 32} (h : j ≠ c) (k : Fin 4) :
    bigSep ((Rd OS RV Y).duties (cell c (some (k, j))) 0 \ ∅) (fun d => (Rd OS RV Y).payload (cell c (some (k, j))) 0 d)
    = pay OS RV Y c 0 (some (k, j)) := by
  rw [Finset.sdiff_empty, Rd_duties, dut_other h, bigSep_singleton, Rd_payload]

/-! ## The invariants, shared by all devices -/

/-- Every cell's invariant, under the names `K`, and that every cell has reached round 0. -/
def records (K : Dev nD × CI → ℕ) : sProp 𝕄 :=
  iprop((bigSep Finset.univ fun ck : Dev nD × CI => cellInv ER (Rd OS RV Y) (K ck) (cell ck.1 ck.2))
    ∗ bigSep Finset.univ fun ck : Dev nD × CI => reached ER (cell ck.1 ck.2) 0)
instance records_persistent (K : Dev nD × CI → ℕ) : BI.Persistent (records OS RV Y K) := by unfold records; infer_instance
theorem records_inv (K : Dev nD × CI → ℕ) (c : Dev nD) (k : CI) :
    records OS RV Y K ⊢ cellInv ER (Rd OS RV Y) (K (c, k)) (cell c k) := by
  unfold records; iintro ⟨H, -⟩
  have h : (bigSep Finset.univ fun ck : Dev nD × CI => cellInv ER (Rd OS RV Y) (K ck) (cell ck.1 ck.2))
      ⊢ cellInv ER (Rd OS RV Y) (K (c, k)) (cell c k) := bigSep_elim (Finset.mem_univ (c, k))
  iapply h; iexact H
theorem records_reached (K : Dev nD × CI → ℕ) (c : Dev nD) (k : CI) :
    records OS RV Y K ⊢ reached ER (cell c k) 0 := by
  unfold records; iintro ⟨-, H⟩
  have h : (bigSep Finset.univ fun ck : Dev nD × CI => (reached ER (cell ck.1 ck.2) 0 : sProp 𝕄))
      ⊢ reached ER (cell c k) 0 := bigSep_elim (Finset.mem_univ (c, k))
  iapply h; iexact H

end Sched

/-! ## What a device owes, and the levels -/

abbrev T : Type := CellTallies nD τ sig Unit
def tBar (c : Dev nD) (j : Fin 32) : T := tallyAt (cell j none) () 1
def tRS (c : Dev nD) (j : Fin 32) : T := if j = c then 0 else tallyAt (cell j (some (1, c))) () N
def tAG (c : Dev nD) (j : Fin 32) : T := if j = c then 0 else tallyAt (cell j (some (3, c))) () N'
/-- The sum over the peers from `n` on. -/
def tl (f : Fin 32 → T) (n : ℕ) : T := ∑ j ∈ Finset.univ.filter (fun j : Fin 32 => n ≤ j.val), f j
theorem tl_end (f : Fin 32 → T) : tl f 32 = 0 := by
  unfold tl; rw [Finset.filter_false_of_mem (fun j _ => by have := j.isLt; omega), Finset.sum_empty]
theorem tl_step (f : Fin 32 → T) (j : Fin 32) : tl f j.val = tl f (j.val + 1) + f j := by
  unfold tl
  rw [show Finset.univ.filter (fun i : Fin 32 => j.val ≤ i.val) = insert j (Finset.univ.filter (fun i : Fin 32 => j.val + 1 ≤ i.val)) from by
    ext i; simp only [Finset.mem_filter, Finset.mem_univ, true_and, Finset.mem_insert, Fin.ext_iff]; omega,
    Finset.sum_insert (by simp), add_comm]
theorem tl_pos {f : Fin 32 → T} {n : ℕ} {g : GSem nD τ sig} {u : Unit} (h : 0 < tl f n g u) : ∃ j, 0 < f j g u := by
  by_contra hn
  simp only [not_exists, not_lt, Nat.le_zero] at hn
  have : tl f n g u = 0 := by
    unfold tl; rw [Finset.sum_apply, Finsupp.finset_sum_apply]; exact Finset.sum_eq_zero fun j _ => hn j
  omega
/-- What device `c` owes from the signal to peer `n` on; from the first copies on; from the second copies on. -/
def OAG (c : Dev nD) (n : ℕ) : T := tl (tAG c) n
def ORS (c : Dev nD) (n : ℕ) : T := OAG c 0 + tl (tRS c) n
def OBar (c : Dev nD) (n : ℕ) : T := ORS c 0 + tl (tBar c) n

def L (g : GSem nD τ sig) : Finset Unit := if g.1.2 = .tc then {()} else ∅
def lvk : CI → ℕ
  | none => 1
  | some (k, _) => if k = 1 then 2 else if k = 3 then 3 else 0
/-- The barrier at 1, the receive cells of the first exchange at 2, of the second at 3, all others at 0. -/
def lv (g : GSem nD τ sig) (_ : Unit) : ℕ := (dec g.2).elim 0 lvk
theorem lv_cell (c : Dev nD) (k : CI) (u : Unit) : lv (cell c k) u = lvk k := by
  show (dec (csem k)).elim 0 lvk = _
  rw [dec_csem]; rfl
theorem L_of_ne (g : GSem nD τ sig) (h : g.1.2 ≠ .tc) : L g = ∅ := if_neg h

theorem tAG_pos {c : Dev nD} {j : Fin 32} {g : GSem nD τ sig} {u : Unit} (h : 0 < tAG c j g u) : g = cell j (some (3, c)) := by
  unfold tAG at h; split at h
  · exact absurd h (Nat.lt_irrefl 0)
  · rw [tallyAt_apply] at h; by_contra hn; rw [if_neg (fun h' => hn h'.1)] at h; exact Nat.lt_irrefl 0 h
theorem tRS_pos {c : Dev nD} {j : Fin 32} {g : GSem nD τ sig} {u : Unit} (h : 0 < tRS c j g u) : g = cell j (some (1, c)) := by
  unfold tRS at h; split at h
  · exact absurd h (Nat.lt_irrefl 0)
  · rw [tallyAt_apply] at h; by_contra hn; rw [if_neg (fun h' => hn h'.1)] at h; exact Nat.lt_irrefl 0 h
theorem tBar_pos {c : Dev nD} {j : Fin 32} {g : GSem nD τ sig} {u : Unit} (h : 0 < tBar c j g u) : g = cell j none := by
  unfold tBar at h
  rw [tallyAt_apply] at h; by_contra hn; rw [if_neg (fun h' => hn h'.1)] at h; exact Nat.lt_irrefl 0 h
theorem add_pos_or {A B : T} {g : GSem nD τ sig} {u : Unit} (h : 0 < (A + B) g u) : 0 < A g u ∨ 0 < B g u := by
  rw [Pi.add_apply, Finsupp.add_apply] at h; omega
theorem OAG_pos {c : Dev nD} {n : ℕ} {g : GSem nD τ sig} {u : Unit} (h : 0 < OAG c n g u) : ∃ j, g = cell j (some (3, c)) := by
  obtain ⟨j, hj⟩ := tl_pos h; exact ⟨j, tAG_pos hj⟩
theorem ORS_pos {c : Dev nD} {n : ℕ} {g : GSem nD τ sig} {u : Unit} (h : 0 < ORS c n g u) :
    ∃ j, g = cell j (some (3, c)) ∨ g = cell j (some (1, c)) := by
  rcases add_pos_or h with h | h
  · obtain ⟨j, hj⟩ := OAG_pos h; exact ⟨j, .inl hj⟩
  · obtain ⟨j, hj⟩ := tl_pos h; exact ⟨j, .inr (tRS_pos hj)⟩
theorem OBar_pos {c : Dev nD} {n : ℕ} {g : GSem nD τ sig} {u : Unit} (h : 0 < OBar c n g u) :
    ∃ j, g = cell j (some (3, c)) ∨ g = cell j (some (1, c)) ∨ g = cell j none := by
  rcases add_pos_or h with h | h
  · obtain ⟨j, hj | hj⟩ := ORS_pos h
    · exact ⟨j, .inl hj⟩
    · exact ⟨j, .inr (.inl hj)⟩
  · obtain ⟨j, hj⟩ := tl_pos h; exact ⟨j, .inr (.inr (tBar_pos hj))⟩

/-- A device may wait on a cell whose level is below that of every cell it still owes. -/
theorem mayW (c : Dev nD) (sm : SemLoc sig) (cut : ℕ) (O : T) (hs : lv ((c : Thread nD τ), sm) () ≤ cut)
    (h : ∀ g u, 0 < O g u → ∃ d k, g = cell d k ∧ cut < lvk k) :
    (levAts L lv : sProp 𝕄) ⊢ MayWait (c : Thread nD τ) sm () O :=
  MayOwe.of_cut (L := L) (lev := lv) cut
    (fun p hp => by rw [Finset.mem_singleton.mp hp]; exact Finset.mem_singleton_self _)
    (fun g u hg => by obtain ⟨d, k, rfl, -⟩ := h g u hg; exact Finset.mem_singleton_self _)
    (fun p hp => by rw [Finset.mem_singleton.mp hp]; exact hs)
    (fun g u hg => by obtain ⟨d, k, rfl, hk⟩ := h g u hg; rw [lv_cell]; exact hk)

end Cert.KernelIdeal.Body
end
-- ==== Proof.KI.Steps.lean ====
module

public import proofs.«01_k».proof.Proof.KI.Proto

@[expose] public section

noncomputable section

/-! One step of each kind of the protocol, and a run of steps over the peers. -/

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The program `k` on device `c` runs to a state satisfying `Q`. -/
abbrev WP {α : Type} (c : Dev nD) (k : P F α) (Q : α → sProp 𝕄) : sProp 𝕄 :=
  wp frame (wpE (defs₀ (F := F)) 𝒱₀ (c : Thread nD τ) none) Set.univ k Q

/-! ## Families over the peers -/

/-- `X`, if peer `j` is another device. -/
def oth (c : Dev nD) (j : Fin 32) (X : sProp 𝕄) : sProp 𝕄 := if j = c then iprop(emp) else X
theorem oth_self (c : Dev nD) (X : sProp 𝕄) : oth (F := F) c c X = iprop(emp) := if_pos rfl
theorem oth_ne {c : Dev nD} {j : Fin 32} (h : j ≠ c) (X : sProp 𝕄) : oth (F := F) c j X = X := if_neg h

/-- `B` for the peers below `n`, `A` for the others. -/
def fam (A B : Fin 32 → sProp 𝕄) (n : ℕ) : sProp 𝕄 :=
  bigSep Finset.univ fun j : Fin 32 => if j.val < n then B j else A j
theorem fam_zero (A B : Fin 32 → sProp 𝕄) : fam A B 0 = bigSep Finset.univ A :=
  bigSep_congr fun j _ => if_neg (Nat.not_lt_zero _)
theorem fam_end (A B : Fin 32 → sProp 𝕄) : fam A B 32 = bigSep Finset.univ B :=
  bigSep_congr fun j _ => if_pos j.isLt
def famRest (A B : Fin 32 → sProp 𝕄) (j : Fin 32) : sProp 𝕄 :=
  bigSep (Finset.univ.erase j) fun i : Fin 32 => if i.val < j.val then B i else A i
theorem fam_now (A B : Fin 32 → sProp 𝕄) (j : Fin 32) : fam A B j.val = iprop(A j ∗ famRest A B j) := by
  unfold fam famRest
  rw [bigSep_erase (Finset.mem_univ j), if_neg (lt_irrefl _)]
  rfl
theorem fam_next (A B : Fin 32 → sProp 𝕄) (j : Fin 32) : fam A B (j.val + 1) = iprop(B j ∗ famRest A B j) := by
  unfold fam famRest
  rw [bigSep_erase (Finset.mem_univ j), if_pos (Nat.lt_succ_self _)]
  congr 1
  refine bigSep_congr fun i hi => ?_
  have hne : i.val ≠ j.val := fun h => (Finset.mem_erase.mp hi).1 (Fin.ext h)
  by_cases h : i.val < j.val
  · rw [if_pos h, if_pos (by omega)]
  · rw [if_neg h, if_neg (by omega)]

/-- A run of blocks, one per peer in order, from a rule for each block. -/
theorem run_wp {α : Type} (c : Dev nD) (C : sProp 𝕄) [BI.Persistent C] (A B : Fin 32 → sProp 𝕄) (R : ℕ → sProp 𝕄)
    (blk : Fin 32 → P F α → P F α) (run : (a n : ℕ) → a + n ≤ 32 → P F α → P F α)
    (h0 : ∀ a h k, run a 0 h k = k)
    (hs : ∀ a n (h : a + (n + 1) ≤ 32) k, run a (n + 1) h k = blk ⟨a, by omega⟩ (run (a + 1) n (by omega) k))
    (Q : α → sProp 𝕄)
    (hstep : ∀ (j : Fin 32) (k : P F α), iprop(C ∗ A j ∗ R j.val ∗ ((B j ∗ R (j.val + 1)) -∗ WP c k Q)) ⊢ WP c (blk j k) Q)
    (k : P F α) : ∀ (n a : ℕ) (h : a + n ≤ 32),
    iprop(C ∗ fam A B a ∗ R a ∗ ((fam A B (a + n) ∗ R (a + n)) -∗ WP c k Q)) ⊢ WP c (run a n h k) Q
  | 0, a, h => by
    rw [h0]
    iintro ⟨-, H, HR, Hk⟩
    iapply Hk; isplitl [H]; · iexact H
    iexact HR
  | n + 1, a, h => by
    rw [hs]
    have hlt : a < 32 := by omega
    have hle : a + 1 + n ≤ 32 := by omega
    have e1 := fam_now A B ⟨a, hlt⟩
    have e2 := fam_next A B ⟨a, hlt⟩
    dsimp only at e1 e2
    rw [e1]
    iintro ⟨#HC, ⟨HA, Hrest⟩, HR, Hk⟩
    iapply (hstep ⟨a, hlt⟩ _)
    isplitr; · iexact HC
    isplitl [HA]; · iexact HA
    isplitl [HR]; · iexact HR
    iintro ⟨HB, HR⟩
    iapply (run_wp c C A B R blk run h0 hs Q hstep k n (a + 1) hle)
    isplitr; · iexact HC
    isplitl [HB Hrest]
    · rw [e2]; isplitl [HB]; · iexact HB
      iexact Hrest
    isplitl [HR]; · iexact HR
    rw [show a + 1 + n = a + (n + 1) by omega]
    iexact Hk

/-! ## Blocks of the device itself and of the others -/

theorem one_self {α : Type} (c : Dev nD) (e : Eff F) (k : P F α) : one (cnd c c.val) e k = k :=
  dif_neg fun h => (cnd_iff c c).mp h rfl
theorem one_other {α : Type} {c : Dev nD} {j : Fin 32} (h : j ≠ c) (e : Eff F) (k : P F α) :
    one (cnd c j.val) e k = .op e fun _ => k :=
  (dif_pos ((cnd_iff c j).mpr fun h' => h (Fin.ext h'))).trans rfl
theorem two_self {α : Type} (c : Dev nD) (e e' : Eff F) (k : P F α) : two (cnd c c.val) e e' k = k :=
  dif_neg fun h => (cnd_iff c c).mp h rfl
theorem two_other {α : Type} {c : Dev nD} {j : Fin 32} (h : j ≠ c) (e e' : Eff F) (k : P F α) :
    two (cnd c j.val) e e' k = .op e fun _ => .op e' fun _ => k :=
  (dif_pos ((cnd_iff c j).mpr fun h' => h (Fin.ext h'))).trans rfl

/-! ## The device's own offsets -/

theorem off_sem : ∀ d : Dev nD, k0_off1 d = ![d.val] := by decide +kernel
theorem off_slot : ∀ d : Dev nD, k0_off2 d = ![d.val, 0, 0, 0] := by decide +kernel
theorem off_row : ∀ d : Dev nD, k0_off66 d = ![0, 16 * d.val, 0] := by decide +kernel
theorem peer_eq (j : Fin 32) : peer j = j := Fin.ext (peerN_eq j)
theorem semMe_eq (a : DmaSems sig S32) (d : Dev nD) : semMe a d = semAt a d := by
  have : ∀ (o o' : Fin 1 → ℕ) (h : o = o') (i : ∀ a, o a + S1.size a ≤ S32.size a) (i' : ∀ a, o' a + S1.size a ≤ S32.size a),
      ((a.slice (Rect.unit (s := S32) o S1.size i)).squeeze S_ squeezes_S1_S_).sem
        = ((a.slice (Rect.unit (s := S32) o' S1.size i')).squeeze S_ squeezes_S1_S_).sem := by
    intro o o' h i i'; subst h; rfl
  exact this _ _ (off_sem d) _ _
theorem slotMe_eq (d : Dev nD) : slotMe d = slotM d := by
  have : ∀ (o o' : Fin 4 → ℕ) (h : o = o') (i : ∀ a, o a + S1x9x16x128.size a ≤ S32x9x16x128.size a) (i' : ∀ a, o' a + S1x9x16x128.size a ≤ S32x9x16x128.size a),
      (oRecv.slice (Rect.unit (s := S32x9x16x128) o S1x9x16x128.size i) (fun _ => rfl)).squeeze S9x16x128 squeezes_S1x9x16x128_S9x16x128
        = (oRecv.slice (Rect.unit (s := S32x9x16x128) o' S1x9x16x128.size i') (fun _ => rfl)).squeeze S9x16x128 squeezes_S1x9x16x128_S9x16x128 := by
    intro o o' h i i'; subst h; rfl
  exact this _ _ (off_slot d) _ _
theorem rowMe_eq (d : Dev nD) : rowMe d = rowM d := by
  have : ∀ (o o' : Fin 3 → ℕ) (h : o = o') (i : ∀ a, o a + S1x16x1024.size a ≤ S1x512x1024.size a) (i' : ∀ a, o' a + S1x16x1024.size a ≤ S1x512x1024.size a),
      (outB.slice (Rect.unit (s := S1x512x1024) o S1x16x1024.size i) (fun _ => rfl)).squeeze S16x1024 squeezes_S1x16x1024_S16x1024
        = (outB.slice (Rect.unit (s := S1x512x1024) o' S1x16x1024.size i') (fun _ => rfl)).squeeze S16x1024 squeezes_S1x16x1024_S16x1024 := by
    intro o o' h i i'; subst h; rfl
  exact this _ _ (off_row d) _ _

/-! ## The steps -/

section Steps
variable (OS : Dev nD → CSend F) (RV : Dev nD → CRecv F) (Y : COut F) (K : Dev nD × CI → ℕ)

/-- What all steps share: the records and the levels. -/
def ctx : sProp 𝕄 := iprop(records OS RV Y K ∗ levAts L lv)
instance ctx_persistent : BI.Persistent (ctx OS RV Y K) := by unfold ctx; infer_instance
theorem ctx_inv (c : Dev nD) (k : CI) : ctx OS RV Y K ⊢ cellInv ER (Rd OS RV Y) (K (c, k)) (cell c k) := by
  unfold ctx; iintro ⟨H, -⟩; iapply (records_inv OS RV Y K c k); iexact H
theorem ctx_reached (c : Dev nD) (k : CI) : ctx OS RV Y K ⊢ reached ER (cell c k) 0 := by
  unfold ctx; iintro ⟨H, -⟩; iapply (records_reached OS RV Y K c k); iexact H
theorem ctx_lev : ctx OS RV Y K ⊢ (levAts L lv : sProp 𝕄) := by
  unfold ctx; iintro ⟨-, H⟩; iexact H

theorem cred_slot (c : Fin 32) : (slotM c).view.dmaCredit = N := rfl
theorem cred_send : ∀ c : Fin 32, (sendM c).view.dmaCredit = N := by decide +kernel
theorem cred_row (c : Fin 32) : (rowM c).view.dmaCredit = N' := rfl

/-- Device `c` owes `O`. -/
def ow (c : Dev nD) (O : T) : sProp 𝕄 := iprop(∃ W, owes (c : Thread nD τ) O W)

/-- A signal to peer `j`'s barrier. -/
theorem sig_step {α : Type} (c j : Dev nD) (k : P F α) (Q : α → sProp 𝕄) :
    iprop(ctx OS RV Y K ∗ (dutyTok ER (cell j none) 0 c ∗ barPay j c) ∗ ow c (OBar c j.val) ∗ ((emp ∗ ow c (OBar c (j.val + 1))) -∗ WP c k Q))
      ⊢ WP c (semSignalWord (peer j) barS.sem 1#32 >>= fun _ => k) Q := by
  rw [peer_eq, show (semSignalWord j barS.sem 1#32 >>= fun _ => k : P F α) = .op (.semSignal (j : Thread nD τ) barS.sem 1) (fun _ => k) from rfl]
  unfold ow
  iintro ⟨#HC, ⟨Htok, Hpay⟩, ⟨%W, HO⟩, Hk⟩
  have hO : OBar c j.val = OBar c (j.val + 1) + tallyAt (((j : Dev nD) : Thread nD τ), SemLoc.reg barS.sem) () 1 := by
    unfold OBar; rw [tl_step (tBar c) j, add_assoc]; rfl
  iapply (Rounds.wp_signal 𝒱₀ ER (Rd OS RV Y) (c : Thread nD τ) none (dst := (j : Thread nD τ)) (sem := barS.sem) (κ := K (j, none)) (r := 0)
      (d := c) (k' := 1) (by
        rw [show (((j : Dev nD) : Thread nD τ), SemLoc.reg barS.sem) = cell j none from rfl, Rd_duties]; exact Finset.mem_univ _)
      (Rd_amount OS RV Y j none c) () (OBar c (j.val + 1)) hO (W := W))
    $$ [HO Htok Hpay]
  · isplitr; · iapply (ctx_inv OS RV Y K j none); iexact HC
    isplitl [HO]; · iexact HO
    isplitl [Htok]; · iexact Htok
    isplitl [Hpay]
    · iapply (Entails.of_eq (show barPay j c = (Rd OS RV Y).payload (cell j none) 0 c from (Rd_payload OS RV Y j none c).symm)); iexact Hpay
    · iapply (ctx_reached OS RV Y K j none); iexact HC
  iintro HO
  iapply Hk
  isplitr; · iempintro
  iexists W; iexact HO

/-- A wait on a cell of another peer, which then closes. -/
theorem wait_step {α : Type} {c j : Dev nD} (hj : j ≠ c) (i : Fin 4) (w : Eff F) (n : ℕ) (hn : amt (some (i, j)) = n)
    (hw : ∀ Kt : PUnit → sProp 𝕄, wpE' (defs₀ (F := F)) 𝒱₀ (c : Thread nD τ) none [] Set.univ w Kt = waitSpec (c : Thread nD τ) Set.univ (osem (i, j)) n Kt)
    (O : T) (hO : (levAts L lv : sProp 𝕄) ⊢ MayWait (c : Thread nD τ) (osem (i, j)) () O) (k : P F α) (Q : α → sProp 𝕄) :
    iprop(ctx OS RV Y K ∗ (atPos ER (cell c (some (i, j))) 0 ∅ 0 ∗ cred (tallyAt (cell c (some (i, j))) () n)) ∗ ow c O
        ∗ (((semVal (cell c (some (i, j))) 0 ∗ pay OS RV Y c 0 (some (i, j))) ∗ ow c O) -∗ WP c k Q))
      ⊢ WP c (.op w fun _ => k) Q := by
  subst hn
  unfold ow
  iintro ⟨#HC, ⟨Hat, Hcr⟩, ⟨%W, HO⟩, Hk⟩
  iapply (Rounds.wp_wait_rest_token 𝒱₀ ER (Rd OS RV Y) (c : Thread nD τ) none (κ := K (c, some (i, j)))
      hw (Set.mem_univ _) () (O := O) (W := W) (R := 0) (m := 0) (T := ∅)
      (by rw [Nat.zero_add]; exact (Rd_expect OS RV Y hj i).symm)) $$ [Hcr HO Hat]
  · isplitr; · iapply (ctx_inv OS RV Y K c (some (i, j))); iexact HC
    isplitl [Hcr]; · iexact Hcr
    isplitl [HO]; · iexact HO
    isplitr; · unfold ctx; icases HC with ⟨-, HL⟩; iapply hO; iexact HL
    iexact Hat
  iintro ⟨HO, Hat, -, Hpay⟩
  imod (Rounds.cell_close ER (Rd OS RV Y) (Set.mem_univ (K (c, some (i, j)))) (fun h => h) (R := 0 + 1) (Rd_later OS RV Y c (some (i, j)))) $$ [Hat] with Hv
  · isplitr; · iapply (ctx_inv OS RV Y K c (some (i, j))); iexact HC
    iexact Hat
  iapply Hk
  isplitl [Hv Hpay]
  · isplitl [Hv]; · iexact Hv
    ihave Hp := (Entails.of_eq (Rd_rest OS RV Y hj i)) $$ Hpay
    iexact Hp
  iexists _; iexact HO

/-- The device's own cell of an exchange is never used, and closes. -/
theorem self_close {α : Type} (c : Dev nD) (i : Fin 4) (k : P F α) (Q : α → sProp 𝕄) :
    iprop(ctx OS RV Y K ∗ atPos ER (cell c (some (i, c))) 0 ∅ 0 ∗ (semVal (cell c (some (i, c))) 0 -∗ WP c k Q)) ⊢ WP c k Q := by
  iintro ⟨#HC, Hat, Hk⟩
  imod (Rounds.cell_close ER (Rd OS RV Y) (Set.mem_univ (K (c, some (i, c)))) (fun h => h) (R := 0) (fun r _ => by
      rcases Nat.eq_zero_or_pos r with rfl | h
      · rw [Rd_duties, dut_self]
      · exact Rd_later OS RV Y c (some (i, c)) r h)) $$ [Hat] with Hv
  · isplitr; · iapply (ctx_inv OS RV Y K c (some (i, c))); iexact HC
    iexact Hat
  iapply Hk; iexact Hv

/-- Slot `c` of device `j`, written with the sender's rows, holds what `RV j` does there. -/
theorem slot_written (hRV : ∀ c d : Dev nD, (slotM c).view.read (Elt F) (RV d) = (sendM d).view.read (Elt F) (OS c))
    (c j : Dev nD) (f : CRecv F) :
    ((slotM c).view.loc (j : Thread nD τ) ↦[(slotM c).view.set]{fullShare}
        ((slotM c).view.write (Elt F) f ((sendM j).view.read (Elt F) (OS c)) Finset.univ) : sProp 𝕄) = slotPts j c (RV j) := by
  refine pointsTo_congr fun i hi => ?_
  rw [← hRV c j, View.write_read_eq_piecewise]
  exact Finset.piecewise_eq_of_mem _ _ _ hi
theorem row_written (c j : Dev nD) (f : COut F) :
    ((rowM c).view.loc (j : Thread nD τ) ↦[(rowM c).view.set]{fullShare}
        ((rowM c).view.write (Elt F) f ((rowM c).view.read (Elt F) Y) Finset.univ) : sProp 𝕄) = rowPts j c fullShare Y := by
  refine pointsTo_congr fun i hi => ?_
  rw [View.write_read_eq_piecewise]
  exact Finset.piecewise_eq_of_mem _ _ _ hi

/-- The copy of a block of partial results to peer `j`. -/
theorem send_slot {α : Type} (hRV : ∀ c d : Dev nD, (slotM c).view.read (Elt F) (RV d) = (sendM d).view.read (Elt F) (OS c))
    {c j : Dev nD} (hj : j ≠ c) (k : P F α) (Q : α → sProp 𝕄) :
    iprop(ctx OS RV Y K ∗ (dutyTok ER (cell c (some (0, j))) 0 0 ∗ dutyTok ER (cell j (some (1, c))) 0 0 ∗ sendPts c j (OS c) ∗ ∃ f, slotPts j c f)
        ∗ ow c (ORS c j.val) ∗ ((cred (tallyAt (cell c (some (0, j))) () N) ∗ ow c (ORS c (j.val + 1))) -∗ WP c k Q))
      ⊢ WP c (.op (opRS c j) fun _ => k) Q := by
  unfold opRS
  generalize_proofs n1 n2 h1 h2 h3 h4
  revert h1 h2 h3 h4
  rw [slotMe_eq, semMe_eq, peer_eq]
  intro h1 h2 h3 h4
  have hO : ORS c j.val = ORS c (j.val + 1) + tallyAt (((j : Dev nD) : Thread nD τ), SemLoc.dma (semAt cc0_scratch3 c)) () N := by
    unfold ORS; rw [tl_step (tRS c) j, add_assoc]; congr 1; congr 1; unfold tRS; rw [if_neg hj]
  unfold ow
  iintro ⟨#HC, ⟨Ht1, Ht2, Hs, ⟨%f, Hd⟩⟩, ⟨%W, HO⟩, Hk⟩
  iapply (Rounds.wp_send_pointsTo 𝒱₀ ER (Rd OS RV Y) (c : Thread nD τ) none (κ₁ := K (c, some (0, j))) (κ₂ := K (j, some (1, c)))
    (r₁ := 0) (r₂ := 0) (d₁ := 0) (d₂ := 0) (fs := OS c) (fd := f) (q := fullShare)
    (c' := (j : Thread nD τ)) (src := sendM j) (dst := slotM c) (hsc := h1) (hsrc := h2) (hdst := h3) (hsem := h4) (k := fun _ => k) (Q := Q)
    (sS := .dma (semAt cc0_scratch2 j)) (sem := .dma (semAt cc0_scratch3 c))
    (by rw [show ((c : Thread nD τ), SemLoc.dma (semAt cc0_scratch2 j)) = cell c (some (0, j)) from rfl, Rd_duties, dut_other hj]; exact Finset.mem_singleton_self _)
    (by rw [show ((j : Thread nD τ), SemLoc.dma (semAt cc0_scratch3 c)) = cell j (some (1, c)) from rfl, Rd_duties, dut_other hj.symm]; exact Finset.mem_singleton_self _)
    () () N (cred_slot c) (Rd_amount OS RV Y c (some (0, j)) 0) (Rd_amount OS RV Y j (some (1, c)) 0) (ORS c (j.val + 1)) hO (W := W)
    (Entails.of_eq (Rd_payload OS RV Y c (some (0, j)) 0).symm)
    (Entails.of_eq ((slot_written OS RV hRV c j f).trans (Rd_payload OS RV Y j (some (1, c)) 0).symm))) $$ [HO Ht1 Ht2 Hs Hd]
  · isplitr; · iapply (ctx_inv OS RV Y K c (some (0, j))); iexact HC
    isplitr; · iapply (ctx_inv OS RV Y K j (some (1, c))); iexact HC
    isplitl [Hs]; · iexact Hs
    isplitl [Hd]; · iexact Hd
    isplitl [HO]; · iexact HO
    isplitl [Ht1]; · iexact Ht1
    isplitr; · iapply (ctx_reached OS RV Y K c (some (0, j))); iexact HC
    isplitl [Ht2]; · iexact Ht2
    iapply (ctx_reached OS RV Y K j (some (1, c))); iexact HC
  iintro ⟨Hc, HO⟩
  iapply Hk
  isplitl [Hc]; · iexact Hc
  iexists W; iexact HO

/-- The copy of the device's finished rows to peer `j`. -/
theorem send_row {α : Type} {c j : Dev nD} (hj : j ≠ c) (k : P F α) (Q : α → sProp 𝕄) :
    iprop(ctx OS RV Y K ∗ (dutyTok ER (cell c (some (2, j))) 0 0 ∗ dutyTok ER (cell j (some (3, c))) 0 0 ∗ rowPts c c (piece j) Y ∗ ∃ f, rowPts j c fullShare f)
        ∗ ow c (OAG c j.val) ∗ ((cred (tallyAt (cell c (some (2, j))) () N') ∗ ow c (OAG c (j.val + 1))) -∗ WP c k Q))
      ⊢ WP c (.op (opAG c j) fun _ => k) Q := by
  unfold opAG
  generalize_proofs n1 n2 h1 h2 h3 h4
  revert h1 h2 h3 h4
  rw [rowMe_eq, semMe_eq, peer_eq]
  intro h1 h2 h3 h4
  have hO : OAG c j.val = OAG c (j.val + 1) + tallyAt (((j : Dev nD) : Thread nD τ), SemLoc.dma (semAt cc0_scratch5 c)) () N' := by
    unfold OAG; rw [tl_step (tAG c) j]; congr 1; unfold tAG; rw [if_neg hj]
  unfold ow
  iintro ⟨#HC, ⟨Ht1, Ht2, Hs, ⟨%f, Hd⟩⟩, ⟨%W, HO⟩, Hk⟩
  iapply (Rounds.wp_send_pointsTo 𝒱₀ ER (Rd OS RV Y) (c : Thread nD τ) none (κ₁ := K (c, some (2, j))) (κ₂ := K (j, some (3, c)))
    (r₁ := 0) (r₂ := 0) (d₁ := 0) (d₂ := 0) (fs := Y) (fd := f) (q := piece j)
    (c' := (j : Thread nD τ)) (src := rowM c) (dst := rowM c) (hsc := h1) (hsrc := h2) (hdst := h3) (hsem := h4) (k := fun _ => k) (Q := Q)
    (sS := .dma (semAt cc0_scratch4 j)) (sem := .dma (semAt cc0_scratch5 c))
    (by rw [show ((c : Thread nD τ), SemLoc.dma (semAt cc0_scratch4 j)) = cell c (some (2, j)) from rfl, Rd_duties, dut_other hj]; exact Finset.mem_singleton_self _)
    (by rw [show ((j : Thread nD τ), SemLoc.dma (semAt cc0_scratch5 c)) = cell j (some (3, c)) from rfl, Rd_duties, dut_other hj.symm]; exact Finset.mem_singleton_self _)
    () () N' (cred_row c) (Rd_amount OS RV Y c (some (2, j)) 0) (Rd_amount OS RV Y j (some (3, c)) 0) (OAG c (j.val + 1)) hO (W := W)
    (Entails.of_eq (Rd_payload OS RV Y c (some (2, j)) 0).symm)
    (Entails.of_eq ((row_written Y c j f).trans (Rd_payload OS RV Y j (some (3, c)) 0).symm))) $$ [HO Ht1 Ht2 Hs Hd]
  · isplitr; · iapply (ctx_inv OS RV Y K c (some (2, j))); iexact HC
    isplitr; · iapply (ctx_inv OS RV Y K j (some (3, c))); iexact HC
    isplitl [Hs]; · iexact Hs
    isplitl [Hd]; · iexact Hd
    isplitl [HO]; · iexact HO
    isplitl [Ht1]; · iexact Ht1
    isplitr; · iapply (ctx_reached OS RV Y K c (some (2, j))); iexact HC
    isplitl [Ht2]; · iexact Ht2
    iapply (ctx_reached OS RV Y K j (some (3, c))); iexact HC
  iintro ⟨Hc, HO⟩
  iapply Hk
  isplitl [Hc]; · iexact Hc
  iexists W; iexact HO

end Steps

end Cert.KernelIdeal.Body
end
-- ==== Proof.KI.Phases.lean ====
module

public import proofs.«01_k».proof.Proof.KI.Steps

@[expose] public section

noncomputable section

/-! The phases of the protocol: each is a run of one kind of block over the peers. -/

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A run followed by more -/

theorem sigs_bind {α β : Type} (f : α → P F β) : ∀ (n a : ℕ) (h : a + n ≤ 32) (k : P F α),
    sigs a n h k >>= f = sigs a n h (k >>= f)
  | 0, _, _, _ => rfl
  | n + 1, a, h, k => by
    rw [sigs, sigs, ← sigs_bind f n (a + 1)]; rfl
theorem ones_bind {α β : Type} (d : Dev nD) (e : Fin 32 → Eff F) (f : α → P F β) : ∀ (n a : ℕ) (h : a + n ≤ 32) (k : P F α),
    ones d e a n h k >>= f = ones d e a n h (k >>= f)
  | 0, _, _, _ => rfl
  | n + 1, a, h, k => by
    rw [ones, ones, ← ones_bind d e f n (a + 1), one, one]; split <;> rfl
theorem twos_bind {α β : Type} (d : Dev nD) (e e' : Fin 32 → Eff F) (f : α → P F β) : ∀ (n a : ℕ) (h : a + n ≤ 32) (k : P F α),
    twos d e e' a n h k >>= f = twos d e e' a n h (k >>= f)
  | 0, _, _, _ => rfl
  | n + 1, a, h, k => by
    rw [twos, twos, ← twos_bind d e e' f n (a + 1), two, two]; split <;> rfl

section Phases
variable (OS : Dev nD → CSend F) (RV : Dev nD → CRecv F) (Y : COut F) (K : Dev nD × CI → ℕ)

/-! ## The barrier -/

/-- The signals to the peers from `n` on are still to be paid. -/
def famBar (c : Dev nD) (n : ℕ) : sProp 𝕄 := fam (fun j => iprop(dutyTok ER (cell j none) 0 c ∗ barPay j c)) (fun _ => iprop(emp)) n

theorem bar_wp {α : Type} (c : Dev nD) (a n : ℕ) (h : a + n ≤ 32) (k : P F α) (Q : α → sProp 𝕄) :
    iprop(ctx OS RV Y K ∗ famBar c a ∗ ow c (OBar c a) ∗ ((famBar c (a + n) ∗ ow c (OBar c (a + n))) -∗ WP c k Q)) ⊢ WP c (sigs a n h k) Q :=
  run_wp c (ctx OS RV Y K) _ _ (fun n => ow c (OBar c n)) (fun j k => semSignalWord (peer j) barS.sem 1#32 >>= fun _ => k) sigs
    (fun _ _ _ => rfl) (fun _ _ _ _ => rfl) Q (fun j k => sig_step OS RV Y K c j k Q) k n a h

theorem lv_bar (c : Dev nD) : lv ((c : Thread nD τ), SemLoc.reg barS.sem) () ≤ 1 :=
  le_of_eq (lv_cell c none ())

/-- The barrier's wait. -/
theorem barwait_wp {α : Type} (c : Dev nD) (k : P F α) (Q : α → sProp 𝕄) :
    iprop(ctx OS RV Y K ∗ atPos ER (cell c none) 0 ∅ 0 ∗ cred (tallyAt (cell c none) () 32) ∗ ow c (ORS c 0)
        ∗ ((semVal (cell c none) 0 ∗ (bigSep Finset.univ fun d : Fin 32 => barPay (F := F) c d) ∗ ow c (ORS c 0)) -∗ WP c k Q))
      ⊢ WP c (semWaitWord barS.sem 32#32 >>= fun _ => k) Q := by
  rw [show (semWaitWord barS.sem 32#32 >>= fun _ => k : P F α) = .op (.semWait barS.sem 32) (fun _ => k) from rfl]
  have hO : (levAts L lv : sProp 𝕄) ⊢ MayWait (c : Thread nD τ) (.reg barS.sem) () (ORS c 0) :=
    mayW c _ 1 _ (lv_bar c) fun g u hg => by
      obtain ⟨d, rfl | rfl⟩ := ORS_pos hg
      · exact ⟨d, _, rfl, show 1 < 3 by decide⟩
      · exact ⟨d, _, rfl, show 1 < 2 by decide⟩
  unfold ow
  iintro ⟨#HC, Hat, Hcr, ⟨%W, HO⟩, Hk⟩
  iapply (Rounds.wp_wait_rest_token 𝒱₀ ER (Rd OS RV Y) (c : Thread nD τ) none (κ := K (c, none)) (sm := .reg barS.sem) (k' := 32)
      (wpE_semWait_eq 𝒱₀ (c : Thread nD τ) none Set.univ) (Set.mem_univ _) () (O := ORS c 0) (W := W) (R := 0) (m := 0) (T := ∅)
      (by rw [Nat.zero_add]; exact (Rd_expect_bar OS RV Y c).symm)) $$ [Hcr HO Hat]
  · isplitr; · iapply (ctx_inv OS RV Y K c none); iexact HC
    isplitl [Hcr]; · iexact Hcr
    isplitl [HO]; · iexact HO
    isplitr; · unfold ctx; icases HC with ⟨-, HL⟩; iapply hO; iexact HL
    iexact Hat
  iintro ⟨HO, Hat, -, Hpay⟩
  imod (Rounds.cell_close ER (Rd OS RV Y) (Set.mem_univ (K (c, none))) (fun h => h) (R := 0 + 1) (Rd_later OS RV Y c none)) $$ [Hat] with Hv
  · isplitr; · iapply (ctx_inv OS RV Y K c none); iexact HC
    iexact Hat
  iapply Hk
  isplitl [Hv]; · iexact Hv
  isplitl [Hpay]
  · ihave Hp := (Entails.of_eq (Rd_rest_bar OS RV Y c)) $$ Hpay
    iexact Hp
  iexists _; iexact HO

/-! ## The first exchange -/

def famRS (c : Dev nD) (n : ℕ) : sProp 𝕄 :=
  fam (fun j => oth c j iprop(dutyTok ER (cell c (some (0, j))) 0 0 ∗ dutyTok ER (cell j (some (1, c))) 0 0 ∗ sendPts c j (OS c) ∗ ∃ f, slotPts j c f))
    (fun j => oth c j (cred (tallyAt (cell c (some (0, j))) () N))) n

theorem rs_wp {α : Type} (hRV : ∀ c d : Dev nD, (slotM c).view.read (Elt F) (RV d) = (sendM d).view.read (Elt F) (OS c))
    (c : Dev nD) (a n : ℕ) (h : a + n ≤ 32) (k : P F α) (Q : α → sProp 𝕄) :
    iprop(ctx OS RV Y K ∗ famRS OS c a ∗ ow c (ORS c a) ∗ ((famRS OS c (a + n) ∗ ow c (ORS c (a + n))) -∗ WP c k Q)) ⊢ WP c (ones c (opRS c) a n h k) Q := by
  refine run_wp c (ctx OS RV Y K) _ _ (fun n => ow c (ORS c n)) (fun j k => one (cnd c j.val) (opRS c j) k) (ones c (opRS c))
    (fun _ _ _ => rfl) (fun _ _ _ _ => rfl) Q (fun j k => ?_) k n a h
  by_cases hj : j = c
  · subst hj
    rw [one_self, oth_self, oth_self, show ORS j j.val = ORS j (j.val + 1) by
      unfold ORS; rw [tl_step (tRS j) j, show tRS j j = 0 from if_pos rfl, add_zero]]
    iintro ⟨-, -, HO, Hk⟩
    iapply Hk; isplitr; · iempintro
    iexact HO
  · rw [one_other hj, oth_ne hj, oth_ne hj]
    exact send_slot OS RV Y K hRV hj k Q

def famWR (c : Dev nD) (n : ℕ) : sProp 𝕄 :=
  fam (fun j => iprop(atPos ER (cell c (some (1, j))) 0 ∅ 0 ∗ oth c j (cred (tallyAt (cell c (some (1, j))) () N))))
    (fun j => iprop(semVal (cell c (some (1, j))) 0 ∗ oth c j (slotPts c j (RV c)))) n

theorem mayWR (c j : Dev nD) : (levAts L lv : sProp 𝕄) ⊢ MayWait (c : Thread nD τ) (osem (1, j)) () (OAG c 0) :=
  mayW c _ 2 _ (le_of_eq (lv_cell c (some (1, j)) ())) fun g u hg => by
    obtain ⟨d, rfl⟩ := OAG_pos hg
    exact ⟨d, _, rfl, show 2 < 3 by decide⟩
theorem mayZ (c j : Dev nD) (i : Fin 4) : (levAts L lv : sProp 𝕄) ⊢ MayWait (c : Thread nD τ) (osem (i, j)) () 0 := by
  rw [MayWait_zero]
  iintro -; iempintro

theorem wr_wp {α : Type} (c : Dev nD) (a n : ℕ) (h : a + n ≤ 32) (k : P F α) (Q : α → sProp 𝕄) :
    iprop(ctx OS RV Y K ∗ famWR RV c a ∗ ow c (OAG c 0) ∗ ((famWR RV c (a + n) ∗ ow c (OAG c 0)) -∗ WP c k Q)) ⊢ WP c (ones c opWR a n h k) Q := by
  refine run_wp c (ctx OS RV Y K) _ _ (fun n => ow c (OAG c 0)) (fun j k => one (cnd c j.val) (opWR j) k) (ones c opWR)
    (fun _ _ _ => rfl) (fun _ _ _ _ => rfl) Q (fun j k => ?_) k n a h
  by_cases hj : j = c
  · subst hj
    rw [one_self, oth_self, oth_self]
    iintro ⟨#HC, ⟨Hat, -⟩, HO, Hk⟩
    iapply (self_close OS RV Y K j 1 k Q)
    isplitr; · iexact HC
    isplitl [Hat]; · iexact Hat
    iintro Hv
    iapply Hk
    isplitl [Hv]
    · isplitl [Hv]; · iexact Hv
      iempintro
    iexact HO
  · rw [one_other hj, oth_ne hj, oth_ne hj]
    exact wait_step OS RV Y K hj 1 (opWR j) N rfl
      (fun Kt => (wpE_waitDma2_eq 𝒱₀ (c : Thread nD τ) none Set.univ Kt).trans (by rw [cred_slot])) (OAG c 0) (mayWR c j) k Q

/-! ## The second exchange -/

def famAG (c : Dev nD) (n : ℕ) : sProp 𝕄 :=
  fam (fun j => oth c j iprop(dutyTok ER (cell c (some (2, j))) 0 0 ∗ dutyTok ER (cell j (some (3, c))) 0 0 ∗ rowPts c c (piece j) Y ∗ ∃ f, rowPts j c fullShare f))
    (fun j => oth c j (cred (tallyAt (cell c (some (2, j))) () N'))) n

theorem ag_wp {α : Type} (c : Dev nD) (a n : ℕ) (h : a + n ≤ 32) (k : P F α) (Q : α → sProp 𝕄) :
    iprop(ctx OS RV Y K ∗ famAG Y c a ∗ ow c (OAG c a) ∗ ((famAG Y c (a + n) ∗ ow c (OAG c (a + n))) -∗ WP c k Q)) ⊢ WP c (ones c (opAG c) a n h k) Q := by
  refine run_wp c (ctx OS RV Y K) _ _ (fun n => ow c (OAG c n)) (fun j k => one (cnd c j.val) (opAG c j) k) (ones c (opAG c))
    (fun _ _ _ => rfl) (fun _ _ _ _ => rfl) Q (fun j k => ?_) k n a h
  by_cases hj : j = c
  · subst hj
    rw [one_self, oth_self, oth_self, show OAG j j.val = OAG j (j.val + 1) by
      unfold OAG; rw [tl_step (tAG j) j, show tAG j j = 0 from if_pos rfl, add_zero]]
    iintro ⟨-, -, HO, Hk⟩
    iapply Hk; isplitr; · iempintro
    iexact HO
  · rw [one_other hj, oth_ne hj, oth_ne hj]
    exact send_row OS RV Y K hj k Q

def famWA (c : Dev nD) (n : ℕ) : sProp 𝕄 :=
  fam (fun j => iprop(atPos ER (cell c (some (3, j))) 0 ∅ 0 ∗ oth c j (cred (tallyAt (cell c (some (3, j))) () N'))))
    (fun j => iprop(semVal (cell c (some (3, j))) 0 ∗ oth c j (rowPts c j fullShare Y))) n

theorem wa_wp {α : Type} (c : Dev nD) (a n : ℕ) (h : a + n ≤ 32) (k : P F α) (Q : α → sProp 𝕄) :
    iprop(ctx OS RV Y K ∗ famWA Y c a ∗ ow c 0 ∗ ((famWA Y c (a + n) ∗ ow c 0) -∗ WP c k Q)) ⊢ WP c (ones c opWA a n h k) Q := by
  refine run_wp c (ctx OS RV Y K) _ _ (fun n => ow c 0) (fun j k => one (cnd c j.val) (opWA j) k) (ones c opWA)
    (fun _ _ _ => rfl) (fun _ _ _ _ => rfl) Q (fun j k => ?_) k n a h
  by_cases hj : j = c
  · subst hj
    rw [one_self, oth_self, oth_self]
    iintro ⟨#HC, ⟨Hat, -⟩, HO, Hk⟩
    iapply (self_close OS RV Y K j 3 k Q)
    isplitr; · iexact HC
    isplitl [Hat]; · iexact Hat
    iintro Hv
    iapply Hk
    isplitl [Hv]
    · isplitl [Hv]; · iexact Hv
      iempintro
    iexact HO
  · rw [one_other hj, oth_ne hj, oth_ne hj]
    exact wait_step OS RV Y K hj 3 (opWA j) N' rfl
      (fun Kt => (wpE_waitDma2_eq 𝒱₀ (c : Thread nD τ) none Set.univ Kt).trans (by rw [cred_row])) 0 (mayZ c j 3) k Q

/-! ## The waits for one's own copies -/

def famS (c : Dev nD) (n : ℕ) : sProp 𝕄 :=
  fam (fun j => iprop((atPos ER (cell c (some (0, j))) 0 ∅ 0 ∗ oth c j (cred (tallyAt (cell c (some (0, j))) () N)))
        ∗ (atPos ER (cell c (some (2, j))) 0 ∅ 0 ∗ oth c j (cred (tallyAt (cell c (some (2, j))) () N')))))
    (fun j => iprop((semVal (cell c (some (0, j))) 0 ∗ oth c j (sendPts c j (OS c)))
        ∗ (semVal (cell c (some (2, j))) 0 ∗ oth c j (rowPts c c (piece j) Y)))) n

theorem cred_rowMe (c : Dev nD) : (rowMe c).view.dmaCredit = N' := by rw [rowMe_eq, cred_row]

theorem s_wp {α : Type} (c : Dev nD) (a n : ℕ) (h : a + n ≤ 32) (k : P F α) (Q : α → sProp 𝕄) :
    iprop(ctx OS RV Y K ∗ famS OS Y c a ∗ ow c 0 ∗ ((famS OS Y c (a + n) ∗ ow c 0) -∗ WP c k Q)) ⊢ WP c (twos c (opS1 c) (opS2 c) a n h k) Q := by
  refine run_wp c (ctx OS RV Y K) _ _ (fun n => ow c 0) (fun j k => two (cnd c j.val) (opS1 c j) (opS2 c j) k) (twos c (opS1 c) (opS2 c))
    (fun _ _ _ => rfl) (fun _ _ _ _ => rfl) Q (fun j k => ?_) k n a h
  by_cases hj : j = c
  · subst hj
    rw [two_self, oth_self, oth_self, oth_self, oth_self]
    iintro ⟨#HC, ⟨⟨Hat, -⟩, ⟨Hat2, -⟩⟩, HO, Hk⟩
    iapply (self_close OS RV Y K j 0 k Q)
    isplitr; · iexact HC
    isplitl [Hat]; · iexact Hat
    iintro Hv
    iapply (self_close OS RV Y K j 2 k Q)
    isplitr; · iexact HC
    isplitl [Hat2]; · iexact Hat2
    iintro Hv2
    iapply Hk
    isplitr [HO]
    · isplitl [Hv]
      · isplitl [Hv]; · iexact Hv
        iempintro
      · isplitl [Hv2]; · iexact Hv2
        iempintro
    iexact HO
  · rw [two_other hj, oth_ne hj, oth_ne hj, oth_ne hj, oth_ne hj]
    iintro ⟨#HC, ⟨HA, HB⟩, HO, Hk⟩
    iapply (wait_step OS RV Y K hj 0 (opS1 c j) N rfl
      (fun Kt => (wpE_waitDma2_eq 𝒱₀ (c : Thread nD τ) none Set.univ Kt).trans (by rw [cred_send])) 0 (mayZ c j 0) _ Q)
    isplitr; · iexact HC
    isplitl [HA]; · iexact HA
    isplitl [HO]; · iexact HO
    iintro ⟨HA, HO⟩
    iapply (wait_step OS RV Y K hj 2 (opS2 c j) N' rfl
      (fun Kt => (wpE_waitDma2_eq 𝒱₀ (c : Thread nD τ) none Set.univ Kt).trans (by rw [cred_rowMe])) 0 (mayZ c j 2) k Q)
    isplitr; · iexact HC
    isplitl [HB]; · iexact HB
    isplitl [HO]; · iexact HO
    iintro ⟨HB, HO⟩
    iapply Hk
    isplitr [HO]
    · isplitl [HA]; · iexact HA
      iexact HB
    iexact HO

end Phases

end Cert.KernelIdeal.Body
end
-- ==== Proof.KI.Parts.lean ====
module

public import proofs.«01_k».proof.Proof.KI.Blocks

@[expose] public section

set_option maxRecDepth 65536

noncomputable section

/-! Each printed part of the kernel that only communicates is a run of blocks. -/

namespace Cert.KernelIdeal.Body

open Idealize.ShloMosaic Idealize.ShloMosaic.TcCoe Idealize.SL.Sem Cert.KernelIdeal Cert.KernelIdeal.Gen

variable {F : FTy → Type} [FloatOps F]

theorem part2_eq (v : BitVec 32) : k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 barS v = sigs 7 9 (by decide) (pure ⟨⟩) := by
  rw [k0_part2_eq_skeleton]; unfold k0_part2_skel
  iterate 9 refine stepS (by rfl) ?_
  rfl
theorem part3_eq  : k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 barS = sigs 16 8 (by decide) (pure ⟨Scalar.muli 24#32 1#32, 0#32⟩) := by
  rw [k0_part3_eq_skeleton]; unfold k0_part3_skel
  iterate 8 refine stepS (by rfl) ?_
  rfl
theorem part11_eq (d : Dev nD) : k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d (me d) (cmp d 6) = ones d (opRS d) 6 10 (by decide) (pure (cmp d 16)) := by
  rw [k0_part11_eq_skeleton]; unfold k0_part11_skel
  iterate 10 refine step1 (by rfl) (fun _ => by rfl) ?_
  rfl
theorem part12_eq (d : Dev nD) : k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d (me d) (cmp d 16) = ones d (opRS d) 16 10 (by decide) (pure (cmp d 26)) := by
  rw [k0_part12_eq_skeleton]; unfold k0_part12_skel
  iterate 10 refine step1 (by rfl) (fun _ => by rfl) ?_
  rfl
theorem part13_eq (d : Dev nD) : k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d (me d) (cmp d 26) = ones d (opRS d) 26 6 (by decide) (ones d opWR 0 4 (by decide) (pure (cmp d 4))) := by
  rw [k0_part13_eq_skeleton]; unfold k0_part13_skel
  iterate 6 refine step1 (by rfl) (fun _ => by rfl) ?_
  rw [ones]
  iterate 4 refine step1 (by rfl) (fun _ => by rfl) ?_
  rfl
theorem part14_eq (d : Dev nD) : k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 (me d) (cmp d 4) = ones d opWR 4 10 (by decide) (pure (cmp d 14)) := by
  rw [k0_part14_eq_skeleton]; unfold k0_part14_skel
  iterate 10 refine step1 (by rfl) (fun _ => by rfl) ?_
  rfl
theorem part15_eq (d : Dev nD) : k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 (me d) (cmp d 14) = ones d opWR 14 10 (by decide) (pure (cmp d 24)) := by
  rw [k0_part15_eq_skeleton]; unfold k0_part15_skel
  iterate 10 refine step1 (by rfl) (fun _ => by rfl) ?_
  rfl
theorem part27_eq (d : Dev nD) : k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d (me d) (Scalar.cmpi .ne (me d) 9#32) = ones d (opAG d) 9 10 (by decide) (pure (Scalar.cmpi .ne (me d) 19#32)) := by
  rw [k0_part27_eq_skeleton]; unfold k0_part27_skel
  iterate 10 refine step1 (by rfl) (fun _ => by rfl) ?_
  rfl
theorem part28_eq (d : Dev nD) : k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d (me d) (Scalar.cmpi .ne (me d) 19#32) = ones d (opAG d) 19 10 (by decide) (pure (Scalar.cmpi .ne (me d) 29#32)) := by
  rw [k0_part28_eq_skeleton]; unfold k0_part28_skel
  iterate 10 refine step1 (by rfl) (fun _ => by rfl) ?_
  rfl
theorem part29_eq (d : Dev nD) : k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d (me d) (Scalar.cmpi .ne (me d) 29#32) = ones d (opAG d) 29 3 (by decide) (ones d opWA 0 7 (by decide) (pure (Scalar.cmpi .ne (me d) 7#32))) := by
  rw [k0_part29_eq_skeleton]; unfold k0_part29_skel
  iterate 3 refine step1 (by rfl) (fun _ => by rfl) ?_
  rw [ones]
  iterate 7 refine step1 (by rfl) (fun _ => by rfl) ?_
  rfl
theorem part30_eq (d : Dev nD) : k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 (me d) (Scalar.cmpi .ne (me d) 7#32) = ones d opWA 7 10 (by decide) (pure (Scalar.cmpi .ne (me d) 17#32)) := by
  rw [k0_part30_eq_skeleton]; unfold k0_part30_skel
  iterate 10 refine step1 (by rfl) (fun _ => by rfl) ?_
  rfl
theorem part31_eq (d : Dev nD) : k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 (me d) (Scalar.cmpi .ne (me d) 17#32) = ones d opWA 17 10 (by decide) (pure (Scalar.cmpi .ne (me d) 27#32)) := by
  rw [k0_part31_eq_skeleton]; unfold k0_part31_skel
  iterate 10 refine step1 (by rfl) (fun _ => by rfl) ?_
  rfl
theorem part32_eq (d : Dev nD) : k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d (me d) (Scalar.cmpi .ne (me d) 27#32) = ones d opWA 27 5 (by decide) (twos d (opS1 d) (opS2 d) 0 5 (by decide) (pure (Scalar.cmpi .ne (me d) 5#32))) := by
  rw [k0_part32_eq_skeleton]; unfold k0_part32_skel
  iterate 5 refine step1 (by rfl) (fun _ => by rfl) ?_
  rw [ones]
  iterate 5 refine step2 (by rfl) (fun _ => by rfl) (fun _ => by rfl) ?_
  rfl
theorem part33_eq (d : Dev nD) : k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d (me d) (Scalar.cmpi .ne (me d) 5#32) = twos d (opS1 d) (opS2 d) 5 10 (by decide) (pure (Scalar.cmpi .ne (me d) 15#32)) := by
  rw [k0_part33_eq_skeleton]; unfold k0_part33_skel
  iterate 10 refine step2 (by rfl) (fun _ => by rfl) (fun _ => by rfl) ?_
  rfl
theorem part34_eq (d : Dev nD) : k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d (me d) (Scalar.cmpi .ne (me d) 15#32) = twos d (opS1 d) (opS2 d) 15 10 (by decide) (pure (Scalar.cmpi .ne (me d) 25#32)) := by
  rw [k0_part34_eq_skeleton]; unfold k0_part34_skel
  iterate 10 refine step2 (by rfl) (fun _ => by rfl) (fun _ => by rfl) ?_
  rfl

end Cert.KernelIdeal.Body
end
-- ==== Proof.KI.Parts2.lean ====
module

public import proofs.«01_k».proof.Proof.KI.Blocks

@[expose] public section

set_option maxRecDepth 65536

noncomputable section

/-! The printed parts that compute and communicate. -/

namespace Cert.KernelIdeal.Body

open Idealize.ShloMosaic Idealize.ShloMosaic.TcCoe Idealize.SL.Sem Cert.KernelIdeal Cert.KernelIdeal.Gen

variable {F : FTy → Type} [FloatOps F]

abbrev bX : Memref sig .tc .vmem S1x512x1024 .bf16 := Memref.whole cc0_stg0_0
abbrev bQ : Memref sig .tc .vmem S1024x1024 .bf16 := Memref.whole cc0_stg1_0
abbrev bO : Memref sig .tc .vmem S1024x1024 .bf16 := Memref.whole cc0_stg2_0
abbrev bK : Memref sig .tc .vmem S1x2048x2x128 .bf16 := Memref.whole cc0_stg3_0
abbrev bV : Memref sig .tc .vmem S1x2048x2x128 .bf16 := Memref.whole cc0_stg4_0

theorem part1_eq  : k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5  = (Prog.lift .deviceId >>= fun d0 => sigs 0 7 (by decide) (pure ⟨d0, me d0, barS, Scalar.muli 7#32 1#32⟩)) := by
  rw [k0_part1_eq_skeleton]; unfold k0_part1_skel
  refine bind_congr fun d0 => ?_
  iterate 7 refine stepS (by rfl) ?_
  rfl
theorem part4_eq (v w : BitVec 32) : k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 barS v w = sigs 24 8 (by decide) (semWaitWord barS.sem 32#32 >>= fun _ => Prog.lift (.load bX (Rect.unit (s := S1x512x1024) ![0, 0, 0] S1x512x1024.size inb_S1x512x1024_S1x512x1024_0_0_0).toLoadRect (View.loadsAt_vmem h_S1x512x1024)) >>= fun v68 => pure (k0_pay1 v68)) := by
  rw [k0_part4_eq_skeleton]; unfold k0_part4_skel
  iterate 8 refine stepS (by rfl) ?_
  rfl
theorem part10_eq (d : Dev nD) (v : FVec F S2048x128 .bf16) (w : FVec F S512x2048 .f32) : k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d (me d) v w = (Prog.lift (.load oSend (Rect.unit (s := S9x512x128) ![7, 0, 0] S1x512x128.size inb_S9x512x128_S1x512x128_7_0_0).toLoadRect (View.loadsAt_vmem h_S1x512x128)) >>= fun _ => Prog.lift (.store oSend (Rect.unit (s := S9x512x128) ![7, 0, 0] S1x512x128.size inb_S9x512x128_S1x512x128_7_0_0) (k0_pay31 v w) Finset.univ (View.stores_vmem h_S1x512x128 ((Memref.isWhole_whole _).storeExact_slice rfl _ packedbf16_S9x512x128_S1x512x128_7_0_0) (fun _ => rfl)) (.inl rfl)) >>= fun _ => Prog.lift (.load oSend (Rect.unit (s := S9x512x128) ![8, 0, 7] S1x512x1.size inb_S9x512x128_S1x512x1_8_0_7).toLoadRect (View.loadsAt_vmem h_S1x512x1)) >>= fun _ => Prog.lift (.store oSend (Rect.unit (s := S9x512x128) ![8, 0, 7] S1x512x1.size inb_S9x512x128_S1x512x1_8_0_7) (k0_pay32 w) Finset.univ (View.stores_vmem h_S1x512x1 ((Memref.isWhole_whole _).storeExact_slice rfl _ packedbf16_S9x512x128_S1x512x1_8_0_7) (fun _ => rfl)) (.inl rfl)) >>= fun _ =>
    ones d (opRS d) 0 6 (by decide) (pure (cmp d 6))) := by
  rw [k0_part10_eq_skeleton]; unfold k0_part10_skel
  iterate 4 refine bind_congr fun _ => ?_
  iterate 6 refine step1 (by rfl) (fun _ => by rfl) ?_
  rfl
theorem part16_eq (d : Dev nD) : k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d (me d) (cmp d 24) = ones d opWR 24 8 (by decide)
    (Prog.lift (.load oSend (Rect.unit (s := S9x512x128) (k0_off65 d) S9x16x128.size (k0_off65_inb d)).toLoadRect (View.loadsAt_vmem h_S9x16x128)) >>= fun v => Prog.lift (.load oRecv (Rect.unit (s := S32x9x16x128) ![0, 0, 0, 0] S1x9x16x128.size inb_S32x9x16x128_S1x9x16x128_0_0_0_0).toLoadRect (View.loadsAt_vmem h_S1x9x16x128)) >>= fun w => pure ⟨k0_pay33 v, k0_pay34 w, 0#32⟩) := by
  rw [k0_part16_eq_skeleton]; unfold k0_part16_skel
  iterate 8 refine step1 (by rfl) (fun _ => by rfl) ?_
  rfl
theorem part26_eq (d : Dev nD) (v : FVec F S16x1024 .f32) : k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d (me d) v = (Prog.lift (.load outB (Rect.unit (s := S1x512x1024) (k0_off66 d) S1x16x1024.size (k0_off66_inb d)).toLoadRect (View.loadsAt_vmem h_S1x16x1024)) >>= fun _ =>
    Prog.lift (.store outB (Rect.unit (s := S1x512x1024) (k0_off66 d) S1x16x1024.size (k0_off66_inb d)) (k0_pay54 v) Finset.univ (View.stores_vmem_bits_univ h_S1x16x1024 rfl) (.inl rfl)) >>= fun _ =>
    ones d (opAG d) 0 9 (by decide) (pure (Scalar.cmpi .ne (me d) 9#32))) := by
  rw [k0_part26_eq_skeleton]; unfold k0_part26_skel
  iterate 2 refine bind_congr fun _ => ?_
  iterate 9 refine step1 (by rfl) (fun _ => by rfl) ?_
  rfl

end Cert.KernelIdeal.Body
end
-- ==== Proof.KI.Heads.lean ====
module

public import proofs.«01_k».proof.Proof.KI.Phases
public import proofs.«01_k».proof.Proof.KI.Parts
public import proofs.«01_k».proof.Proof.KI.Parts2

@[expose] public section

noncomputable section

/-! What the device computes of its own block of keys and values: for each head the unnormalised output, and in a ninth
plane the sums of the weights, one column per head. -/

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev CX (F : FTy → Type) := (cc0_stg0_0 : Ref sig .tc).ty.Contents (Elt F)
abbrev CQ (F : FTy → Type) := (cc0_stg1_0 : Ref sig .tc).ty.Contents (Elt F)
abbrev CO (F : FTy → Type) := (cc0_stg2_0 : Ref sig .tc).ty.Contents (Elt F)
abbrev CK (F : FTy → Type) := (cc0_stg3_0 : Ref sig .tc).ty.Contents (Elt F)
abbrev CV (F : FTy → Type) := (cc0_stg4_0 : Ref sig .tc).ty.Contents (Elt F)

/-- Device `c`'s buffer `b`, whole, holding `f`. -/
abbrev Pt (c : Dev nD) (b : Ref sig .tc) (f : b.ty.Contents (Elt F)) : sProp 𝕄 := ((c : Thread nD τ).loc b) ↦{fullShare} f

/-! ## Loads and stores -/

def getX (x : CX F) : Vec F S1x512x1024 .bf16 := bX.view.readAt (Elt F) (Rect.unit (s := S1x512x1024) ![0, 0, 0] S1x512x1024.size inb_S1x512x1024_S1x512x1024_0_0_0).toLoadRect x
def getQ (w : CQ F) : Vec F S1024x1024 .bf16 := bQ.view.readAt (Elt F) (Rect.unit (s := S1024x1024) ![0, 0] S1024x1024.size inb_S1024x1024_S1024x1024_0_0).toLoadRect w
def getK0 (f : CK F) : Vec F S1x2048x1x128 .bf16 := bK.view.readAt (Elt F) (Rect.unit (s := S1x2048x2x128) ![0, 0, 0, 0] S1x2048x1x128.size inb_S1x2048x2x128_S1x2048x1x128_0_0_0_0).toLoadRect f
def getK1 (f : CK F) : Vec F S1x2048x1x128 .bf16 := bK.view.readAt (Elt F) (Rect.unit (s := S1x2048x2x128) ![0, 0, 1, 0] S1x2048x1x128.size inb_S1x2048x2x128_S1x2048x1x128_0_0_1_0).toLoadRect f
def getV0 (f : CV F) : Vec F S1x2048x1x128 .bf16 := bV.view.readAt (Elt F) (Rect.unit (s := S1x2048x2x128) ![0, 0, 0, 0] S1x2048x1x128.size inb_S1x2048x2x128_S1x2048x1x128_0_0_0_0).toLoadRect f
def getV1 (f : CV F) : Vec F S1x2048x1x128 .bf16 := bV.view.readAt (Elt F) (Rect.unit (s := S1x2048x2x128) ![0, 0, 1, 0] S1x2048x1x128.size inb_S1x2048x2x128_S1x2048x1x128_0_0_1_0).toLoadRect f

/-- Plane `h` replaced by `w`. -/
def putH (h : ℕ) (i : ∀ a, (![h, 0, 0] : Fin 3 → ℕ) a + S1x512x128.size a ≤ S9x512x128.size a) (w : FVec F S1x512x128 .bf16) (f : CSend F) : CSend F :=
  (oSend.access (Rect.unit (s := S9x512x128) ![h, 0, 0] S1x512x128.size i)).write (Elt F) f w Finset.univ
/-- Column `h` of the ninth plane replaced by `w`. -/
def putL (h : ℕ) (i : ∀ a, (![8, 0, h] : Fin 3 → ℕ) a + S1x512x1.size a ≤ S9x512x128.size a) (w : FVec F S1x512x1 .bf16) (f : CSend F) : CSend F :=
  (oSend.access (Rect.unit (s := S9x512x128) ![8, 0, h] S1x512x1.size i)).write (Elt F) f w Finset.univ

theorem subX (r : LoadRect S1x512x1024) : bX.view.setOn r.set ⊆ Finset.univ := Finset.subset_univ _

/-! ## What each part leaves -/

abbrev act (x : CX F) (wq : CQ F) : FVec F S512x1024 .f32 := k0_pay2 (k0_pay1 (getX x)) (getQ wq)

def send5 (x : CX F) (wq : CQ F) (kk : CK F) (vv : CV F) (f : CSend F) : CSend F :=
  putL 0 inb_S9x512x128_S1x512x1_8_0_0 (k0_pay6 (k0_pay1 (getX x)) (getQ wq) (getK0 kk))
    (putH 0 inb_S9x512x128_S1x512x128_0_0_0 (k0_pay5 (k0_pay1 (getX x)) (getQ wq) (getK0 kk) (getV0 vv))
      (putH 8 inb_S9x512x128_S1x512x128_8_0_0 (k0_pay3 (F := F)) f))
def send6 (q : FVec F S512x1024 .f32) (kk : CK F) (vv : CV F) (f : CSend F) : CSend F :=
  putL 1 inb_S9x512x128_S1x512x1_8_0_1 (k0_pay9 q (getK0 kk)) (putH 1 inb_S9x512x128_S1x512x128_1_0_0 (k0_pay8 q (getK0 kk) (getV0 vv)) f)
def send7 (q : FVec F S512x1024 .f32) (v125 : FVec F S512 .f32) (v128 : FVec F S512x128 .bf16) (kk : CK F) (vv : CV F) (f : CSend F) : CSend F :=
  putL 3 inb_S9x512x128_S1x512x1_8_0_3 (k0_pay17 q (getK0 kk)) (putH 3 inb_S9x512x128_S1x512x128_3_0_0 (k0_pay16 q (getK0 kk) (getV0 vv))
    (putL 2 inb_S9x512x128_S1x512x1_8_0_2 (k0_pay14 v125) (putH 2 inb_S9x512x128_S1x512x128_2_0_0 (k0_pay13 v128) f)))
def send8 (q : FVec F S512x1024 .f32) (v156 : FVec F S2048x128 .bf16) (v157 : Vec F S1x2048x1x128 .bf16) (kk : CK F) (vv : CV F) (f : CSend F) : CSend F :=
  putH 5 inb_S9x512x128_S1x512x128_5_0_0 (k0_pay23 q (getK1 kk) (getV1 vv))
    (putL 4 inb_S9x512x128_S1x512x1_8_0_4 (k0_pay21 q v156) (putH 4 inb_S9x512x128_S1x512x128_4_0_0 (k0_pay20 q v156 v157) f))
def send9 (q : FVec F S512x1024 .f32) (v189 : FVec F S512 .bf16) (kk : CK F) (vv : CV F) (f : CSend F) : CSend F :=
  putL 6 inb_S9x512x128_S1x512x1_8_0_6 (k0_pay28 q (getK1 kk)) (putH 6 inb_S9x512x128_S1x512x128_6_0_0 (k0_pay27 q (getK1 kk) (getV1 vv))
    (putL 5 inb_S9x512x128_S1x512x1_8_0_5 (k0_pay25 v189) f))
def send10 (v215 : FVec F S2048x128 .bf16) (v219 : FVec F S512x2048 .f32) (f : CSend F) : CSend F :=
  putL 7 inb_S9x512x128_S1x512x1_8_0_7 (k0_pay32 v219) (putH 7 inb_S9x512x128_S1x512x128_7_0_0 (k0_pay31 v215 v219) f)

/-- What the kernel reads, and does not use, before it writes plane 2. -/
def getH2 (f : CSend F) : Vec F S1x512x128 .bf16 := oSend.view.readAt (Elt F) (Rect.unit (s := S9x512x128) ![2, 0, 0] S1x512x128.size inb_S9x512x128_S1x512x128_2_0_0).toLoadRect f

/-- A store into the partial results. -/
theorem store_wp {α : Type} (c : Dev nD) {r : Rect S9x512x128} {w : r.shape.Idx → Elt F .bf16} {Mk : Finset r.shape.Idx}
    {hx : (oSend.access r).Stores Mk} {hm} {k : PUnit → P F α} (f : CSend F) (Q : α → sProp 𝕄) :
    iprop(Pt c cc0_scratch0 f ∗ (Pt c cc0_scratch0 ((oSend.access r).write (Elt F) f w Mk) -∗ WP c (k ⟨⟩) Q))
      ⊢ WP c (.op (.store oSend r w Mk hx hm) k) Q := by
  iintro ⟨Hs, Hk⟩
  iapply (wp_store 𝒱₀ (c : Thread nD τ) none Set.univ (m := oSend) (r := r) (w := w) (hx := hx) (hm := hm) (f := f) (Mk := Mk) (Finset.subset_univ _)) $$ Hs
  iexact Hk

/-- The first head. -/
theorem part5_wp {α : Type} (c : Dev nD) (x : CX F) (wq : CQ F) (kk : CK F) (vv : CV F) (f : CSend F)
    (k : (Σ' (v74 : FVec F S512x1024 .f32), Vec F S1x2048x1x128 .bf16) → P F α) (Q : α → sProp 𝕄) :
    iprop(Pt c cc0_stg1_0 wq ∗ Pt c cc0_stg3_0 kk ∗ Pt c cc0_stg4_0 vv ∗ Pt c cc0_scratch0 f ∗ ((Pt c cc0_stg1_0 wq ∗ Pt c cc0_stg3_0 kk ∗ Pt c cc0_stg4_0 vv ∗ Pt c cc0_scratch0 (send5 x wq kk vv f)) -∗ WP c (k ⟨act x wq, getK0 kk⟩) Q))
      ⊢ WP c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 (k0_pay1 (getX x)) >>= k) Q := by
  rw [k0_part5_eq_skeleton]; unfold k0_part5_skel
  simp only [Prog.lift, Prog.bind_op, Prog.bind_ret, Prog.pure_eq_ret]
  iintro ⟨Hq, HK, HV, Hs, Hk⟩
  iapply (wp_load 𝒱₀ (c : Thread nD τ) none Set.univ (m := bQ) (Finset.subset_univ _)) $$ Hq; iintro Hq
  iapply (wp_load 𝒱₀ (c : Thread nD τ) none Set.univ (m := oSend) (Finset.subset_univ _)) $$ Hs; iintro Hs
  iapply (store_wp c _ Q); isplitl [Hs]; · iexact Hs
  iintro Hs
  iapply (wp_load 𝒱₀ (c : Thread nD τ) none Set.univ (m := bK) (Finset.subset_univ _)) $$ HK; iintro HK
  iapply (wp_load 𝒱₀ (c : Thread nD τ) none Set.univ (m := bV) (Finset.subset_univ _)) $$ HV; iintro HV
  iapply (wp_load 𝒱₀ (c : Thread nD τ) none Set.univ (m := oSend) (Finset.subset_univ _)) $$ Hs; iintro Hs
  iapply (store_wp c _ Q); isplitl [Hs]; · iexact Hs
  iintro Hs
  iapply (wp_load 𝒱₀ (c : Thread nD τ) none Set.univ (m := oSend) (Finset.subset_univ _)) $$ Hs; iintro Hs
  iapply (store_wp c _ Q); isplitl [Hs]; · iexact Hs
  iintro Hs
  iapply (wp_load 𝒱₀ (c : Thread nD τ) none Set.univ (m := bK) (Finset.subset_univ _)) $$ HK; iintro HK
  iapply Hk
  isplitl [Hq]; · iexact Hq
  isplitl [HK]; · iexact HK
  isplitl [HV]; · iexact HV
  iexact Hs

/-- The second head. -/
theorem part6_wp {α : Type} (c : Dev nD) (q : FVec F S512x1024 .f32) (kk : CK F) (vv : CV F) (f : CSend F)
    (k : (Σ' (v125 : FVec F S512 .f32) (v128 : FVec F S512x128 .bf16), Vec F S1x512x128 .bf16) → P F α) (Q : α → sProp 𝕄) :
    iprop(Pt c cc0_stg3_0 kk ∗ Pt c cc0_stg4_0 vv ∗ Pt c cc0_scratch0 f ∗ ((Pt c cc0_stg3_0 kk ∗ Pt c cc0_stg4_0 vv ∗ Pt c cc0_scratch0 (send6 q kk vv f)) -∗ WP c (k ⟨k0_pay11 q (getK0 kk), k0_pay12 q (getK0 kk) (getV0 vv), getH2 (send6 q kk vv f)⟩) Q))
      ⊢ WP c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 q (getK0 kk) >>= k) Q := by
  rw [k0_part6_eq_skeleton]; unfold k0_part6_skel
  simp only [Prog.lift, Prog.bind_op, Prog.bind_ret, Prog.pure_eq_ret]
  iintro ⟨HK, HV, Hs, Hk⟩
  iapply (wp_load 𝒱₀ (c : Thread nD τ) none Set.univ (m := bV) (Finset.subset_univ _)) $$ HV; iintro HV
  iapply (wp_load 𝒱₀ (c : Thread nD τ) none Set.univ (m := oSend) (Finset.subset_univ _)) $$ Hs; iintro Hs
  iapply (store_wp c _ Q); isplitl [Hs]; · iexact Hs
  iintro Hs
  iapply (wp_load 𝒱₀ (c : Thread nD τ) none Set.univ (m := oSend) (Finset.subset_univ _)) $$ Hs; iintro Hs
  iapply (store_wp c _ Q); isplitl [Hs]; · iexact Hs
  iintro Hs
  iapply (wp_load 𝒱₀ (c : Thread nD τ) none Set.univ (m := bK) (Finset.subset_univ _)) $$ HK; iintro HK
  iapply (wp_load 𝒱₀ (c : Thread nD τ) none Set.univ (m := bV) (Finset.subset_univ _)) $$ HV; iintro HV
  iapply (wp_load 𝒱₀ (c : Thread nD τ) none Set.univ (m := oSend) (Finset.subset_univ _)) $$ Hs; iintro Hs
  iapply Hk
  isplitl [HK]; · iexact HK
  isplitl [HV]; · iexact HV
  iexact Hs

/-- The third and fourth heads. -/
theorem part7_wp {α : Type} (c : Dev nD) (q : FVec F S512x1024 .f32) (v125 : FVec F S512 .f32) (v128 : FVec F S512x128 .bf16) (v129 : Vec F S1x512x128 .bf16) (kk : CK F) (vv : CV F) (f : CSend F)
    (k : (Σ' (v156 : FVec F S2048x128 .bf16), Vec F S1x2048x1x128 .bf16) → P F α) (Q : α → sProp 𝕄) :
    iprop(Pt c cc0_stg3_0 kk ∗ Pt c cc0_stg4_0 vv ∗ Pt c cc0_scratch0 f ∗ ((Pt c cc0_stg3_0 kk ∗ Pt c cc0_stg4_0 vv ∗ Pt c cc0_scratch0 (send7 q v125 v128 kk vv f)) -∗ WP c (k ⟨k0_pay18 (getK1 kk), getV1 vv⟩) Q))
      ⊢ WP c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 q v125 v128 v129 >>= k) Q := by
  rw [k0_part7_eq_skeleton]; unfold k0_part7_skel
  simp only [Prog.lift, Prog.bind_op, Prog.bind_ret, Prog.pure_eq_ret]
  iintro ⟨HK, HV, Hs, Hk⟩
  iapply (store_wp c _ Q); isplitl [Hs]; · iexact Hs
  iintro Hs
  iapply (wp_load 𝒱₀ (c : Thread nD τ) none Set.univ (m := oSend) (Finset.subset_univ _)) $$ Hs; iintro Hs
  iapply (store_wp c _ Q); isplitl [Hs]; · iexact Hs
  iintro Hs
  iapply (wp_load 𝒱₀ (c : Thread nD τ) none Set.univ (m := bK) (Finset.subset_univ _)) $$ HK; iintro HK
  iapply (wp_load 𝒱₀ (c : Thread nD τ) none Set.univ (m := bV) (Finset.subset_univ _)) $$ HV; iintro HV
  iapply (wp_load 𝒱₀ (c : Thread nD τ) none Set.univ (m := oSend) (Finset.subset_univ _)) $$ Hs; iintro Hs
  iapply (store_wp c _ Q); isplitl [Hs]; · iexact Hs
  iintro Hs
  iapply (wp_load 𝒱₀ (c : Thread nD τ) none Set.univ (m := oSend) (Finset.subset_univ _)) $$ Hs; iintro Hs
  iapply (store_wp c _ Q); isplitl [Hs]; · iexact Hs
  iintro Hs
  iapply (wp_load 𝒱₀ (c : Thread nD τ) none Set.univ (m := bK) (Finset.subset_univ _)) $$ HK; iintro HK
  iapply (wp_load 𝒱₀ (c : Thread nD τ) none Set.univ (m := bV) (Finset.subset_univ _)) $$ HV; iintro HV
  iapply Hk
  isplitl [HK]; · iexact HK
  isplitl [HV]; · iexact HV
  iexact Hs

/-- The fifth and sixth heads. -/
theorem part8_wp {α : Type} (c : Dev nD) (q : FVec F S512x1024 .f32) (v156 : FVec F S2048x128 .bf16) (v157 : Vec F S1x2048x1x128 .bf16) (kk : CK F) (vv : CV F) (f : CSend F)
    (k : FVec F S512 .bf16 → P F α) (Q : α → sProp 𝕄) :
    iprop(Pt c cc0_stg3_0 kk ∗ Pt c cc0_stg4_0 vv ∗ Pt c cc0_scratch0 f ∗ ((Pt c cc0_stg3_0 kk ∗ Pt c cc0_stg4_0 vv ∗ Pt c cc0_scratch0 (send8 q v156 v157 kk vv f)) -∗ WP c (k (k0_pay24 q (getK1 kk))) Q))
      ⊢ WP c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 q v156 v157 >>= k) Q := by
  rw [k0_part8_eq_skeleton]; unfold k0_part8_skel
  simp only [Prog.lift, Prog.bind_op, Prog.bind_ret, Prog.pure_eq_ret]
  iintro ⟨HK, HV, Hs, Hk⟩
  iapply (wp_load 𝒱₀ (c : Thread nD τ) none Set.univ (m := oSend) (Finset.subset_univ _)) $$ Hs; iintro Hs
  iapply (store_wp c _ Q); isplitl [Hs]; · iexact Hs
  iintro Hs
  iapply (wp_load 𝒱₀ (c : Thread nD τ) none Set.univ (m := oSend) (Finset.subset_univ _)) $$ Hs; iintro Hs
  iapply (store_wp c _ Q); isplitl [Hs]; · iexact Hs
  iintro Hs
  iapply (wp_load 𝒱₀ (c : Thread nD τ) none Set.univ (m := bK) (Finset.subset_univ _)) $$ HK; iintro HK
  iapply (wp_load 𝒱₀ (c : Thread nD τ) none Set.univ (m := bV) (Finset.subset_univ _)) $$ HV; iintro HV
  iapply (wp_load 𝒱₀ (c : Thread nD τ) none Set.univ (m := oSend) (Finset.subset_univ _)) $$ Hs; iintro Hs
  iapply (store_wp c _ Q); isplitl [Hs]; · iexact Hs
  iintro Hs
  iapply Hk
  isplitl [HK]; · iexact HK
  isplitl [HV]; · iexact HV
  iexact Hs

/-- The seventh head. -/
theorem part9_wp {α : Type} (c : Dev nD) (q : FVec F S512x1024 .f32) (v189 : FVec F S512 .bf16) (kk : CK F) (vv : CV F) (f : CSend F)
    (k : (Σ' (v215 : FVec F S2048x128 .bf16), FVec F S512x2048 .f32) → P F α) (Q : α → sProp 𝕄) :
    iprop(Pt c cc0_stg3_0 kk ∗ Pt c cc0_stg4_0 vv ∗ Pt c cc0_scratch0 f ∗ ((Pt c cc0_stg3_0 kk ∗ Pt c cc0_stg4_0 vv ∗ Pt c cc0_scratch0 (send9 q v189 kk vv f)) -∗ WP c (k ⟨k0_pay29 (getV1 vv), k0_pay30 q (getK1 kk)⟩) Q))
      ⊢ WP c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 q v189 >>= k) Q := by
  rw [k0_part9_eq_skeleton]; unfold k0_part9_skel
  simp only [Prog.lift, Prog.bind_op, Prog.bind_ret, Prog.pure_eq_ret]
  iintro ⟨HK, HV, Hs, Hk⟩
  iapply (wp_load 𝒱₀ (c : Thread nD τ) none Set.univ (m := oSend) (Finset.subset_univ _)) $$ Hs; iintro Hs
  iapply (store_wp c _ Q); isplitl [Hs]; · iexact Hs
  iintro Hs
  iapply (wp_load 𝒱₀ (c : Thread nD τ) none Set.univ (m := bK) (Finset.subset_univ _)) $$ HK; iintro HK
  iapply (wp_load 𝒱₀ (c : Thread nD τ) none Set.univ (m := bV) (Finset.subset_univ _)) $$ HV; iintro HV
  iapply (wp_load 𝒱₀ (c : Thread nD τ) none Set.univ (m := oSend) (Finset.subset_univ _)) $$ Hs; iintro Hs
  iapply (store_wp c _ Q); isplitl [Hs]; · iexact Hs
  iintro Hs
  iapply (wp_load 𝒱₀ (c : Thread nD τ) none Set.univ (m := oSend) (Finset.subset_univ _)) $$ Hs; iintro Hs
  iapply (store_wp c _ Q); isplitl [Hs]; · iexact Hs
  iintro Hs
  iapply (wp_load 𝒱₀ (c : Thread nD τ) none Set.univ (m := bK) (Finset.subset_univ _)) $$ HK; iintro HK
  iapply (wp_load 𝒱₀ (c : Thread nD τ) none Set.univ (m := bV) (Finset.subset_univ _)) $$ HV; iintro HV
  iapply Hk
  isplitl [HK]; · iexact HK
  isplitl [HV]; · iexact HV
  iexact Hs

/-- All planes written. -/
def sendAll (x : CX F) (wq : CQ F) (kk : CK F) (vv : CV F) (f : CSend F) : CSend F :=
  send10 (k0_pay29 (getV1 vv)) (k0_pay30 (act x wq) (getK1 kk)) (send9 (act x wq) (k0_pay24 (act x wq) (getK1 kk)) kk vv
    (send8 (act x wq) (k0_pay18 (getK1 kk)) (getV1 vv) kk vv (send7 (act x wq) (k0_pay11 (act x wq) (getK0 kk)) (k0_pay12 (act x wq) (getK0 kk) (getV0 vv)) kk vv
      (send6 (act x wq) kk vv (send5 x wq kk vv f)))))

/-- The last head, up to the first copy. -/
theorem part10_wp {α : Type} (c : Dev nD) (v : FVec F S2048x128 .bf16) (w : FVec F S512x2048 .f32) (f : CSend F)
    (k : BitVec 32 → P F α) (Q : α → sProp 𝕄) :
    iprop(Pt c cc0_scratch0 f ∗ (Pt c cc0_scratch0 (send10 v w f) -∗ WP c (ones c (opRS c) 0 6 (by decide) (k (cmp c 6))) Q))
      ⊢ WP c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c (me c) v w >>= k) Q := by
  rw [part10_eq]
  simp only [Prog.lift, Prog.bind_op, Prog.bind_ret, Prog.pure_eq_ret, ones_bind]
  iintro ⟨Hs, Hk⟩
  iapply (wp_load 𝒱₀ (c : Thread nD τ) none Set.univ (m := oSend) (Finset.subset_univ _)) $$ Hs; iintro Hs
  iapply (store_wp c _ Q); isplitl [Hs]; · iexact Hs
  iintro Hs
  iapply (wp_load 𝒱₀ (c : Thread nD τ) none Set.univ (m := oSend) (Finset.subset_univ _)) $$ Hs; iintro Hs
  iapply (store_wp c _ Q); isplitl [Hs]; · iexact Hs
  iintro Hs
  iapply Hk
  iexact Hs

end Cert.KernelIdeal.Body
end
-- ==== Proof.KI.Reduce.lean ====
module

public import proofs.«01_k».proof.Proof.KI.Heads

@[expose] public section

noncomputable section

/-! What the device makes of the partial results it receives: the sum over the devices of its own sixteen rows, the
normalisation, and the output projection. -/

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Reads -/

/-- Slot `j` of the receive buffer, as the kernel reads it. -/
def slotV (g : CRecv F) (j : Fin 32) : Vec F S1x9x16x128 .bf16 :=
  oRecv.view.readAt (Elt F) (Rect.unit (s := S32x9x16x128) ![j.val, 0, 0, 0] S1x9x16x128.size (inbSlot j)).toLoadRect g
/-- The device's own rows of its own partial results. -/
def ownV (d : Dev nD) (f : CSend F) : Vec F S9x16x128 .bf16 :=
  oSend.view.readAt (Elt F) (Rect.unit (s := S9x512x128) (k0_off65 d) S9x16x128.size (k0_off65_inb d)).toLoadRect f
theorem inbWo : ∀ (h : Fin 8) a, (![128 * h.val, 0] : Fin 2 → ℕ) a + S128x1024.size a ≤ S1024x1024.size a := by decide +kernel
/-- The rows of the output projection that belong to head `h`. -/
def woV (w : CO F) (h : Fin 8) : Vec F S128x1024 .bf16 :=
  bO.view.readAt (Elt F) (Rect.unit (s := S1024x1024) ![128 * h.val, 0] S128x1024.size (inbWo h)).toLoadRect w

/-! ## The sum over the devices -/

/-- The contribution of device `j`: what the slot holds, and zero if it is the device's own. -/
def contrib (m : BitVec 32) (g : CRecv F) (j : ℕ) : FVec F S9x16x128 .f32 :=
  Scalar.select (Scalar.cmpi .eq m (BitVec.ofNat 32 j)) (broadcast S9x16x128 (Scalar.ofBits .f32 0x00000000#32))
    (extf .f32 (shapeCast S9x16x128 (slotV g (Fin.ofNat 32 j)) shapeCasts_S1x9x16x128_S9x16x128) bitsLt_bf16_f32)
/-- The own rows and the contributions of the first `n` devices, added in order. -/
def acc (m : BitVec 32) (v : FVec F S9x16x128 .f32) (g : CRecv F) : ℕ → FVec F S9x16x128 .f32
  | 0 => v
  | n + 1 => addf (acc m v g n) (contrib m g n)

/-- The sums of the weights, inverted. -/
def recip (t : FVec F S9x16x128 .f32) : FVec F S16x8 .f32 :=
  divf (broadcast S16x8 (Scalar.ofBits .f32 0x3F800000#32))
    (shapeCast S16x8 (extractStridedSlice S1x16x8 ![8, 0, 0] t slices_S9x16x128_o8_0_0_S1x16x8) shapeCasts_S1x16x8_S16x8)
/-- The first head's numerators. -/
def num0 (t : FVec F S9x16x128 .f32) : FVec F S16x128 .f32 :=
  shapeCast S16x128 (extractStridedSlice S1x16x128 ![0, 0, 0] t slices_S9x16x128_o0_0_0_S1x16x128) shapeCasts_S1x16x128_S16x128
/-- The first head's inverse. -/
def rec0 (t : FVec F S9x16x128 .f32) : FVec F S16x1 .f32 :=
  shapeCast S16x1 (shapeCast S16 (extractStridedSlice S16x1 ![0, 0] (recip t) slices_S16x8_o0_0_S16x1) shapeCasts_S16x1_S16) shapeCasts_S16_S16x1
/-- The projection of the first four heads, added. -/
def proj4 (t : FVec F S9x16x128 .f32) (w : CO F) : FVec F S16x1024 .f32 :=
  k0_pay50 t (recip t) (k0_pay47 (F := F)) (num0 t) (rec0 t) (woV w 0) (woV w 1) (woV w 2) (woV w 3)
/-- The projection of all eight heads, added. -/
def proj8 (t : FVec F S9x16x128 .f32) (w : CO F) : FVec F S16x1024 .f32 :=
  k0_pay53 t (recip t) (proj4 t w) (k0_pay51 t) (k0_pay52 (recip t)) (woV w 4) (woV w 5) (woV w 6) (woV w 7)
/-- The sum over all devices of the device's own rows. -/
def total (d : Dev nD) (f : CSend F) (g : CRecv F) : FVec F S9x16x128 .f32 := acc (me d) (k0_pay33 (ownV d f)) g 32
/-- The device's sixteen finished rows. -/
def rows (d : Dev nD) (f : CSend F) (g : CRecv F) (w : CO F) : FVec F S1x16x1024 .f32 := k0_pay54 (proj8 (total d f g) w)

/-! ## The own slot does not matter -/

theorem me_eq : ∀ (d : Dev nD) (j : Fin 32), Scalar.cmpi .eq (me d) (BitVec.ofNat 32 j.val) = 1#1 ↔ j = d := by decide +kernel

theorem contrib_congr (d : Dev nD) {g g' : CRecv F} (h : ∀ j : Fin 32, j ≠ d → slotV g j = slotV g' j) (n : ℕ) (hn : n < 32) :
    contrib (me d) g n = contrib (me d) g' n := by
  have hj : (Fin.ofNat 32 n) = (⟨n, hn⟩ : Fin 32) := Fin.ext (Nat.mod_eq_of_lt hn)
  unfold contrib; rw [hj]
  by_cases hd : (⟨n, hn⟩ : Fin 32) = d
  · have hc := (me_eq d ⟨n, hn⟩).2 hd
    simp only [Scalar.select]; dsimp only at hc; rw [hc]; rfl
  · rw [h _ hd]

theorem acc_congr (d : Dev nD) (v : FVec F S9x16x128 .f32) {g g' : CRecv F} (h : ∀ j : Fin 32, j ≠ d → slotV g j = slotV g' j) :
    ∀ n ≤ 32, acc (me d) v g n = acc (me d) v g' n
  | 0, _ => rfl
  | n + 1, hn => by rw [acc, acc, acc_congr d v h n (by omega), contrib_congr d h n (by omega)]

/-- Receive buffers that agree but for the device's own slot give the same rows. -/
theorem rows_congr (d : Dev nD) (f : CSend F) {g g' : CRecv F} (h : ∀ j : Fin 32, j ≠ d → slotV g j = slotV g' j) (w : CO F) :
    rows d f g w = rows d f g' w := by
  rw [rows, rows, total, total, acc_congr d _ h 32 le_rfl]

/-! ## The steps -/

theorem own_sub (d : Dev nD) : oSend.view.setOn (Rect.unit (s := S9x512x128) (k0_off65 d) S9x16x128.size (k0_off65_inb d)).toLoadRect.set ⊆ (sendM d).view.set := by
  have : ∀ (o o' : Fin 3 → ℕ) (h : o = o') (i : ∀ a, o a + S9x16x128.size a ≤ S9x512x128.size a) (i' : ∀ a, o' a + S9x16x128.size a ≤ S9x512x128.size a),
      oSend.view.setOn (Rect.unit (s := S9x512x128) o S9x16x128.size i).toLoadRect.set
        ⊆ (oSend.slice (Rect.unit (s := S9x512x128) o' S9x16x128.size i') (fun _ => rfl)).view.set := by
    rintro o _ rfl i i'; exact (View.set_slice _ _).symm.subset
  exact this _ _ (k0_off65_eq d) _ _

theorem row_sub (d : Dev nD) : (outB.access (Rect.unit (s := S1x512x1024) (k0_off66 d) S1x16x1024.size (k0_off66_inb d))).set ⊆ (rowM d).view.set := by
  have : ∀ (o o' : Fin 3 → ℕ) (h : o = o') (i : ∀ a, o a + S1x16x1024.size a ≤ S1x512x1024.size a) (i' : ∀ a, o' a + S1x16x1024.size a ≤ S1x512x1024.size a),
      (outB.access (Rect.unit (s := S1x512x1024) o S1x16x1024.size i)).set
        ⊆ ((outB.slice (Rect.unit (s := S1x512x1024) o' S1x16x1024.size i') (fun _ => rfl)).squeeze S16x1024 squeezes_S1x16x1024_S16x1024).view.set := by
    rintro o _ rfl i i'; exact (View.set_reshape _ _).symm.subset
  exact this _ _ (off_row d) _ _

/-- A read of the receive buffer. -/
theorem slot_wp {α : Type} (c : Dev nD) {r : LoadRect S32x9x16x128} {hl : oRecv.view.LoadsAt r}
    {k : (r.shape.Idx → Elt F .bf16) → P F α} (g : CRecv F) (Q : α → sProp 𝕄) :
    iprop(Pt c cc0_scratch1 g ∗ (Pt c cc0_scratch1 g -∗ WP c (k (oRecv.view.readAt (Elt F) r g)) Q)) ⊢ WP c (.op (.load oRecv r hl) k) Q := by
  iintro ⟨Hs, Hk⟩
  iapply (wp_load 𝒱₀ (c : Thread nD τ) none Set.univ (m := oRecv) (r := r) (hl := hl) (f := g) (Finset.subset_univ _)) $$ Hs
  iexact Hk

/-- A read of the output projection. -/
theorem wo_wp {α : Type} (c : Dev nD) {r : LoadRect S1024x1024} {hl : bO.view.LoadsAt r}
    {k : (r.shape.Idx → Elt F .bf16) → P F α} (g : CO F) (Q : α → sProp 𝕄) :
    iprop(Pt c cc0_stg2_0 g ∗ (Pt c cc0_stg2_0 g -∗ WP c (k (bO.view.readAt (Elt F) r g)) Q)) ⊢ WP c (.op (.load bO r hl) k) Q := by
  iintro ⟨Hs, Hk⟩
  iapply (wp_load 𝒱₀ (c : Thread nD τ) none Set.univ (m := bO) (r := r) (hl := hl) (f := g) (Finset.subset_univ _)) $$ Hs
  iexact Hk

/-- The reads that start the sum: the own rows and slot 0. -/
theorem part16_wp {α : Type} (c : Dev nD) (f : CSend F) (g : CRecv F)
    (k : (Σ' (v426 : FVec F S9x16x128 .f32) (v429 : FVec F S9x16x128 .f32), BitVec 32) → P F α) (Q : α → sProp 𝕄) :
    iprop(sendPts c c f ∗ Pt c cc0_scratch1 g ∗ ((sendPts c c f ∗ Pt c cc0_scratch1 g) -∗
        WP c (k ⟨k0_pay33 (ownV c f), k0_pay34 (slotV g 0), 0#32⟩) Q))
      ⊢ WP c ((Prog.lift (.load oSend (Rect.unit (s := S9x512x128) (k0_off65 c) S9x16x128.size (k0_off65_inb c)).toLoadRect (View.loadsAt_vmem h_S9x16x128)) >>= fun v =>
          Prog.lift (.load oRecv (Rect.unit (s := S32x9x16x128) ![0, 0, 0, 0] S1x9x16x128.size inb_S32x9x16x128_S1x9x16x128_0_0_0_0).toLoadRect (View.loadsAt_vmem h_S1x9x16x128)) >>= fun w =>
            pure ⟨k0_pay33 v, k0_pay34 w, 0#32⟩) >>= k) Q := by
  simp only [Prog.lift, Prog.bind_op, Prog.bind_ret, Prog.pure_eq_ret]
  iintro ⟨Hs, Hg, Hk⟩
  iapply (wp_load 𝒱₀ (c : Thread nD τ) none Set.univ (m := oSend) (f := f) (own_sub c)) $$ Hs; iintro Hs
  iapply (slot_wp c g Q); isplitl [Hg]; · iexact Hg
  iintro Hg
  iapply Hk
  isplitl [Hs]; · iexact Hs
  iexact Hg

/-- Slots 1 to 4. -/
theorem part17_wp {α : Type} (c : Dev nD) (m : BitVec 32) (v w : FVec F S9x16x128 .f32) (g : CRecv F)
    (k : FVec F S9x16x128 .f32 → P F α) (Q : α → sProp 𝕄) :
    iprop(Pt c cc0_scratch1 g ∗ (Pt c cc0_scratch1 g -∗ WP c (k (k0_pay35 m v w 0#32 (slotV g 1) (slotV g 2) (slotV g 3) (slotV g 4))) Q))
      ⊢ WP c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m v w 0#32 >>= k) Q := by
  rw [k0_part17_eq_skeleton]; unfold k0_part17_skel
  simp only [Prog.lift, Prog.bind_op, Prog.bind_ret, Prog.pure_eq_ret]
  iintro ⟨Hg, Hk⟩
  iterate 4 (iapply (slot_wp c g Q); isplitl [Hg]; (· iexact Hg); iintro Hg)
  iapply Hk
  iexact Hg

/-- Slots 5 to 9. -/
theorem part18_wp {α : Type} (c : Dev nD) (m : BitVec 32) (v : FVec F S9x16x128 .f32) (g : CRecv F)
    (k : (Σ' (v489 : FVec F S9x16x128 .f32) (v492 : FVec F S9x16x128 .f32) (v493 : BitVec 1), FVec F S9x16x128 .f32) → P F α) (Q : α → sProp 𝕄) :
    iprop(Pt c cc0_scratch1 g ∗ (Pt c cc0_scratch1 g -∗ WP c (k ⟨k0_pay36 m v (slotV g 5) (slotV g 6) (slotV g 7) (slotV g 8), k0_pay37 (slotV g 9), Scalar.cmpi .eq m 9#32, k0_pay38 (F := F)⟩) Q))
      ⊢ WP c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m v >>= k) Q := by
  rw [k0_part18_eq_skeleton]; unfold k0_part18_skel
  simp only [Prog.lift, Prog.bind_op, Prog.bind_ret, Prog.pure_eq_ret]
  iintro ⟨Hg, Hk⟩
  iterate 5 (iapply (slot_wp c g Q); isplitl [Hg]; (· iexact Hg); iintro Hg)
  iapply Hk
  iexact Hg

/-- Slots 10 to 14. -/
theorem part19_wp {α : Type} (c : Dev nD) (m : BitVec 32) (v w : FVec F S9x16x128 .f32) (b : BitVec 1) (z : FVec F S9x16x128 .f32) (g : CRecv F)
    (k : (Σ' (v524 : FVec F S9x16x128 .f32), FVec F S9x16x128 .bf16) → P F α) (Q : α → sProp 𝕄) :
    iprop(Pt c cc0_scratch1 g ∗ (Pt c cc0_scratch1 g -∗ WP c (k ⟨k0_pay39 m v w b z (slotV g 10) (slotV g 11) (slotV g 12) (slotV g 13), k0_pay40 (slotV g 14)⟩) Q))
      ⊢ WP c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m v w b z >>= k) Q := by
  rw [k0_part19_eq_skeleton]; unfold k0_part19_skel
  simp only [Prog.lift, Prog.bind_op, Prog.bind_ret, Prog.pure_eq_ret]
  iintro ⟨Hg, Hk⟩
  iterate 5 (iapply (slot_wp c g Q); isplitl [Hg]; (· iexact Hg); iintro Hg)
  iapply Hk
  iexact Hg

/-- Slots 15 to 18. -/
theorem part20_wp {α : Type} (c : Dev nD) (m : BitVec 32) (v : FVec F S9x16x128 .f32) (w : FVec F S9x16x128 .bf16) (g : CRecv F)
    (k : FVec F S9x16x128 .f32 → P F α) (Q : α → sProp 𝕄) :
    iprop(Pt c cc0_scratch1 g ∗ (Pt c cc0_scratch1 g -∗ WP c (k (k0_pay41 m v w (slotV g 15) (slotV g 16) (slotV g 17) (slotV g 18))) Q))
      ⊢ WP c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m v w >>= k) Q := by
  rw [k0_part20_eq_skeleton]; unfold k0_part20_skel
  simp only [Prog.lift, Prog.bind_op, Prog.bind_ret, Prog.pure_eq_ret]
  iintro ⟨Hg, Hk⟩
  iterate 4 (iapply (slot_wp c g Q); isplitl [Hg]; (· iexact Hg); iintro Hg)
  iapply Hk
  iexact Hg

/-- Slots 19 to 23. -/
theorem part21_wp {α : Type} (c : Dev nD) (m : BitVec 32) (v : FVec F S9x16x128 .f32) (g : CRecv F)
    (k : (Σ' (v587 : FVec F S9x16x128 .f32) (v590 : FVec F S9x16x128 .f32), BitVec 1) → P F α) (Q : α → sProp 𝕄) :
    iprop(Pt c cc0_scratch1 g ∗ (Pt c cc0_scratch1 g -∗ WP c (k ⟨k0_pay42 m v (slotV g 19) (slotV g 20) (slotV g 21) (slotV g 22), k0_pay43 (slotV g 23), Scalar.cmpi .eq m 23#32⟩) Q))
      ⊢ WP c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m v >>= k) Q := by
  rw [k0_part21_eq_skeleton]; unfold k0_part21_skel
  simp only [Prog.lift, Prog.bind_op, Prog.bind_ret, Prog.pure_eq_ret]
  iintro ⟨Hg, Hk⟩
  iterate 5 (iapply (slot_wp c g Q); isplitl [Hg]; (· iexact Hg); iintro Hg)
  iapply Hk
  iexact Hg

/-- Slots 24 to 27. -/
theorem part22_wp {α : Type} (c : Dev nD) (m : BitVec 32) (v w : FVec F S9x16x128 .f32) (b : BitVec 1) (g : CRecv F)
    (k : FVec F S9x16x128 .f32 → P F α) (Q : α → sProp 𝕄) :
    iprop(Pt c cc0_scratch1 g ∗ (Pt c cc0_scratch1 g -∗ WP c (k (k0_pay44 m v w b (slotV g 24) (slotV g 25) (slotV g 26) (slotV g 27))) Q))
      ⊢ WP c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m v w b >>= k) Q := by
  rw [k0_part22_eq_skeleton]; unfold k0_part22_skel
  simp only [Prog.lift, Prog.bind_op, Prog.bind_ret, Prog.pure_eq_ret]
  iintro ⟨Hg, Hk⟩
  iterate 4 (iapply (slot_wp c g Q); isplitl [Hg]; (· iexact Hg); iintro Hg)
  iapply Hk
  iexact Hg

/-- Slots 28 to 31. -/
theorem part23_wp {α : Type} (c : Dev nD) (m : BitVec 32) (v : FVec F S9x16x128 .f32) (g : CRecv F)
    (k : (Σ' (v650 : FVec F S9x16x128 .f32) (v654 : FVec F S16x8 .f32) (v655 : FVec F S16x1024 .f32) (v657 : FVec F S16x128 .f32), FVec F S16x1 .f32) → P F α) (Q : α → sProp 𝕄) :
    iprop(Pt c cc0_scratch1 g ∗ (Pt c cc0_scratch1 g -∗ WP c (k ⟨k0_pay45 m v (slotV g 28) (slotV g 29) (slotV g 30) (slotV g 31), recip (k0_pay45 m v (slotV g 28) (slotV g 29) (slotV g 30) (slotV g 31)), k0_pay47 (F := F), num0 (k0_pay45 m v (slotV g 28) (slotV g 29) (slotV g 30) (slotV g 31)), rec0 (k0_pay45 m v (slotV g 28) (slotV g 29) (slotV g 30) (slotV g 31))⟩) Q))
      ⊢ WP c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m v >>= k) Q := by
  rw [k0_part23_eq_skeleton]; unfold k0_part23_skel
  simp only [Prog.lift, Prog.bind_op, Prog.bind_ret, Prog.pure_eq_ret]
  iintro ⟨Hg, Hk⟩
  iterate 4 (iapply (slot_wp c g Q); isplitl [Hg]; (· iexact Hg); iintro Hg)
  iapply Hk
  iexact Hg

/-- The projection of heads 0 to 3. -/
theorem part24_wp {α : Type} (c : Dev nD) (t : FVec F S9x16x128 .f32) (w : CO F)
    (k : (Σ' (v703 : FVec F S16x1024 .f32) (v705 : FVec F S16x128 .f32), FVec F S16x1 .f32) → P F α) (Q : α → sProp 𝕄) :
    iprop(Pt c cc0_stg2_0 w ∗ (Pt c cc0_stg2_0 w -∗ WP c (k ⟨proj4 t w, k0_pay51 t, k0_pay52 (recip t)⟩) Q))
      ⊢ WP c (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 t (recip t) (k0_pay47 (F := F)) (num0 t) (rec0 t) >>= k) Q := by
  rw [k0_part24_eq_skeleton]; unfold k0_part24_skel
  simp only [Prog.lift, Prog.bind_op, Prog.bind_ret, Prog.pure_eq_ret]
  iintro ⟨Hg, Hk⟩
  iterate 4 (iapply (wo_wp c w Q); isplitl [Hg]; (· iexact Hg); iintro Hg)
  iapply Hk
  iexact Hg

/-- The projection of heads 4 to 7. -/
theorem part25_wp {α : Type} (c : Dev nD) (m : BitVec 32) (t : FVec F S9x16x128 .f32) (w : CO F)
    (k : FVec F S16x1024 .f32 → P F α) (Q : α → sProp 𝕄) :
    iprop(Pt c cc0_stg2_0 w ∗ (Pt c cc0_stg2_0 w -∗ WP c (k (proj8 t w)) Q))
      ⊢ WP c (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m t (recip t) (proj4 t w) (k0_pay51 t) (k0_pay52 (recip t)) >>= k) Q := by
  rw [k0_part25_eq_skeleton]; unfold k0_part25_skel
  simp only [Prog.lift, Prog.bind_op, Prog.bind_ret, Prog.pure_eq_ret]
  iintro ⟨Hg, Hk⟩
  iterate 4 (iapply (wo_wp c w Q); isplitl [Hg]; (· iexact Hg); iintro Hg)
  iapply Hk
  iexact Hg

/-- The slots read one after the other give the sum. -/
theorem total_eq (d : Dev nD) (f : CSend F) (g : CRecv F) :
    k0_pay45 (me d) (k0_pay44 (me d) (k0_pay42 (me d) (k0_pay41 (me d) (k0_pay39 (me d) (k0_pay36 (me d)
      (k0_pay35 (me d) (k0_pay33 (ownV d f)) (k0_pay34 (slotV g 0)) 0#32 (slotV g 1) (slotV g 2) (slotV g 3) (slotV g 4)) (slotV g 5) (slotV g 6) (slotV g 7) (slotV g 8))
      (k0_pay37 (slotV g 9)) (Scalar.cmpi .eq (me d) 9#32) (k0_pay38 (F := F)) (slotV g 10) (slotV g 11) (slotV g 12) (slotV g 13)) (k0_pay40 (slotV g 14)) (slotV g 15) (slotV g 16) (slotV g 17) (slotV g 18)) (slotV g 19) (slotV g 20) (slotV g 21) (slotV g 22))
      (k0_pay43 (slotV g 23)) (Scalar.cmpi .eq (me d) 23#32) (slotV g 24) (slotV g 25) (slotV g 26) (slotV g 27)) (slotV g 28) (slotV g 29) (slotV g 30) (slotV g 31) = total d f g := rfl

/-- The store of the finished rows. -/
theorem part26_wp {α : Type} (c : Dev nD) (v : FVec F S16x1024 .f32) (f : COut F)
    (k : BitVec 1 → P F α) (Q : α → sProp 𝕄) :
    iprop(rowPts c c fullShare f ∗ (rowPts c c fullShare ((outB.access (Rect.unit (s := S1x512x1024) (k0_off66 c) S1x16x1024.size (k0_off66_inb c))).write (Elt F) f (k0_pay54 v) Finset.univ) -∗
        WP c (ones c (opAG c) 0 9 (by decide) (k (Scalar.cmpi .ne (me c) 9#32))) Q))
      ⊢ WP c (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 c (me c) v >>= k) Q := by
  rw [part26_eq]
  simp only [Prog.lift, Prog.bind_op, Prog.bind_ret, Prog.pure_eq_ret, ones_bind]
  iintro ⟨Hs, Hk⟩
  iapply (wp_load 𝒱₀ (c : Thread nD τ) none Set.univ (m := outB) (f := f) ((View.set_slice _ _).symm.subset.trans (row_sub c))) $$ Hs; iintro Hs
  iapply (wp_store 𝒱₀ (c : Thread nD τ) none Set.univ (m := outB) (r := Rect.unit (s := S1x512x1024) (k0_off66 c) S1x16x1024.size (k0_off66_inb c)) (f := f) (Mk := Finset.univ) (row_sub c)) $$ Hs
  iintro Hs
  iapply Hk
  iexact Hs

end Cert.KernelIdeal.Body
end
-- ==== Proof.KI.Contents.lean ====
module

public import proofs.«01_k».proof.Proof.KI.Reduce
public import Idealize.ShloMosaic.Lib.ValueLayout
public import Idealize.ShloMosaic.Lib.Ring

@[expose] public section

noncomputable section

/-! What each buffer holds when the device is done with it, and the cut of the buffers into the blocks of the 32 devices. -/

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-- Where a rectangle of unit stride puts an index. -/
theorem unit_emb {s : Shape} {o z : Fin s.rank → ℕ} {inb : ∀ a, o a + z a ≤ s.size a} {x : (Rect.unit o z inb).shape.Idx} (y : s.Idx)
    (h : ∀ a, (y a).val = o a + (x a).val) : (Rect.unit o z inb).emb x = y :=
  funext fun a => Fin.ext (by rw [Rect.emb_apply, h a]; simp)

/-! ## The blocks -/

/-- The block a row of the partial results belongs to. -/
def sendBlk (i : S9x512x128.Idx) : Fin 32 := ⟨(i 1).val / 16, by have := (i 1).isLt; change (i 1).val < 512 at this; omega⟩
def slotBlk (i : S32x9x16x128.Idx) : Fin 32 := i 0
def rowBlk (i : S1x512x1024.Idx) : Fin 32 := ⟨(i 1).val / 16, by have := (i 1).isLt; change (i 1).val < 512 at this; omega⟩

theorem send_set (j : Fin 32) : (sendM j).view.set = (Rect.unit (s := S9x512x128) ![0, 16 * j.val, 0] S9x16x128.size (inbSend j)).set :=
  View.set_slice_whole _ _
theorem slot_set (j : Fin 32) : (slotM j).view.set = (Rect.unit (s := S32x9x16x128) ![j.val, 0, 0, 0] S1x9x16x128.size (inbSlot j)).set :=
  (View.set_reshape _ _).trans (View.set_slice_whole _ _)
theorem row_set (j : Fin 32) : (rowM j).view.set = (Rect.unit (s := S1x512x1024) ![0, 16 * j.val, 0] S1x16x1024.size (inbRow j)).set :=
  (View.set_reshape _ _).trans (View.set_slice_whole _ _)

theorem mem_send (j : Fin 32) (i : S9x512x128.Idx) : i ∈ (sendM j).view.set ↔ sendBlk i = j := by
  rw [send_set]
  refine Rect.mem_set_unit.trans ⟨fun h => ?_, ?_⟩
  · have h1 : 16 * j.val ≤ (i 1).val ∧ (i 1).val < 16 * j.val + 16 := h 1
    exact Fin.ext (by show (i 1).val / 16 = j.val; omega)
  · rintro rfl a
    match a with
    | ⟨0, _⟩ => exact ⟨Nat.zero_le _, (Nat.zero_add 9).symm ▸ (i 0).isLt⟩
    | ⟨1, _⟩ => show 16 * ((i 1).val / 16) ≤ (i 1).val ∧ (i 1).val < 16 * ((i 1).val / 16) + 16; omega
    | ⟨2, _⟩ => exact ⟨Nat.zero_le _, (Nat.zero_add 128).symm ▸ (i 2).isLt⟩

theorem mem_slot (j : Fin 32) (i : S32x9x16x128.Idx) : i ∈ (slotM j).view.set ↔ slotBlk i = j := by
  rw [slot_set]
  refine Rect.mem_set_unit.trans ⟨fun h => ?_, ?_⟩
  · have h1 : j.val ≤ (i 0).val ∧ (i 0).val < j.val + 1 := h 0
    exact Fin.ext (by show (i 0).val = j.val; omega)
  · rintro rfl a
    match a with
    | ⟨0, _⟩ => exact ⟨le_rfl, Nat.lt_succ_self _⟩
    | ⟨1, _⟩ => exact ⟨Nat.zero_le _, (Nat.zero_add 9).symm ▸ (i 1).isLt⟩
    | ⟨2, _⟩ => exact ⟨Nat.zero_le _, (Nat.zero_add 16).symm ▸ (i 2).isLt⟩
    | ⟨3, _⟩ => exact ⟨Nat.zero_le _, (Nat.zero_add 128).symm ▸ (i 3).isLt⟩

theorem mem_row (j : Fin 32) (i : S1x512x1024.Idx) : i ∈ (rowM j).view.set ↔ rowBlk i = j := by
  rw [row_set]
  refine Rect.mem_set_unit.trans ⟨fun h => ?_, ?_⟩
  · have h1 : 16 * j.val ≤ (i 1).val ∧ (i 1).val < 16 * j.val + 16 := h 1
    exact Fin.ext (by show (i 1).val / 16 = j.val; omega)
  · rintro rfl a
    match a with
    | ⟨0, _⟩ => exact ⟨Nat.zero_le _, (Nat.zero_add 1).symm ▸ (i 0).isLt⟩
    | ⟨1, _⟩ => show 16 * ((i 1).val / 16) ≤ (i 1).val ∧ (i 1).val < 16 * ((i 1).val / 16) + 16; omega
    | ⟨2, _⟩ => exact ⟨Nat.zero_le _, (Nat.zero_add 1024).symm ▸ (i 2).isLt⟩

/-- A buffer held whole is held block by block, the blocks told apart by a function of the index. -/
theorem blocks {ℓ : Loc nD τ sig} (I : Fin 32 → Finset (Idx ℓ)) (b : Idx ℓ → Fin 32) (h : ∀ j i, i ∈ I j ↔ b i = j) (q : PosShare TreeShare)
    (f : Buf (Elt F) ℓ) : (ℓ ↦{q} f : sProp 𝕄) = bigSep Finset.univ fun j => ℓ ↦[I j]{q} f :=
  Ring.pointsTo_blocks I (fun j j' hn => Finset.disjoint_left.2 fun i hi hi' => hn (((h j i).1 hi).symm.trans ((h j' i).1 hi')))
    (Finset.ext fun i => ⟨fun _ => Finset.mem_univ _, fun _ => Finset.mem_biUnion.2 ⟨b i, Finset.mem_univ _, (h _ i).2 rfl⟩⟩) f

/-- A buffer held whole is held block by block. -/
theorem send_blocks (c : Dev nD) (f : CSend F) : (Pt c cc0_scratch0 f : sProp 𝕄) = bigSep Finset.univ fun j : Fin 32 => sendPts c j f :=
  blocks (ℓ := (c : Thread nD τ).loc cc0_scratch0) (fun j : Fin 32 => (sendM j).view.set) sendBlk mem_send fullShare f
theorem slot_blocks (c : Dev nD) (f : CRecv F) : (Pt c cc0_scratch1 f : sProp 𝕄) = bigSep Finset.univ fun j : Fin 32 => slotPts c j f :=
  blocks (ℓ := (c : Thread nD τ).loc cc0_scratch1) (fun j : Fin 32 => (slotM j).view.set) slotBlk mem_slot fullShare f
theorem row_blocks (c : Dev nD) (f : COut F) : (Pt c cc0_stg5_0 f : sProp 𝕄) = bigSep Finset.univ fun j : Fin 32 => rowPts c j fullShare f :=
  blocks (ℓ := (c : Thread nD τ).loc cc0_stg5_0) (fun j : Fin 32 => (rowM j).view.set) rowBlk mem_row fullShare f

/-! ## All of the partial results are written -/

/-- Two contents that agree where `p` holds, after one store of the same values: they agree also where it stored. -/
theorem agree_write {r : Rect S9x512x128} {w : r.shape.Idx → Elt F .bf16} {f g : CSend F} {p q : S9x512x128.Idx → Prop}
    (h : ∀ i, p i → f i = g i) (hq : ∀ i, q i → i ∈ r.set ∨ p i) (i : S9x512x128.Idx) (hi : q i) :
    (oSend.access r).write (Elt F) f w Finset.univ i = (oSend.access r).write (Elt F) g w Finset.univ i := by
  by_cases hm : i ∈ (oSend.access r).set
  · obtain ⟨x, -, rfl⟩ := Finset.mem_map.1 hm
    erw [View.write_emb_of_mem _ _ (Finset.mem_univ x), View.write_emb_of_mem _ _ (Finset.mem_univ x)]
  · erw [View.write_of_not_mem _ _ _ hm, View.write_of_not_mem _ _ _ hm]
    refine h i ((hq i hi).resolve_left fun hr => hm ?_)
    have e : (oSend.access r).set = r.set := View.set_slice_whole _ _
    rw [e]; exact hr

theorem agree_putL {h : ℕ} {i} {w : FVec F S1x512x1 .bf16} {f g : CSend F} {p : S9x512x128.Idx → Prop}
    (H : ∀ i, p i → f i = g i) : ∀ j, p j → putL h i w f j = putL h i w g j :=
  agree_write H fun _ => Or.inr
theorem agree_putH {h : ℕ} {i} {w : FVec F S1x512x128 .bf16} {f g : CSend F} {p : S9x512x128.Idx → Prop}
    (H : ∀ i, p i → f i = g i) : ∀ j : S9x512x128.Idx, ((j 0).val = h ∨ p j) → putH h i w f j = putH h i w g j :=
  agree_write H fun j hj => hj.imp (fun e => Rect.mem_set_unit.2 fun a => by
    match a with
    | ⟨0, _⟩ => subst e; exact ⟨le_rfl, Nat.lt_succ_self _⟩
    | ⟨1, _⟩ => exact ⟨Nat.zero_le _, (Nat.zero_add 512).symm ▸ (j 1).isLt⟩
    | ⟨2, _⟩ => exact ⟨Nat.zero_le _, (Nat.zero_add 128).symm ▸ (j 2).isLt⟩) id

/-- What the buffer held before does not matter. -/
theorem sendAll_congr (x : CX F) (wq : CQ F) (kk : CK F) (vv : CV F) (f g : CSend F) : sendAll x wq kk vv f = sendAll x wq kk vv g := by
  funext j
  unfold sendAll send10 send9 send8 send7 send6 send5
  refine agree_putL (agree_putH (agree_putL (agree_putH (agree_putL (agree_putH (agree_putL (agree_putH (agree_putL (agree_putH
    (agree_putL (agree_putH (agree_putL (agree_putH (agree_putL (agree_putH (agree_putH (p := fun _ => False) fun _ h => h.elim)))))))))))))))) j ?_
  have : (j 0).val < 9 := (j 0).isLt
  omega

/-! ## The contents -/

section Contents
variable (bx : Dev nD → CX F) (bq : Dev nD → CQ F) (bo : Dev nD → CO F) (bk : Dev nD → CK F) (bv : Dev nD → CV F)

/-- Device `c`'s partial results. -/
def OSof (c : Dev nD) : CSend F := sendAll (bx c) (bq c) (bk c) (bv c) fun _ => (Scalar.ofBits .bf16 0#16 : F .bf16)
theorem OSof_eq (c : Dev nD) (f : CSend F) : sendAll (bx c) (bq c) (bk c) (bv c) f = OSof bx bq bk bv c := sendAll_congr _ _ _ _ _ _

theorem gather_lt (d : Dev nD) (r : Fin 16) : 16 * d.val + r.val < 512 := by
  have := d.isLt; change d.val < 32 at this; omega
/-- What device `d` receives: in slot `j`, device `j`'s partial results of the sixteen rows of `d`. -/
def gather (OS : Dev nD → CSend F) (d : Dev nD) : CRecv F :=
  fun i : S32x9x16x128.Idx => OS (i 0) (ix3 (i 1) (⟨16 * d.val + (i 2).val, gather_lt d (i 2)⟩ : Fin 512) (i 3) : S9x512x128.Idx)

theorem gather_read (OS : Dev nD → CSend F) (c d : Dev nD) :
    (slotM c).view.read (Elt F) (gather OS d) = (sendM d).view.read (Elt F) (OS c) := by
  funext x
  obtain ⟨h, r, e, rfl⟩ : ∃ (h : Fin 9) (r : Fin 16) (e : Fin 128), x = ix3 h r e := ⟨x 0, x 1, x 2, funext fun a => by
    match a with
    | ⟨0, _⟩ => rfl
    | ⟨1, _⟩ => rfl
    | ⟨2, _⟩ => rfl⟩
  have e1 : (slotM c).view.emb (ix3 h r e) = (ix4 c h r e : S32x9x16x128.Idx) := by
    show (Rect.unit (s := S32x9x16x128) ![c.val, 0, 0, 0] S1x9x16x128.size (inbSlot c)).emb (Shape.reshapeEquiv _ (ix3 h r e)) = _
    rw [reshapeEquiv_ix3_1abc]
    refine unit_emb _ ?_
    intro a
    match a with
    | ⟨0, _⟩ => rfl
    | ⟨1, _⟩ => exact (Nat.zero_add _).symm
    | ⟨2, _⟩ => exact (Nat.zero_add _).symm
    | ⟨3, _⟩ => exact (Nat.zero_add _).symm
  have e2 : (sendM d).view.emb (ix3 h r e) = (ix3 h (⟨16 * d.val + r.val, gather_lt d r⟩ : Fin 512) e : S9x512x128.Idx) := by
    show (Rect.unit (s := S9x512x128) ![0, 16 * d.val, 0] S9x16x128.size (inbSend d)).emb (ix3 h r e) = _
    refine unit_emb _ ?_
    intro a
    match a with
    | ⟨0, _⟩ => exact (Nat.zero_add _).symm
    | ⟨1, _⟩ => rfl
    | ⟨2, _⟩ => exact (Nat.zero_add _).symm
  rw [View.read_apply, View.read_apply, e1, e2]
  rfl

/-- Device `d`'s receive buffer when the copies have landed. -/
def RVof (d : Dev nD) : CRecv F := gather (OSof bx bq bk bv) d
/-- The result: rows `16 j …` are device `j`'s. -/
def Yof : COut F :=
  fun i : S1x512x1024.Idx => rows (rowBlk i) (OSof bx bq bk bv (rowBlk i)) (RVof bx bq bk bv (rowBlk i)) (bo (rowBlk i))
    (ix3 (0 : Fin 1) (⟨(i 1).val % 16, Nat.mod_lt _ (by decide)⟩ : Fin 16) (i 2) : S1x16x1024.Idx)

/-- The device's store puts its rows of the result in place. -/
theorem store_rows (c : Dev nD) (f : COut F) :
    (rowPts c c fullShare ((outB.access (Rect.unit (s := S1x512x1024) (k0_off66 c) S1x16x1024.size (k0_off66_inb c))).write (Elt F) f
        (rows c (OSof bx bq bk bv c) (RVof bx bq bk bv c) (bo c)) Finset.univ) : sProp 𝕄)
      = rowPts c c fullShare (Yof bx bq bo bk bv) := by
  refine pointsTo_congr fun i hi => ?_
  change S1x512x1024.Idx at i
  have hb : rowBlk i = c := (mem_row c i).1 hi
  have hb' : (i 1).val / 16 = c.val := congrArg Fin.val hb
  have h0 : (i 0).val < 1 := (i 0).isLt
  set x : S1x16x1024.Idx := ix3 (0 : Fin 1) (⟨(i 1).val % 16, Nat.mod_lt _ (by decide)⟩ : Fin 16) (i 2) with hx
  have he : (outB.access (Rect.unit (s := S1x512x1024) (k0_off66 c) S1x16x1024.size (k0_off66_inb c))).emb x = i := by
    show (Rect.unit (s := S1x512x1024) (k0_off66 c) S1x16x1024.size (k0_off66_inb c)).emb x = i
    have : ∀ (o : Fin 3 → ℕ) (h : o = ![0, 16 * c.val, 0]) (i' : ∀ a, o a + S1x16x1024.size a ≤ S1x512x1024.size a),
        (Rect.unit (s := S1x512x1024) o S1x16x1024.size i').emb x = i := by
      rintro _ rfl i'
      refine unit_emb _ ?_
      intro a
      match a with
      | ⟨0, _⟩ => exact (Nat.lt_one_iff.1 h0).trans rfl
      | ⟨1, _⟩ => show (i 1).val = 16 * c.val + (i 1).val % 16; omega
      | ⟨2, _⟩ => exact (Nat.zero_add _).symm
    exact this _ (off_row c) _
  conv_lhs => rw [← he]
  erw [View.write_emb_of_mem _ _ (Finset.mem_univ x)]
  rw [Yof, hb]
  rfl

end Contents

end Cert.KernelIdeal.Body
end
-- ==== Proof.KI.Chain.lean ====
module

public import proofs.«01_k».proof.Proof.KI.Contents

@[expose] public section

set_option maxRecDepth 65536

noncomputable section

/-! The kernel's body as the chain of its parts, cut into four stages. -/

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- From the second exchange to the end. -/
def stage4 (d : Dev nD) (m : BitVec 32) (v : BitVec 1) : P F PUnit :=
  k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d m v >>= fun v => k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d m v >>= fun v => k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d m v >>= fun v =>
  k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m v >>= fun v => k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m v >>= fun v => k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d m v >>= fun v =>
  k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d m v >>= fun v => k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d m v >>= fun _ =>
  twos d (opS1 d) (opS2 d) 25 7 (by decide) (pure ⟨⟩)

/-- The sum of what has arrived, and its projection. -/
def stage3 (d : Dev nD) (m : BitVec 32) (v : BitVec 32) : P F PUnit :=
  k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d m v >>= fun r => k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m r.1 r.2.1 r.2.2 >>= fun v => k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m v >>= fun r =>
  k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m r.1 r.2.1 r.2.2.1 r.2.2.2 >>= fun r => k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m r.1 r.2 >>= fun v => k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m v >>= fun r =>
  k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m r.1 r.2.1 r.2.2 >>= fun v => k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m v >>= fun r =>
  k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 r.1 r.2.1 r.2.2.1 r.2.2.2.1 r.2.2.2.2 >>= fun s => k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m r.1 r.2.1 s.1 s.2.1 s.2.2 >>= fun v =>
  k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d m v >>= fun v => stage4 d m v

/-- The rest of the first exchange. -/
def stage2 (d : Dev nD) (m : BitVec 32) (v : BitVec 32) : P F PUnit :=
  k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d m v >>= fun v => k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d m v >>= fun v => k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d m v >>= fun v =>
  k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m v >>= fun v => k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 m v >>= fun v => stage3 d m v

/-- The eight heads. -/
def stage1 (d : Dev nD) (m : BitVec 32) (v : FVec F S512x1024 .bf16) : P F PUnit :=
  k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 v >>= fun r => k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 r.1 r.2 >>= fun s => k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 r.1 s.1 s.2.1 s.2.2 >>= fun t =>
  k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 r.1 t.1 t.2 >>= fun v => k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 r.1 v >>= fun u => k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 d m u.1 u.2 >>= fun v => stage2 d m v

/-- The whole body. -/
def stage0 : P F PUnit :=
  k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 >>= fun r => k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 r.2.2.1 r.2.2.2 >>= fun _ => k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 r.2.2.1 >>= fun s =>
  k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 r.2.2.1 s.1 s.2 >>= fun v => stage1 r.1 r.2.1 v

theorem bind_of {α β : Type} {p p' : P F α} {g : α → P F β} {q : P F β} (h : p = p') (h' : p' >>= g = q) : p >>= g = q := h ▸ h'

theorem twos_add {α : Type} (d : Dev nD) (e e' : Fin 32 → Eff F) (m : ℕ) : ∀ (n a : ℕ) (h : a + (n + m) ≤ 32) (k : P F α),
    twos d e e' a n (by omega) (twos d e e' (a + n) m (by omega) k) = twos d e e' a (n + m) h k
  | 0, a, h, k => by simp only [twos, Nat.zero_add, Nat.add_zero]
  | n + 1, a, h, k => by
    simp only [Nat.add_right_comm n 1 m, twos]
    rw [← twos_add d e e' m n (a + 1) (by omega) k]
    simp only [Nat.add_assoc, Nat.add_comm 1 n]

theorem twos_congr {α : Type} {d : Dev nD} {e e' : Fin 32 → Eff F} {a n : ℕ} {h : a + n ≤ 32} {k k' : P F α} (hk : k = k') :
    twos d e e' a n h k = twos d e e' a n h k' := hk ▸ rfl

theorem body_eq : cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 = stage0 (F := F) := by
  rw [cc0_body_eq_skeleton]; unfold cc0_body_skel
  rw [k0_part35_eq_skeleton]; unfold k0_part35_skel
  iterate 34 refine (bind_assoc _ _ _).trans (bind_congr fun _ => ?_)
  rename_i x _ _ _ _ _ _ _ _ _ _ _ _ _ _ _ _ _ _ _ _ _ _ _ _ _ _ _ _ _ _ _ _ _
  refine bind_of (p' := twos x.1 (opS1 x.1) (opS2 x.1) 25 4 (by decide) (pure ⟨x.1, x.2.1, Scalar.extui (Scalar.cmpi .ne x.2.1 29#32), 0#32⟩)) ?_ ?_
  · iterate 4 refine step2 (by rfl) (fun _ => by rfl) (fun _ => by rfl) ?_
    rfl
  rw [twos_bind, pure_bind]
  have e := twos_add x.1 (opS1 x.1) (opS2 x.1) 3 4 25 (by decide) (pure ⟨⟩ : P F PUnit)
  refine Eq.trans ?_ e
  refine twos_congr ?_
  iterate 3 refine step2 (by rfl) (fun _ => by rfl) (fun _ => by rfl) ?_
  rfl

end Cert.KernelIdeal.Body
end
-- ==== Proof.KI.Fams.lean ====
module

public import proofs.«01_k».proof.Proof.KI.Contents
public import Idealize.ShloMosaic.Lib.Transfers

@[expose] public section

set_option maxRecDepth 65536

noncomputable section

/-! Splitting and joining the families of assertions over the peers. -/

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem emp_sep_e (P : sProp 𝕄) : iprop(emp ∗ P) = P := emp_sep_eq P

/-- A family over all peers is its member at the device itself and the others. -/
theorem oth_split (c : Dev nD) (Φ : Fin 32 → sProp 𝕄) :
    bigSep Finset.univ Φ = iprop(Φ c ∗ bigSep Finset.univ fun j : Fin 32 => oth c j (Φ j)) := by
  have h1 : bigSep Finset.univ Φ = iprop(Φ c ∗ bigSep (Finset.univ.erase c) Φ) := bigSep_erase (Finset.mem_univ c)
  have h2 : (bigSep Finset.univ fun j : Fin 32 => oth c j (Φ j)) = iprop(oth c c (Φ c) ∗ bigSep (Finset.univ.erase c) fun j : Fin 32 => oth c j (Φ j)) :=
    bigSep_erase (Finset.mem_univ c)
  have h3 : (bigSep (Finset.univ.erase c) fun j : Fin 32 => oth c j (Φ j)) = bigSep (Finset.univ.erase c) Φ :=
    bigSep_congr fun j hj => oth_ne (Finset.mem_erase.mp hj).1 _
  rw [h2, oth_self, h3, h1, emp_sep_e]

/-- Two families over the others, as one. -/
theorem oth_sep (c : Dev nD) (A B : Fin 32 → sProp 𝕄) :
    (bigSep Finset.univ fun j : Fin 32 => oth c j iprop(A j ∗ B j))
      = iprop((bigSep Finset.univ fun j : Fin 32 => oth c j (A j)) ∗ bigSep Finset.univ fun j : Fin 32 => oth c j (B j)) := by
  rw [← bigSep_sep']
  refine bigSep_congr fun j _ => ?_
  by_cases h : j = c
  · subst h; rw [oth_self, oth_self, oth_self, emp_sep_e]
  · rw [oth_ne h, oth_ne h, oth_ne h]

theorem oth_mono (c : Dev nD) {A B : Fin 32 → sProp 𝕄} (h : ∀ j, j ≠ c → A j ⊢ B j) :
    (bigSep Finset.univ fun j : Fin 32 => oth c j (A j)) ⊢ bigSep Finset.univ fun j : Fin 32 => oth c j (B j) :=
  bigSep_mono fun j _ => by
    by_cases e : j = c
    · subst e; rw [oth_self, oth_self]; exact (Entails.of_eq rfl : (iprop(emp) : sProp 𝕄) ⊢ iprop(emp))
    · rw [oth_ne e, oth_ne e]; exact h j e

/-- The received slots of the others and the own one, whatever it holds, are the whole buffer. -/
theorem slots_join (c : Dev nD) (f g : CRecv F) :
    iprop(slotPts c c f ∗ bigSep Finset.univ fun j : Fin 32 => oth c j (slotPts c j g))
      ⊢ (iprop(∃ h : CRecv F, ⌜∀ j : Fin 32, j ≠ c → slotV h j = slotV g j⌝ ∗ Pt c cc0_scratch1 h) : sProp 𝕄) := by
  set h : CRecv F := fun i => if slotBlk i = c then f i else g i with hh
  have e1 : (slotPts c c f : sProp 𝕄) = slotPts c c h := pointsTo_congr fun i hi => by
    rw [hh]; exact (if_pos ((mem_slot c i).1 hi)).symm
  have e2 : ∀ j : Fin 32, j ≠ c → (slotPts c j g : sProp 𝕄) = slotPts c j h := fun j hj => pointsTo_congr fun i hi => by
    have hb : slotBlk i = j := (mem_slot j i).1 hi
    rw [hh]; exact (if_neg (by rw [hb]; exact hj)).symm
  have e3 : ∀ j : Fin 32, j ≠ c → slotV h j = slotV g j := fun j hj => by
    funext x
    have hb : slotBlk ((Rect.unit (s := S32x9x16x128) ![j.val, 0, 0, 0] S1x9x16x128.size (inbSlot j)).emb x) = j := by
      refine Fin.ext ?_
      have h0 : (x 0).val < 1 := (x 0).isLt
      show j.val + 1 * (x 0).val = j.val
      omega
    show h ((Rect.unit (s := S32x9x16x128) ![j.val, 0, 0, 0] S1x9x16x128.size (inbSlot j)).emb x) = g _
    rw [hh]
    exact if_neg (by rw [hb]; exact hj)
  have e4 : (iprop(slotPts c c f ∗ bigSep Finset.univ fun j : Fin 32 => oth c j (slotPts c j g)) : sProp 𝕄) ⊢ Pt c cc0_scratch1 h := by
    rw [slot_blocks, oth_split c (fun j => slotPts c j h), e1]
    have hm : (bigSep Finset.univ fun j : Fin 32 => oth c j (slotPts c j g)) ⊢ (bigSep Finset.univ fun j : Fin 32 => oth c j (slotPts c j h) : sProp 𝕄) :=
      oth_mono c fun j hj => Entails.of_eq (e2 j hj)
    iintro ⟨H1, H2⟩
    isplitl [H1]; · iexact H1
    iapply hm; iexact H2
  iintro H
  iexists h
  isplitr; · ipureintro; exact e3
  iapply e4; iexact H

/-- What the device gives away at the barrier, and what it keeps. -/
theorem give (c : Dev nD) (f : COut F) (g : CRecv F) :
    iprop(Pt c cc0_stg5_0 f ∗ Pt c cc0_scratch1 g)
      ⊢ (iprop(rowPts c c fullShare f ∗ slotPts c c g
          ∗ bigSep Finset.univ fun j : Fin 32 => barPay j c) : sProp 𝕄) := by
  have h : (iprop((bigSep Finset.univ fun j : Fin 32 => oth c j (rowPts c j fullShare f)) ∗ bigSep Finset.univ fun j : Fin 32 => oth c j (slotPts c j g)) : sProp 𝕄)
      ⊢ bigSep Finset.univ fun j : Fin 32 => barPay j c := by
    rw [← oth_sep]
    have hj : ∀ j : Fin 32, (oth c j iprop(rowPts c j fullShare f ∗ slotPts c j g) : sProp 𝕄) ⊢ barPay j c := fun j => by
      unfold barPay
      by_cases e : j = c
      · subst e; rw [oth_self, if_pos rfl]
      rw [oth_ne e, if_neg (Ne.symm e)]
      iintro ⟨Hr, Hs⟩
      isplitl [Hs]; · iexists g; iexact Hs
      iexists f; iexact Hr
    exact bigSep_mono fun j _ => hj j
  rw [row_blocks, slot_blocks, oth_split c, oth_split c (fun j => slotPts c j g)]
  iintro ⟨⟨Ho, Hr⟩, ⟨Hp, Hs⟩⟩
  isplitl [Ho]; · iexact Ho
  isplitl [Hp]; · iexact Hp
  iapply h
  isplitl [Hr]; · iexact Hr
  iexact Hs

/-- What the others give the device at the barrier. -/
theorem got (c : Dev nD) :
    (bigSep Finset.univ fun j : Fin 32 => barPay c j)
      ⊢ (iprop((bigSep Finset.univ fun j : Fin 32 => oth c j iprop(∃ f, slotPts j c f))
          ∗ bigSep Finset.univ fun j : Fin 32 => oth c j iprop(∃ f, rowPts j c fullShare f)) : sProp 𝕄) := by
  rw [← oth_sep]
  refine Entails.of_eq (bigSep_congr fun j _ => rfl)

/-- The finished rows, in one piece per peer and a rest. -/
theorem row_deal (c : Dev nD) (Y : COut F) :
    (rowPts c c fullShare Y : sProp 𝕄)
      = iprop(rowPts c c (Transfers.shareDrop fullShare 32) Y ∗ rowPts c c (piece c) Y
          ∗ bigSep Finset.univ fun j : Fin 32 => oth c j (rowPts c c (piece j) Y)) := by
  rw [← oth_split c fun j => rowPts c c (piece j) Y]
  exact equiv_iff.mp ⟨Transfers.pointsTo_toks_split fullShare 32, Transfers.pointsTo_toks_join fullShare 32⟩

/-- All the rows, when they are all there. -/
theorem rows_join (c : Dev nD) (Y : COut F) :
    (Pt c cc0_stg5_0 Y : sProp 𝕄)
      = iprop(rowPts c c fullShare Y ∗ bigSep Finset.univ fun j : Fin 32 => oth c j (rowPts c j fullShare Y)) := by
  rw [row_blocks, oth_split c]

/-- The blocks sent, and the own one. -/
theorem sends_join (c : Dev nD) (f : CSend F) :
    (Pt c cc0_scratch0 f : sProp 𝕄)
      = iprop(sendPts c c f ∗ bigSep Finset.univ fun j : Fin 32 => oth c j (sendPts c j f)) := by
  rw [send_blocks, oth_split c]

end Cert.KernelIdeal.Body
end
-- ==== Proof.KI.Stages.lean ====
module

public import proofs.«01_k».proof.Proof.KI.Chain
public import proofs.«01_k».proof.Proof.KI.Fams

@[expose] public section

set_option maxRecDepth 65536

noncomputable section

/-! The stages of the body, each from what it needs to what it leaves. -/

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (OS : Dev nD → CSend F) (RV : Dev nD → CRecv F) (Y : COut F) (K : Dev nD × CI → ℕ)

/-- The barrier, and the load of the activations. -/
theorem stage0_wp (c : Dev nD) (x : CX F) (Q : PUnit → sProp 𝕄) :
    iprop(ctx OS RV Y K ∗ (bigSep Finset.univ fun j : Fin 32 => dutyTok ER (cell j none) 0 c) ∗ (bigSep Finset.univ fun j : Fin 32 => barPay j c)
        ∗ atPos ER (cell c none) 0 ∅ 0 ∗ cred (tallyAt (cell c none) () 32) ∗ ow c (OBar c 0) ∗ Pt c cc0_stg0_0 x
        ∗ ((semVal (cell c none) 0 ∗ (bigSep Finset.univ fun j : Fin 32 => barPay c j) ∗ ow c (ORS c 0) ∗ Pt c cc0_stg0_0 x)
            -∗ WP c (stage1 c (me c) (k0_pay1 (getX x))) Q))
      ⊢ WP c (stage0 (F := F)) Q := by
  have hb : (iprop((bigSep Finset.univ fun j : Fin 32 => dutyTok ER (cell j none) 0 c) ∗ (bigSep Finset.univ fun j : Fin 32 => barPay j c)) : sProp 𝕄)
      ⊢ famBar c 0 := by
    unfold famBar
    rw [fam_zero, ← bigSep_sep']
  have ho : (ow c (OBar c 32) : sProp 𝕄) ⊢ ow c (ORS c 0) := by
    unfold OBar; rw [tl_end, add_zero]
  unfold stage0
  simp only [part1_eq, part2_eq, part3_eq, part4_eq, sigs_bind, bind_assoc, pure_bind, Prog.lift, Prog.bind_op, Prog.bind_ret, Prog.pure_eq_ret, WP, wp_deviceId]
  iintro ⟨#HC, Ht, Hp, Hat, Hcr, HO, HX, Hk⟩
  ihave HB := hb $$ [Ht Hp]
  · isplitl [Ht]; · iexact Ht
    iexact Hp
  iapply (bar_wp OS RV Y K c 0 7 _ _ Q)
  isplitr; · iexact HC
  isplitl [HB]; · iexact HB
  isplitl [HO]; · iexact HO
  iintro ⟨HB, HO⟩
  iapply (bar_wp OS RV Y K c 7 9 _ _ Q)
  isplitr; · iexact HC
  isplitl [HB]; · iexact HB
  isplitl [HO]; · iexact HO
  iintro ⟨HB, HO⟩
  iapply (bar_wp OS RV Y K c 16 8 _ _ Q)
  isplitr; · iexact HC
  isplitl [HB]; · iexact HB
  isplitl [HO]; · iexact HO
  iintro ⟨HB, HO⟩
  iapply (bar_wp OS RV Y K c 24 8 _ _ Q)
  isplitr; · iexact HC
  isplitl [HB]; · iexact HB
  isplitl [HO]; · iexact HO
  iintro ⟨HB, HO⟩
  ihave HO := ho $$ HO
  iapply (barwait_wp OS RV Y K c _ Q)
  isplitr; · iexact HC
  isplitl [Hat]; · iexact Hat
  isplitl [Hcr]; · iexact Hcr
  isplitl [HO]; · iexact HO
  iintro ⟨Hv, Hp, HO⟩
  iapply (wp_load 𝒱₀ (c : Thread nD τ) none Set.univ (m := bX) (Finset.subset_univ _)) $$ HX; iintro HX
  iapply Hk
  isplitl [Hv]; · iexact Hv
  isplitl [Hp]; · iexact Hp
  isplitl [HO]; · iexact HO
  iexact HX

/-- The eight heads: the send buffer holds the device's partial results. -/
theorem stage1_wp (c : Dev nD) (x : CX F) (wq : CQ F) (kk : CK F) (vv : CV F) (f : CSend F) (Q : PUnit → sProp 𝕄) :
    iprop(Pt c cc0_stg1_0 wq ∗ Pt c cc0_stg3_0 kk ∗ Pt c cc0_stg4_0 vv ∗ Pt c cc0_scratch0 f
        ∗ ((Pt c cc0_stg1_0 wq ∗ Pt c cc0_stg3_0 kk ∗ Pt c cc0_stg4_0 vv ∗ Pt c cc0_scratch0 (sendAll x wq kk vv f))
            -∗ WP c (ones c (opRS c) 0 6 (by decide) (stage2 c (me c) (cmp c 6))) Q))
      ⊢ WP c (stage1 c (me c) (k0_pay1 (getX x))) Q := by
  unfold stage1
  iintro ⟨HQ, HK, HV, HS, Hk⟩
  iapply (part5_wp c x wq kk vv f _ Q)
  isplitl [HQ]; · iexact HQ
  isplitl [HK]; · iexact HK
  isplitl [HV]; · iexact HV
  isplitl [HS]; · iexact HS
  iintro ⟨HQ, HK, HV, HS⟩
  dsimp only
  iapply (part6_wp c (act x wq) kk vv _ _ Q)
  isplitl [HK]; · iexact HK
  isplitl [HV]; · iexact HV
  isplitl [HS]; · iexact HS
  iintro ⟨HK, HV, HS⟩
  dsimp only
  iapply (part7_wp c (act x wq) _ _ _ kk vv _ _ Q)
  isplitl [HK]; · iexact HK
  isplitl [HV]; · iexact HV
  isplitl [HS]; · iexact HS
  iintro ⟨HK, HV, HS⟩
  dsimp only
  iapply (part8_wp c (act x wq) _ _ kk vv _ _ Q)
  isplitl [HK]; · iexact HK
  isplitl [HV]; · iexact HV
  isplitl [HS]; · iexact HS
  iintro ⟨HK, HV, HS⟩
  iapply (part9_wp c (act x wq) _ kk vv _ _ Q)
  isplitl [HK]; · iexact HK
  isplitl [HV]; · iexact HV
  isplitl [HS]; · iexact HS
  iintro ⟨HK, HV, HS⟩
  dsimp only
  iapply (part10_wp c _ _ _ _ Q)
  isplitl [HS]; · iexact HS
  iintro HS
  iapply Hk
  isplitl [HQ]; · iexact HQ
  isplitl [HK]; · iexact HK
  isplitl [HV]; · iexact HV
  iexact HS

/-- The first exchange. -/
theorem stage2_wp (hRV : ∀ c d : Dev nD, (slotM c).view.read (Elt F) (RV d) = (sendM d).view.read (Elt F) (OS c))
    (c : Dev nD) (Q : PUnit → sProp 𝕄) :
    iprop(ctx OS RV Y K ∗ famRS OS c 0 ∗ famWR RV c 0 ∗ ow c (ORS c 0)
        ∗ ((famRS OS c 32 ∗ famWR RV c 24 ∗ ow c (OAG c 0)) -∗ WP c (stage3 c (me c) (cmp c 24)) Q))
      ⊢ WP c (ones c (opRS c) 0 6 (by decide) (stage2 c (me c) (cmp c 6))) Q := by
  have ho : (ow c (ORS c 32) : sProp 𝕄) ⊢ ow c (OAG c 0) := by
    unfold ORS; rw [tl_end, add_zero]
  unfold stage2
  simp only [part11_eq, part12_eq, part13_eq, part14_eq, part15_eq, ones_bind, pure_bind]
  iintro ⟨#HC, HA, HB, HO, Hk⟩
  iapply (rs_wp OS RV Y K hRV c 0 6 _ _ Q)
  isplitr; · iexact HC
  isplitl [HA]; · iexact HA
  isplitl [HO]; · iexact HO
  iintro ⟨HA, HO⟩
  iapply (rs_wp OS RV Y K hRV c 6 10 _ _ Q)
  isplitr; · iexact HC
  isplitl [HA]; · iexact HA
  isplitl [HO]; · iexact HO
  iintro ⟨HA, HO⟩
  iapply (rs_wp OS RV Y K hRV c 16 10 _ _ Q)
  isplitr; · iexact HC
  isplitl [HA]; · iexact HA
  isplitl [HO]; · iexact HO
  iintro ⟨HA, HO⟩
  iapply (rs_wp OS RV Y K hRV c 26 6 _ _ Q)
  isplitr; · iexact HC
  isplitl [HA]; · iexact HA
  isplitl [HO]; · iexact HO
  iintro ⟨HA, HO⟩
  ihave HO := ho $$ HO
  iapply (wr_wp OS RV Y K c 0 4 _ _ Q)
  isplitr; · iexact HC
  isplitl [HB]; · iexact HB
  isplitl [HO]; · iexact HO
  iintro ⟨HB, HO⟩
  iapply (wr_wp OS RV Y K c 4 10 _ _ Q)
  isplitr; · iexact HC
  isplitl [HB]; · iexact HB
  isplitl [HO]; · iexact HO
  iintro ⟨HB, HO⟩
  iapply (wr_wp OS RV Y K c 14 10 _ _ Q)
  isplitr; · iexact HC
  isplitl [HB]; · iexact HB
  isplitl [HO]; · iexact HO
  iintro ⟨HB, HO⟩
  iapply Hk
  isplitl [HA]; · iexact HA
  isplitl [HB]; · iexact HB
  iexact HO

/-- The sum over the devices, its projection, and the store of the finished rows. -/
theorem stage3_wp (c : Dev nD) (w : CO F) (f0 : CRecv F) (f : COut F)
    (hY : ∀ h : CRecv F, (∀ j : Fin 32, j ≠ c → slotV h j = slotV (RV c) j) →
      (rowPts c c fullShare ((outB.access (Rect.unit (s := S1x512x1024) (k0_off66 c) S1x16x1024.size (k0_off66_inb c))).write (Elt F) f
        (rows c (OS c) h w) Finset.univ) : sProp 𝕄) ⊢ rowPts c c fullShare Y)
    (Q : PUnit → sProp 𝕄) :
    iprop(ctx OS RV Y K ∗ famWR RV c 24 ∗ ow c (OAG c 0) ∗ sendPts c c (OS c) ∗ slotPts c c f0 ∗ Pt c cc0_stg2_0 w ∗ rowPts c c fullShare f
        ∗ (((bigSep Finset.univ fun j : Fin 32 => semVal (cell c (some (1, j))) 0) ∗ ow c (OAG c 0) ∗ sendPts c c (OS c)
              ∗ (∃ g, Pt c cc0_scratch1 g) ∗ Pt c cc0_stg2_0 w ∗ rowPts c c fullShare Y)
            -∗ WP c (ones c (opAG c) 0 9 (by decide) (stage4 c (me c) (Scalar.cmpi .ne (me c) 9#32))) Q))
      ⊢ WP c (stage3 c (me c) (cmp c 24)) Q := by
  have hw : (famWR RV c 32 : sProp 𝕄) ⊢ iprop((bigSep Finset.univ fun j : Fin 32 => semVal (cell c (some (1, j))) 0) ∗ bigSep Finset.univ fun j : Fin 32 => oth c j (slotPts c j (RV c))) := by
    unfold famWR
    rw [fam_end, bigSep_sep']
  unfold stage3
  simp only [part16_eq, ones_bind]
  iintro ⟨#HC, HB, HO, HS, H0, HW, HR, Hk⟩
  iapply (wr_wp OS RV Y K c 24 8 _ _ Q)
  isplitr; · iexact HC
  isplitl [HB]; · iexact HB
  isplitl [HO]; · iexact HO
  iintro ⟨HB, HO⟩
  ihave HB := hw $$ HB
  icases HB with ⟨Hv, HB⟩
  ihave HG := (slots_join c f0 (RV c)) $$ [H0 HB]
  · isplitl [H0]; · iexact H0
    iexact HB
  icases HG with ⟨%h, %hh, HG⟩
  iapply (part16_wp c (OS c) h _ Q)
  isplitl [HS]; · iexact HS
  isplitl [HG]; · iexact HG
  iintro ⟨HS, HG⟩
  dsimp only
  iapply (part17_wp c _ _ _ h _ Q)
  isplitl [HG]; · iexact HG
  iintro HG
  iapply (part18_wp c _ _ h _ Q)
  isplitl [HG]; · iexact HG
  iintro HG
  dsimp only
  iapply (part19_wp c _ _ _ _ _ h _ Q)
  isplitl [HG]; · iexact HG
  iintro HG
  dsimp only
  iapply (part20_wp c _ _ _ h _ Q)
  isplitl [HG]; · iexact HG
  iintro HG
  iapply (part21_wp c _ _ h _ Q)
  isplitl [HG]; · iexact HG
  iintro HG
  dsimp only
  iapply (part22_wp c _ _ _ _ h _ Q)
  isplitl [HG]; · iexact HG
  iintro HG
  iapply (part23_wp c _ _ h _ Q)
  isplitl [HG]; · iexact HG
  iintro HG
  dsimp only
  iapply (part24_wp c _ w _ Q)
  isplitl [HW]; · iexact HW
  iintro HW
  dsimp only
  iapply (part25_wp c _ _ w _ Q)
  isplitl [HW]; · iexact HW
  iintro HW
  rw [total_eq]
  iapply (part26_wp c _ f _ Q)
  isplitl [HR]; · iexact HR
  iintro HR
  iapply Hk
  isplitl [Hv]; · iexact Hv
  isplitl [HO]; · iexact HO
  isplitl [HS]; · iexact HS
  isplitl [HG]; · iexists h; iexact HG
  isplitl [HW]; · iexact HW
  iapply (hY h hh)
  iexact HR

set_option maxHeartbeats 1000000 in
/-- The second exchange, and the waits for the device's own copies. -/
theorem stage4_wp (c : Dev nD) (Q : PUnit → sProp 𝕄) :
    iprop(ctx OS RV Y K ∗ famAG Y c 0 ∗ famWA Y c 0 ∗ famRS OS c 32 ∗ (bigSep Finset.univ fun j : Fin 32 => atPos ER (cell c (some (0, j))) 0 ∅ 0)
        ∗ (bigSep Finset.univ fun j : Fin 32 => atPos ER (cell c (some (2, j))) 0 ∅ 0) ∗ ow c (OAG c 0)
        ∗ (((bigSep Finset.univ fun j : Fin 32 => semVal (cell c (some (3, j))) 0) ∗ (bigSep Finset.univ fun j : Fin 32 => oth c j (rowPts c j fullShare Y))
              ∗ (bigSep Finset.univ fun j : Fin 32 => semVal (cell c (some (0, j))) 0) ∗ (bigSep Finset.univ fun j : Fin 32 => oth c j (sendPts c j (OS c)))
              ∗ (bigSep Finset.univ fun j : Fin 32 => semVal (cell c (some (2, j))) 0) ∗ (bigSep Finset.univ fun j : Fin 32 => oth c j (rowPts c c (piece j) Y))
              ∗ ow c 0) -∗ Q ⟨⟩))
      ⊢ WP c (ones c (opAG c) 0 9 (by decide) (stage4 c (me c) (Scalar.cmpi .ne (me c) 9#32))) Q := by
  have ho : (ow c (OAG c 32) : sProp 𝕄) ⊢ ow c 0 := by
    unfold OAG; rw [tl_end]
  have hs : (iprop(famRS OS c 32 ∗ famAG Y c 32 ∗ (bigSep Finset.univ fun j : Fin 32 => atPos ER (cell c (some (0, j))) 0 ∅ 0)
      ∗ bigSep Finset.univ fun j : Fin 32 => atPos ER (cell c (some (2, j))) 0 ∅ 0) : sProp 𝕄) ⊢ famS OS Y c 0 := by
    unfold famRS famAG famS
    rw [fam_end, fam_end, fam_zero, bigSep_sep', bigSep_sep', bigSep_sep']
    iintro ⟨H1, H2, H3, H4⟩
    isplitl [H1 H3]
    · isplitl [H3]; · iexact H3
      iexact H1
    isplitl [H4]; · iexact H4
    iexact H2
  have he : (famS OS Y c 32 : sProp 𝕄) ⊢ iprop(((bigSep Finset.univ fun j : Fin 32 => semVal (cell c (some (0, j))) 0) ∗ (bigSep Finset.univ fun j : Fin 32 => oth c j (sendPts c j (OS c))))
      ∗ ((bigSep Finset.univ fun j : Fin 32 => semVal (cell c (some (2, j))) 0) ∗ bigSep Finset.univ fun j : Fin 32 => oth c j (rowPts c c (piece j) Y))) := by
    unfold famS
    rw [fam_end, bigSep_sep', bigSep_sep', bigSep_sep']
  have hw : (famWA Y c 32 : sProp 𝕄) ⊢ iprop((bigSep Finset.univ fun j : Fin 32 => semVal (cell c (some (3, j))) 0) ∗ bigSep Finset.univ fun j : Fin 32 => oth c j (rowPts c j fullShare Y)) := by
    unfold famWA
    rw [fam_end, bigSep_sep']
  unfold stage4
  simp only [part27_eq, part28_eq, part29_eq, part30_eq, part31_eq, part32_eq, part33_eq, part34_eq, ones_bind, twos_bind, pure_bind, Prog.pure_eq_ret, Prog.bind_ret]
  iintro ⟨#HC, HA, HB, HR, H0, H2, HO, Hk⟩
  iapply (ag_wp OS RV Y K c 0 9 _ _ Q)
  isplitr; · iexact HC
  isplitl [HA]; · iexact HA
  isplitl [HO]; · iexact HO
  iintro ⟨HA, HO⟩
  iapply (ag_wp OS RV Y K c 9 10 _ _ Q)
  isplitr; · iexact HC
  isplitl [HA]; · iexact HA
  isplitl [HO]; · iexact HO
  iintro ⟨HA, HO⟩
  iapply (ag_wp OS RV Y K c 19 10 _ _ Q)
  isplitr; · iexact HC
  isplitl [HA]; · iexact HA
  isplitl [HO]; · iexact HO
  iintro ⟨HA, HO⟩
  iapply (ag_wp OS RV Y K c 29 3 _ _ Q)
  isplitr; · iexact HC
  isplitl [HA]; · iexact HA
  isplitl [HO]; · iexact HO
  iintro ⟨HA, HO⟩
  ihave HO := ho $$ HO
  iapply (wa_wp OS RV Y K c 0 7 _ _ Q)
  isplitr; · iexact HC
  isplitl [HB]; · iexact HB
  isplitl [HO]; · iexact HO
  iintro ⟨HB, HO⟩
  iapply (wa_wp OS RV Y K c 7 10 _ _ Q)
  isplitr; · iexact HC
  isplitl [HB]; · iexact HB
  isplitl [HO]; · iexact HO
  iintro ⟨HB, HO⟩
  iapply (wa_wp OS RV Y K c 17 10 _ _ Q)
  isplitr; · iexact HC
  isplitl [HB]; · iexact HB
  isplitl [HO]; · iexact HO
  iintro ⟨HB, HO⟩
  iapply (wa_wp OS RV Y K c 27 5 _ _ Q)
  isplitr; · iexact HC
  isplitl [HB]; · iexact HB
  isplitl [HO]; · iexact HO
  iintro ⟨HB, HO⟩
  ihave HS := hs $$ [HA HR H0 H2]
  · isplitl [HR]; · iexact HR
    isplitl [HA]; · iexact HA
    isplitl [H0]; · iexact H0
    iexact H2
  iapply (s_wp OS RV Y K c 0 5 _ _ Q)
  isplitr; · iexact HC
  isplitl [HS]; · iexact HS
  isplitl [HO]; · iexact HO
  iintro ⟨HS, HO⟩
  iapply (s_wp OS RV Y K c 5 10 _ _ Q)
  isplitr; · iexact HC
  isplitl [HS]; · iexact HS
  isplitl [HO]; · iexact HO
  iintro ⟨HS, HO⟩
  iapply (s_wp OS RV Y K c 15 10 _ _ Q)
  isplitr; · iexact HC
  isplitl [HS]; · iexact HS
  isplitl [HO]; · iexact HO
  iintro ⟨HS, HO⟩
  iapply (s_wp OS RV Y K c 25 7 _ _ Q)
  isplitr; · iexact HC
  isplitl [HS]; · iexact HS
  isplitl [HO]; · iexact HO
  iintro ⟨HS, HO⟩
  ihave HS := he $$ HS
  ihave HB := hw $$ HB
  icases HS with ⟨⟨Hv0, HS⟩, ⟨Hv2, HP⟩⟩
  icases HB with ⟨Hv3, HB⟩
  unfold WP; rw [wp_ret]; imodintro
  iapply Hk
  isplitl [Hv3]; · iexact Hv3
  isplitl [HB]; · iexact HB
  isplitl [Hv0]; · iexact Hv0
  isplitl [HS]; · iexact HS
  isplitl [Hv2]; · iexact Hv2
  isplitl [HP]; · iexact HP
  iexact HO

end Body

end Cert.KernelIdeal.Body
end
-- ==== Proof.KI.Body.lean ====
module

public import proofs.«01_k».proof.Proof.KI.Stages

@[expose] public section

set_option maxRecDepth 65536

noncomputable section

/-! The whole body of one device. -/

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem sep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem erase_none : (Finset.univ.erase none : Finset CI) = (Finset.univ : Finset (Fin 4 × Fin 32)).map Function.Embedding.some := by
  ext k
  cases k with
  | none => simp
  | some k => simp
/-- A family over a device's cells: the barrier's member and the others. -/
theorem cells_opt (Φ : CI → sProp 𝕄) :
    bigSep Finset.univ Φ = iprop(Φ none ∗ bigSep Finset.univ fun k : Fin 4 × Fin 32 => Φ (some k)) := by
  have h1 : bigSep Finset.univ Φ = iprop(Φ none ∗ bigSep (Finset.univ.erase none) Φ) := bigSep_erase (Finset.mem_univ none)
  rw [h1, erase_none, bigSep_map]
  rfl
/-- A family over a device's cells, one peer family per kind of cell. -/
theorem cells_split (Φ : CI → sProp 𝕄) :
    bigSep Finset.univ Φ = iprop(Φ none ∗ (bigSep Finset.univ fun j : Fin 32 => Φ (some (0, j))) ∗ (bigSep Finset.univ fun j : Fin 32 => Φ (some (1, j)))
      ∗ (bigSep Finset.univ fun j : Fin 32 => Φ (some (2, j))) ∗ bigSep Finset.univ fun j : Fin 32 => Φ (some (3, j))) := by
  rw [cells_opt, bigSep_univ_prod, sep_fin4]

/-- The tokens of the duties device `c` pays. -/
def payToks (c : Dev nD) : sProp 𝕄 :=
  iprop((bigSep Finset.univ fun j : Fin 32 => dutyTok ER (cell j none) 0 c)
    ∗ (bigSep Finset.univ fun j : Fin 32 => oth c j (dutyTok ER (cell c (some (0, j))) 0 0))
    ∗ (bigSep Finset.univ fun j : Fin 32 => oth c j (dutyTok ER (cell j (some (1, c))) 0 0))
    ∗ (bigSep Finset.univ fun j : Fin 32 => oth c j (dutyTok ER (cell c (some (2, j))) 0 0))
    ∗ (bigSep Finset.univ fun j : Fin 32 => oth c j (dutyTok ER (cell j (some (3, c))) 0 0)))
/-- The credit of what device `c`'s cells are paid by others. -/
def creds (c : Dev nD) : sProp 𝕄 :=
  iprop(cred (tallyAt (cell c none) () 32)
    ∗ (bigSep Finset.univ fun j : Fin 32 => oth c j (cred (tallyAt (cell c (some (1, j))) () N)))
    ∗ (bigSep Finset.univ fun j : Fin 32 => oth c j (cred (tallyAt (cell c (some (3, j))) () N'))))

section Whole
variable (bx : Dev nD → CX F) (bq : Dev nD → CQ F) (bo : Dev nD → CO F) (bk : Dev nD → CK F) (bv : Dev nD → CV F)
variable (K : Dev nD × CI → ℕ)

/-- The whole body of device `c`: it leaves the result in its output buffer and every semaphore at zero. -/
theorem body_wp (c : Dev nD) (f5 : COut F) (f : CSend F) (g : CRecv F) (Q : PUnit → sProp 𝕄) :
    iprop(ctx (OSof bx bq bk bv) (RVof bx bq bk bv) (Yof bx bq bo bk bv) K
        ∗ (bigSep Finset.univ fun k : CI => atPos ER (cell c k) 0 ∅ 0) ∗ payToks c ∗ creds c ∗ ow c (OBar c 0)
        ∗ Pt c cc0_stg0_0 (bx c) ∗ Pt c cc0_stg1_0 (bq c) ∗ Pt c cc0_stg2_0 (bo c) ∗ Pt c cc0_stg3_0 (bk c) ∗ Pt c cc0_stg4_0 (bv c)
        ∗ Pt c cc0_stg5_0 f5 ∗ Pt c cc0_scratch0 f ∗ Pt c cc0_scratch1 g
        ∗ (((bigSep Finset.univ fun k : CI => semVal (cell c k) 0) ∗ ow c 0
            ∗ Pt c cc0_stg0_0 (bx c) ∗ Pt c cc0_stg1_0 (bq c) ∗ Pt c cc0_stg2_0 (bo c) ∗ Pt c cc0_stg3_0 (bk c) ∗ Pt c cc0_stg4_0 (bv c)
            ∗ Pt c cc0_stg5_0 (Yof bx bq bo bk bv) ∗ (∃ f, Pt c cc0_scratch0 f) ∗ ∃ g, Pt c cc0_scratch1 g) -∗ Q ⟨⟩))
      ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5) Q := by
  have hRS : (iprop((bigSep Finset.univ fun j : Fin 32 => oth c j (dutyTok ER (cell c (some (0, j))) 0 0))
        ∗ (bigSep Finset.univ fun j : Fin 32 => oth c j (dutyTok ER (cell j (some (1, c))) 0 0))
        ∗ (bigSep Finset.univ fun j : Fin 32 => oth c j (sendPts c j (OSof bx bq bk bv c)))
        ∗ bigSep Finset.univ fun j : Fin 32 => oth c j iprop(∃ f, slotPts j c f)) : sProp 𝕄) ⊢ famRS (OSof bx bq bk bv) c 0 := by
    unfold famRS
    rw [fam_zero, oth_sep, oth_sep, oth_sep]
  have hWR : (iprop((bigSep Finset.univ fun j : Fin 32 => atPos ER (cell c (some (1, j))) 0 ∅ 0)
        ∗ bigSep Finset.univ fun j : Fin 32 => oth c j (cred (tallyAt (cell c (some (1, j))) () N))) : sProp 𝕄) ⊢ famWR (RVof bx bq bk bv) c 0 := by
    unfold famWR
    rw [fam_zero, bigSep_sep']
  have hAG : (iprop((bigSep Finset.univ fun j : Fin 32 => oth c j (dutyTok ER (cell c (some (2, j))) 0 0))
        ∗ (bigSep Finset.univ fun j : Fin 32 => oth c j (dutyTok ER (cell j (some (3, c))) 0 0))
        ∗ (bigSep Finset.univ fun j : Fin 32 => oth c j (rowPts c c (piece j) (Yof bx bq bo bk bv)))
        ∗ bigSep Finset.univ fun j : Fin 32 => oth c j iprop(∃ f, rowPts j c fullShare f)) : sProp 𝕄) ⊢ famAG (Yof bx bq bo bk bv) c 0 := by
    unfold famAG
    rw [fam_zero, oth_sep, oth_sep, oth_sep]
  have hWA : (iprop((bigSep Finset.univ fun j : Fin 32 => atPos ER (cell c (some (3, j))) 0 ∅ 0)
        ∗ bigSep Finset.univ fun j : Fin 32 => oth c j (cred (tallyAt (cell c (some (3, j))) () N'))) : sProp 𝕄) ⊢ famWA (Yof bx bq bo bk bv) c 0 := by
    unfold famWA
    rw [fam_zero, bigSep_sep']
  rw [body_eq, cells_split (fun k => atPos ER (cell c k) 0 ∅ 0), cells_split (fun k => semVal (cell c k) 0)]
  unfold payToks creds
  iintro ⟨#HC, ⟨Hat, Ha0, Ha1, Ha2, Ha3⟩, ⟨HtB, Ht0, Ht1, Ht2, Ht3⟩, ⟨HcB, Hc1, Hc3⟩, HO, HX, HQ, HW, HK, HV, HY, HS, HG, Hk⟩
  ihave Hgive := (give c f5 g) $$ [HY HG]
  · isplitl [HY]; · iexact HY
    iexact HG
  icases Hgive with ⟨HY, HG, Hp⟩
  iapply (stage0_wp (OSof bx bq bk bv) (RVof bx bq bk bv) (Yof bx bq bo bk bv) K c (bx c) Q)
  isplitr; · iexact HC
  isplitl [HtB]; · iexact HtB
  isplitl [Hp]; · iexact Hp
  isplitl [Hat]; · iexact Hat
  isplitl [HcB]; · iexact HcB
  isplitl [HO]; · iexact HO
  isplitl [HX]; · iexact HX
  iintro ⟨HvB, Hp, HO, HX⟩
  ihave Hgot := (got c) $$ Hp
  icases Hgot with ⟨Hps, Hpr⟩
  iapply (stage1_wp c (bx c) (bq c) (bk c) (bv c) f Q)
  isplitl [HQ]; · iexact HQ
  isplitl [HK]; · iexact HK
  isplitl [HV]; · iexact HV
  isplitl [HS]; · iexact HS
  iintro ⟨HQ, HK, HV, HS⟩
  rw [OSof_eq]
  ihave HS := (Entails.of_eq (sends_join c (OSof bx bq bk bv c))) $$ HS
  icases HS with ⟨HS, HSo⟩
  ihave HA := hRS $$ [Ht0 Ht1 HSo Hps]
  · isplitl [Ht0]; · iexact Ht0
    isplitl [Ht1]; · iexact Ht1
    isplitl [HSo]; · iexact HSo
    iexact Hps
  ihave HB := hWR $$ [Ha1 Hc1]
  · isplitl [Ha1]; · iexact Ha1
    iexact Hc1
  iapply (stage2_wp (OSof bx bq bk bv) (RVof bx bq bk bv) (Yof bx bq bo bk bv) K (gather_read (OSof bx bq bk bv)) c Q)
  isplitr; · iexact HC
  isplitl [HA]; · iexact HA
  isplitl [HB]; · iexact HB
  isplitl [HO]; · iexact HO
  iintro ⟨HA, HB, HO⟩
  iapply (stage3_wp (OSof bx bq bk bv) (RVof bx bq bk bv) (Yof bx bq bo bk bv) K c (bo c) g f5 (fun h hh => by
    rw [rows_congr c (OSof bx bq bk bv c) hh, store_rows]) Q)
  isplitr; · iexact HC
  isplitl [HB]; · iexact HB
  isplitl [HO]; · iexact HO
  isplitl [HS]; · iexact HS
  isplitl [HG]; · iexact HG
  isplitl [HW]; · iexact HW
  isplitl [HY]; · iexact HY
  iintro ⟨Hv1, HO, HS, HG, HW, HY⟩
  ihave HY := (Entails.of_eq (row_deal c (Yof bx bq bo bk bv))) $$ HY
  icases HY with ⟨Hdrop, Hown, Hpieces⟩
  ihave HAG := hAG $$ [Ht2 Ht3 Hpieces Hpr]
  · isplitl [Ht2]; · iexact Ht2
    isplitl [Ht3]; · iexact Ht3
    isplitl [Hpieces]; · iexact Hpieces
    iexact Hpr
  ihave HWA := hWA $$ [Ha3 Hc3]
  · isplitl [Ha3]; · iexact Ha3
    iexact Hc3
  iapply (stage4_wp (OSof bx bq bk bv) (RVof bx bq bk bv) (Yof bx bq bo bk bv) K c Q)
  isplitr; · iexact HC
  isplitl [HAG]; · iexact HAG
  isplitl [HWA]; · iexact HWA
  isplitl [HA]; · iexact HA
  isplitl [Ha0]; · iexact Ha0
  isplitl [Ha2]; · iexact Ha2
  isplitl [HO]; · iexact HO
  iintro ⟨Hv3, HR, Hv0, HSo, Hv2, Hpieces, HO⟩
  ihave HY := (Entails.of_eq (row_deal c (Yof bx bq bo bk bv)).symm) $$ [Hdrop Hown Hpieces]
  · isplitl [Hdrop]; · iexact Hdrop
    isplitl [Hown]; · iexact Hown
    iexact Hpieces
  ihave HY := (Entails.of_eq (rows_join c (Yof bx bq bo bk bv)).symm) $$ [HY HR]
  · isplitl [HY]; · iexact HY
    iexact HR
  ihave HS := (Entails.of_eq (sends_join c (OSof bx bq bk bv c)).symm) $$ [HS HSo]
  · isplitl [HS]; · iexact HS
    iexact HSo
  iapply Hk
  isplitl [HvB Hv0 Hv1 Hv2 Hv3]
  · isplitl [HvB]; · iexact HvB
    isplitl [Hv0]; · iexact Hv0
    isplitl [Hv1]; · iexact Hv1
    isplitl [Hv2]; · iexact Hv2
    iexact Hv3
  isplitl [HO]; · iexact HO
  isplitl [HX]; · iexact HX
  isplitl [HQ]; · iexact HQ
  isplitl [HW]; · iexact HW
  isplitl [HK]; · iexact HK
  isplitl [HV]; · iexact HV
  isplitl [HY]; · iexact HY
  isplitl [HS]; · iexists _; iexact HS
  iexact HG

end Whole

end Cert.KernelIdeal.Body
end
-- ==== Proof.KI.Deal.lean ====
module

public import proofs.«01_k».proof.Proof.KI.Body

@[expose] public section

set_option maxRecDepth 65536

noncomputable section

/-! How the tokens and the credit made at the launch are dealt to the devices: each device gets the tokens of the duties it pays, and the credit of what its own cells are paid. -/

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The tokens -/

/-- The duties of device `c`'s own cells: its barrier is paid by every device, each other cell once. -/
abbrev tokOf (x : Dev nD × (Option (Fin 4) × Fin 32)) : GSem nD τ sig × ℕ × Fin 32 := match x.2.1 with
  | none => (cell x.1 none, 0, x.2.2)
  | some k => (cell x.1 (some (k, x.2.2)), 0, 0)
theorem tokOf_inj : Function.Injective tokOf := by
  rintro ⟨c, k, j⟩ ⟨d, l, i⟩ h
  rcases k with _ | k <;> rcases l with _ | l
  · obtain ⟨h1, -⟩ := cell_inj (congrArg Prod.fst h)
    have h2 : j = i := congrArg (fun x : GSem nD τ sig × ℕ × Fin 32 => x.2.2) h
    exact Prod.ext h1 (Prod.ext rfl h2)
  · exact absurd (cell_inj (congrArg Prod.fst h)).2 (by simp)
  · exact absurd (cell_inj (congrArg Prod.fst h)).2 (by simp)
  · obtain ⟨h1, h2⟩ := cell_inj (congrArg Prod.fst h)
    have h3 : (k, j) = (l, i) := Option.some.inj h2
    have h4 : k = l := congrArg Prod.fst h3
    have h5 : j = i := congrArg Prod.snd h3
    exact Prod.ext h1 (Prod.ext (congrArg some h4) h5)
def allToks : Finset (GSem nD τ sig × ℕ × Fin 32) := Finset.univ.map ⟨tokOf, tokOf_inj⟩

theorem gcell_inj : Function.Injective (fun ck : Dev nD × CI => cell ck.1 ck.2) := by
  rintro ⟨c, k⟩ ⟨d, l⟩ h
  obtain ⟨h1, h2⟩ := cell_inj h
  exact Prod.ext h1 h2
def allCells : Finset (GSem nD τ sig) := Finset.univ.map ⟨fun ck : Dev nD × CI => cell ck.1 ck.2, gcell_inj⟩

/-- The tokens of device `c`'s own cells. -/
def toks (c : Dev nD) : sProp 𝕄 :=
  iprop((bigSep Finset.univ fun d : Fin 32 => dutyTok ER (cell c none) 0 d)
    ∗ (bigSep Finset.univ fun j : Fin 32 => dutyTok ER (cell c (some (0, j))) 0 0)
    ∗ (bigSep Finset.univ fun j : Fin 32 => dutyTok ER (cell c (some (1, j))) 0 0)
    ∗ (bigSep Finset.univ fun j : Fin 32 => dutyTok ER (cell c (some (2, j))) 0 0)
    ∗ (bigSep Finset.univ fun j : Fin 32 => dutyTok ER (cell c (some (3, j))) 0 0))

theorem sep_opt4 (Φ : Option (Fin 4) → sProp 𝕄) : bigSep Finset.univ Φ = iprop(Φ none ∗ Φ (some 0) ∗ Φ (some 1) ∗ Φ (some 2) ∗ Φ (some 3)) :=
  bigSep_univ_eq_bigSepL [none, some 0, some 1, some 2, some 3] (by decide) (by decide) Φ

theorem toks_eq : bigSep allToks (fun x => (dutyTok ER x.1 x.2.1 x.2.2 : sProp 𝕄)) = bigSep Finset.univ fun c : Dev nD => toks c := by
  unfold allToks
  rw [bigSep_map, bigSep_univ_prod]
  refine bigSep_congr fun c _ => ?_
  rw [bigSep_univ_prod, sep_opt4]
  rfl
theorem cells_eq (Φ : GSem nD τ sig → sProp 𝕄) :
    bigSep allCells Φ = bigSep Finset.univ fun c : Dev nD => bigSep Finset.univ fun k : CI => Φ (cell c k) := by
  unfold allCells
  rw [bigSep_map, bigSep_univ_prod]
  rfl

/-- The own member of a family over the peers can be dropped. -/
theorem drop_own (c : Dev nD) (Φ : Fin 32 → sProp 𝕄) : bigSep Finset.univ Φ ⊢ bigSep Finset.univ fun j : Fin 32 => oth c j (Φ j) := by
  rw [oth_split c Φ]
  iintro ⟨-, H⟩
  iexact H

/-- A token of a cell goes to the device that pays it. -/
theorem toks_dealt : (bigSep Finset.univ fun c : Dev nD => (toks c : sProp 𝕄)) ⊢ bigSep Finset.univ fun c : Dev nD => payToks c := by
  have hs (k : Fin 4) : (bigSep Finset.univ fun c : Dev nD => bigSep Finset.univ fun j : Fin 32 => (dutyTok ER (cell c (some (k, j))) 0 0 : sProp 𝕄))
      ⊢ bigSep Finset.univ fun c : Dev nD => bigSep Finset.univ fun j : Fin 32 => oth c j (dutyTok ER (cell c (some (k, j))) 0 0) :=
    bigSep_mono fun c _ => drop_own c _
  have hr (k : Fin 4) : (bigSep Finset.univ fun c : Dev nD => bigSep Finset.univ fun j : Fin 32 => (dutyTok ER (cell c (some (k, j))) 0 0 : sProp 𝕄))
      ⊢ bigSep Finset.univ fun c : Dev nD => bigSep Finset.univ fun j : Fin 32 => oth c j (dutyTok ER (cell j (some (k, c))) 0 0) :=
    (Entails.of_eq (bigSep_univ_comm fun (c : Dev nD) (j : Fin 32) => (dutyTok ER (cell c (some (k, j))) 0 0 : sProp 𝕄))).trans
      (bigSep_mono fun c _ => drop_own c _)
  unfold toks payToks
  rw [bigSep_sep', bigSep_sep', bigSep_sep', bigSep_sep', bigSep_sep', bigSep_sep', bigSep_sep', bigSep_sep',
    bigSep_univ_comm fun (c : Dev nD) (d : Fin 32) => (dutyTok ER (cell c none) 0 d : sProp 𝕄)]
  iintro ⟨HB, H0, H1, H2, H3⟩
  isplitl [HB]; · iexact HB
  isplitl [H0]; · iapply (hs 0); iexact H0
  isplitl [H1]; · iapply (hr 1); iexact H1
  isplitl [H2]; · iapply (hs 2); iexact H2
  iapply (hr 3); iexact H3

/-! ## The credit -/

theorem tl_at (f : Fin 32 → T) (g : GSem nD τ sig) : tl f 0 g () = ∑ j, f j g () := by
  unfold tl
  rw [Finset.filter_true_of_mem fun j _ => Nat.zero_le _, Finset.sum_apply, Finsupp.finset_sum_apply]
theorem sum_zero_of {f : Fin 32 → T} {g : GSem nD τ sig} (h : ∀ j, ¬ 0 < f j g ()) : tl f 0 g () = 0 := by
  rw [tl_at]
  exact Finset.sum_eq_zero fun j _ => Nat.le_zero.mp (not_lt.mp (h j))
theorem OBar_at (d : Dev nD) (g : GSem nD τ sig) : OBar d 0 g () = tl (tAG d) 0 g () + tl (tRS d) 0 g () + tl (tBar d) 0 g () := by
  unfold OBar ORS OAG
  rw [Pi.add_apply, Finsupp.add_apply, Pi.add_apply, Finsupp.add_apply]
theorem ne_cell {a b : Dev nD} {k l : CI} (h : k ≠ l) : cell a k ≠ cell b l := fun h' => h (cell_inj h').2

/-- Every device owes every barrier one unit, -/
theorem owed_bar (d c : Dev nD) : OBar d 0 (cell c none) () = 1 := by
  rw [OBar_at, sum_zero_of fun j h => ne_cell (by simp) (tAG_pos h), sum_zero_of fun j h => ne_cell (by simp) (tRS_pos h), tl_at,
    Finset.sum_eq_single c]
  · unfold tBar; rw [tallyAt_apply, if_pos ⟨rfl, rfl⟩]
  · intro j _ hj
    unfold tBar; rw [tallyAt_apply, if_neg fun h => hj (cell_inj h.1).1.symm]
  · exact fun h => absurd (Finset.mem_univ _) h
/-- the cell of device `c` that peer `j` pays in the first exchange its block's credit, -/
theorem owed_rs {c j : Dev nD} (hj : j ≠ c) (d : Dev nD) : OBar d 0 (cell c (some (1, j))) () = if d = j then N else 0 := by
  rw [OBar_at, sum_zero_of (f := tAG d) fun i h => ne_cell (by simp) (tAG_pos h), sum_zero_of (f := tBar d) fun i h => ne_cell (by simp) (tBar_pos h), tl_at,
    Finset.sum_eq_single c]
  · unfold tRS
    by_cases h : d = j
    · subst h; rw [if_neg hj.symm, tallyAt_apply, if_pos ⟨rfl, rfl⟩, if_pos rfl]; rfl
    · rw [if_neg h]
      split
      · rfl
      · rw [tallyAt_apply, if_neg fun h' => h (Prod.mk.inj (Option.some.inj (cell_inj h'.1).2)).2.symm]
  · intro i _ hi
    unfold tRS
    split
    · rfl
    · rw [tallyAt_apply, if_neg fun h => hi (cell_inj h.1).1.symm]
  · exact fun h => absurd (Finset.mem_univ _) h
/-- and the same in the second. -/
theorem owed_ag {c j : Dev nD} (hj : j ≠ c) (d : Dev nD) : OBar d 0 (cell c (some (3, j))) () = if d = j then N' else 0 := by
  rw [OBar_at, sum_zero_of (f := tRS d) fun i h => ne_cell (by simp) (tRS_pos h), sum_zero_of (f := tBar d) fun i h => ne_cell (by simp) (tBar_pos h), tl_at,
    Finset.sum_eq_single c]
  · unfold tAG
    by_cases h : d = j
    · subst h; rw [if_neg hj.symm, tallyAt_apply, if_pos ⟨rfl, rfl⟩, if_pos rfl]; rfl
    · rw [if_neg h]
      split
      · rfl
      · rw [tallyAt_apply, if_neg fun h' => h (Prod.mk.inj (Option.some.inj (cell_inj h'.1).2)).2.symm]
  · intro i _ hi
    unfold tAG
    split
    · rfl
    · rw [tallyAt_apply, if_neg fun h => hi (cell_inj h.1).1.symm]
  · exact fun h => absurd (Finset.mem_univ _) h

/-- What device `c` owes when it starts. -/
def O₀ (c : Dev nD) : T := OBar c 0

/-- The launch's credit at a cell is the sum of what the devices owe there. -/
theorem launch_at (g : GSem nD τ sig) (n : ℕ) (h : ∑ d : Dev nD, O₀ d g () = n) :
    tallyOn g (launchCredit (Pipeline.owing O₀) 0 g) = (tallyAt g () n : T) := by
  unfold tallyAt
  refine congrArg _ (Finsupp.ext fun u => ?_)
  cases u
  rw [Pipeline.launchCredit_owing, Finsupp.single_eq_same, h]
theorem launch_bar (c : Dev nD) : tallyOn (cell c none) (launchCredit (Pipeline.owing O₀) 0 (cell c none)) = (tallyAt (cell c none) () 32 : T) :=
  launch_at _ _ (by
    rw [Finset.sum_congr rfl fun d _ => show O₀ d (cell c none) () = 1 from owed_bar d c]
    show ∑ _d : Fin 32, 1 = 32
    rw [Finset.sum_const, Finset.card_univ, Fintype.card_fin, smul_eq_mul])
theorem launch_rs {c j : Dev nD} (hj : j ≠ c) :
    tallyOn (cell c (some (1, j))) (launchCredit (Pipeline.owing O₀) 0 (cell c (some (1, j)))) = (tallyAt (cell c (some (1, j))) () N : T) :=
  launch_at _ _ (by
    rw [Finset.sum_congr rfl fun d _ => show O₀ d (cell c (some (1, j))) () = if d = j then N else 0 from owed_rs hj d,
      Finset.sum_ite_eq' Finset.univ j fun _ => N, if_pos (Finset.mem_univ _)])
theorem launch_ag {c j : Dev nD} (hj : j ≠ c) :
    tallyOn (cell c (some (3, j))) (launchCredit (Pipeline.owing O₀) 0 (cell c (some (3, j)))) = (tallyAt (cell c (some (3, j))) () N' : T) :=
  launch_at _ _ (by
    rw [Finset.sum_congr rfl fun d _ => show O₀ d (cell c (some (3, j))) () = if d = j then N' else 0 from owed_ag hj d,
      Finset.sum_ite_eq' Finset.univ j fun _ => N', if_pos (Finset.mem_univ _)])

/-- The launch gives device `c` the credit of its cells. -/
theorem creds_of_launch (c : Dev nD) : (Pipeline.launchCred O₀ c : sProp 𝕄) ⊢ creds c := by
  have hm (Φ : SemLoc sig → sProp 𝕄) : bigSep Finset.univ Φ ⊢ bigSep Finset.univ fun k : CI => Φ (csem k) := by
    have h : bigSep (Finset.univ.map ⟨csem, csem_inj⟩) Φ = bigSep Finset.univ fun k : CI => Φ (csem k) := bigSep_map _
    rw [← h]
    exact bigSep_subset (Finset.subset_univ _)
  have hd (Φ Ψ : Fin 32 → sProp 𝕄) (h : ∀ j, j ≠ c → Φ j = Ψ j) :
      bigSep Finset.univ Φ ⊢ bigSep Finset.univ fun j : Fin 32 => oth c j (Ψ j) := by
    refine (drop_own c Φ).trans (bigSep_mono fun j _ => ?_)
    unfold oth
    split
    · exact BI.Entails.refl _
    · next hj => rw [h j hj]; exact BI.Entails.refl _
  unfold Pipeline.launchCred creds
  refine (hm _).trans ?_
  rw [cells_split]
  have h1 := hd (fun j => cred (tallyOn (cell c (some (1, j))) (launchCredit (Pipeline.owing O₀) 0 (cell c (some (1, j))))))
    (fun j => cred (tallyAt (cell c (some (1, j))) () N)) (fun j hj => by rw [launch_rs hj])
  have h3 := hd (fun j => cred (tallyOn (cell c (some (3, j))) (launchCredit (Pipeline.owing O₀) 0 (cell c (some (3, j))))))
    (fun j => cred (tallyAt (cell c (some (3, j))) () N')) (fun j hj => by rw [launch_ag hj])
  rw [launch_bar]
  iintro ⟨HB, -, H1, -, H3⟩
  isplitl [HB]; · iexact HB
  isplitl [H1]; · iapply h1; iexact H1
  iapply h3; iexact H3

end Cert.KernelIdeal.Body
end
-- ==== Proof.KI.Launch.lean ====
module

public import proofs.«01_k».proof.Proof.KI.Deal
public import proofs.«01_k».proof.Proof.Gen.KernelIdeal.Frame
public import Idealize.ShloMosaic.Lib.Pipeline.CollectiveSegs
public import Idealize.ShloMosaic.Adequacy
public import Idealize.ShloMosaic.Init

@[expose] public section

set_option maxRecDepth 65536

noncomputable section

/-! The run of the whole program: from any memory whose counters are zero, every fair run ends, each device's result array holds the computed result, its arguments are unchanged, and every counter is zero again. -/

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-- The memory the program starts from. -/
def s₀ : MemSt nD τ sig (Elt F) := ⟨m, fun _ => 0, ρ⟩

/-- Each device's blocks of the five arguments, as fetched. -/
def inX (c : Dev nD) : CX F := (win0_0.blk (0 : Fin 1)).view.read (Elt F) (m ((c : Thread nD τ).loc main_arg0))
def inQ (c : Dev nD) : CQ F := (win0_1.blk (0 : Fin 1)).view.read (Elt F) (m ((c : Thread nD τ).loc main_arg1))
def inO (c : Dev nD) : CO F := (win0_2.blk (0 : Fin 1)).view.read (Elt F) (m ((c : Thread nD τ).loc main_arg2))
def inK (c : Dev nD) : CK F := (win0_3.blk (0 : Fin 1)).view.read (Elt F) (m ((c : Thread nD τ).loc main_arg3))
def inV (c : Dev nD) : CV F := (win0_4.blk (0 : Fin 1)).view.read (Elt F) (m ((c : Thread nD τ).loc main_arg4))
/-- The partial results, the received blocks and the result, of those blocks. -/
abbrev OSm : Dev nD → CSend F := OSof (inX m) (inQ m) (inK m) (inV m)
abbrev RVm : Dev nD → CRecv F := RVof (inX m) (inQ m) (inK m) (inV m)
abbrev Ym : COut F := Yof (inX m) (inQ m) (inO m) (inK m) (inV m)

/-- What device `c`'s body starts from: the records, its positions, the tokens it pays with; -/
def ghost (K : Dev nD × CI → ℕ) (c : Dev nD) : sProp 𝕄 :=
  iprop(records (OSm m) (RVm m) (Ym m) K ∗ (bigSep Finset.univ fun k : CI => atPos ER (cell c k) 0 ∅ 0) ∗ payToks c)
/-- that with its credit and the levels; -/
def start (c : Dev nD) : sProp 𝕄 := iprop((∃ K, ghost m K c) ∗ creds c ∗ levAts L lv)
/-- and with its two scratch buffers. -/
def Φ₀ (c : Dev nD) : sProp 𝕄 := iprop(start m c ∗ (∃ f, Pt c cc0_scratch0 f) ∗ ∃ g, Pt c cc0_scratch1 g)
/-- What it leaves: every semaphore at zero, the scratch buffers at something. -/
def Φ₁ (c : Dev nD) : sProp 𝕄 :=
  iprop((bigSep Finset.univ fun k : CI => semVal (cell c k) 0) ∗ (∃ f, Pt c cc0_scratch0 f) ∗ ∃ g, Pt c cc0_scratch1 g)

/-- The proof data of the one region. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m c
    | ⟨1, _⟩ => inQ m c
    | ⟨2, _⟩ => inO m c
    | ⟨3, _⟩ => inK m c
    | ⟨4, _⟩ => inV m c
    | ⟨5, _⟩ => Ym m
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem stg_eq (c : Dev nD) (b : Ref sig .tc) (X : b.ty.Contents (Elt F)) : (stg c b X : sProp 𝕄) ⊢ Pt c b X := by
  iintro ⟨%f, %hf, H⟩
  subst hf
  iexact H
theorem stg_of (c : Dev nD) (b : Ref sig .tc) (X : b.ty.Contents (Elt F)) : Pt c b X ⊢ (stg c b X : sProp 𝕄) := by
  iintro H
  iexists X
  isplitr; · ipureintro; rfl
  iexact H

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))
def bodyPost (c : Dev nD) : sProp 𝕄 :=
  iprop(Φ₁ c ∗ (dats m ρ 0 c).owesAt () t0_0.succ ∗ stg c cc0_stg0_0 (inX m c) ∗ stg c cc0_stg1_0 (inQ m c) ∗ stg c cc0_stg2_0 (inO m c)
    ∗ stg c cc0_stg3_0 (inK m c) ∗ stg c cc0_stg4_0 (inV m c) ∗ stg c cc0_stg5_0 (Ym m))

/-- An input's staging buffer holds its block when the body starts. -/
theorem before_in (c : Dev nD) (d) : (dats m ρ 0 c).before (0 : Fin 6) t0_0 d = inX m c := by
  unfold Dat.before; rw [if_pos (fetch0_0 t0_0)]; rfl
theorem before_in1 (c : Dev nD) (d) : (dats m ρ 0 c).before (1 : Fin 6) t0_0 d = inQ m c := by
  unfold Dat.before; rw [if_pos (fetch0_1 t0_0)]; rfl
theorem before_in2 (c : Dev nD) (d) : (dats m ρ 0 c).before (2 : Fin 6) t0_0 d = inO m c := by
  unfold Dat.before; rw [if_pos (fetch0_2 t0_0)]; rfl
theorem before_in3 (c : Dev nD) (d) : (dats m ρ 0 c).before (3 : Fin 6) t0_0 d = inK m c := by
  unfold Dat.before; rw [if_pos (fetch0_3 t0_0)]; rfl
theorem before_in4 (c : Dev nD) (d) : (dats m ρ 0 c).before (4 : Fin 6) t0_0 d = inV m c := by
  unfold Dat.before; rw [if_pos (fetch0_4 t0_0)]; rfl

theorem owesAt_start (c : Dev nD) : (dats m ρ 0 c).owesAt () t0_0.castSucc ⊢ (ow c (OBar c 0) : sProp 𝕄) := by
  unfold Dat.owesAt Pipeline.owesWithin ow
  iintro ⟨%W, -, HO⟩
  iexists W
  iexact HO
theorem owesAt_end (c : Dev nD) : (ow c 0 : sProp 𝕄) ⊢ (dats m ρ 0 c).owesAt () t0_0.succ := by
  unfold Dat.owesAt Pipeline.owesWithin ow
  iintro ⟨%W, HO⟩
  iexists W
  isplitr; · ipureintro; exact fun _ _ => Or.inl trivial
  iexact HO

theorem sound_body (c : Dev nD) : bodyPre m ρ c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5) (fun _ => bodyPost m ρ c) := by
  unfold bodyPre Φ₀ start ghost
  iintro ⟨⟨⟨⟨%K, #HR, Hat, Htok⟩, Hcr, #HL⟩, ⟨%f, Hf⟩, ⟨%g, Hg⟩⟩, Ho, ⟨%d0, H0⟩, ⟨%d1, H1⟩, ⟨%d2, H2⟩, ⟨%d3, H3⟩, ⟨%d4, H4⟩, ⟨%d5, H5⟩⟩
  rw [before_in, before_in1, before_in2, before_in3, before_in4]
  iapply (body_wp (inX m) (inQ m) (inO m) (inK m) (inV m) K c ((dats m ρ 0 c).before (5 : Fin 6) t0_0 d5) f g (fun _ => bodyPost m ρ c))
  isplitr
  · unfold ctx
    isplitl; · iexact HR
    iexact HL
  isplitl [Hat]; · iexact Hat
  isplitl [Htok]; · iexact Htok
  isplitl [Hcr]; · iexact Hcr
  isplitl [Ho]; · iapply (owesAt_start m ρ c); iexact Ho
  isplitl [H0]; · iapply (stg_eq c cc0_stg0_0 _); iexact H0
  isplitl [H1]; · iapply (stg_eq c cc0_stg1_0 _); iexact H1
  isplitl [H2]; · iapply (stg_eq c cc0_stg2_0 _); iexact H2
  isplitl [H3]; · iapply (stg_eq c cc0_stg3_0 _); iexact H3
  isplitl [H4]; · iapply (stg_eq c cc0_stg4_0 _); iexact H4
  isplitl [H5]; · iapply (stg_eq c cc0_stg5_0 _); iexact H5
  isplitl [Hf]; · iexact Hf
  isplitl [Hg]; · iexact Hg
  unfold bodyPost Φ₁
  iintro ⟨Hs, Ho, H0, H1, H2, H3, H4, H5, Hf, Hg⟩
  isplitl [Hs Hf Hg]
  · isplitl [Hs]; · iexact Hs
    isplitl [Hf]; · iexact Hf
    iexact Hg
  isplitl [Ho]; · iapply (owesAt_end m ρ c); iexact Ho
  isplitl [H0]; · iapply (stg_of c cc0_stg0_0 _); iexact H0
  isplitl [H1]; · iapply (stg_of c cc0_stg1_0 _); iexact H1
  isplitl [H2]; · iapply (stg_of c cc0_stg2_0 _); iexact H2
  isplitl [H3]; · iapply (stg_of c cc0_stg3_0 _); iexact H3
  isplitl [H4]; · iapply (stg_of c cc0_stg4_0 _); iexact H4
  iapply (stg_of c cc0_stg5_0 _); iexact H5

/-- The body's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch -/

theorem ownSemFacts : Pipeline.OwnSemFacts cfg0.spec osem where
  isScoped := by decide +kernel
  inj := osem_inj
  disj := by decide +kernel

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

/-- What the launch deals device `c`, -/
def G (c : Dev nD) : sProp 𝕄 :=
  iprop((bigSep Finset.univ fun k : CI => roundState ER (Rd (OSm m) (RVm m) (Ym m)) (cell c k) 0)
    ∗ (bigSep Finset.univ fun k : CI => iprop(atPos ER (cell c k) 0 ∅ 0 ∗ reached ER (cell c k) 0)) ∗ toks c)
/-- and what the step over all devices makes of it. -/
def G' (c : Dev nD) : sProp 𝕄 := iprop(∃ K, ghost m K c)

theorem fund_cells : BI.own (ER (initOf allCells allToks)) ⊢ (|==> bigSep Finset.univ (G m) : sProp 𝕄) := by
  iintro HX
  imod (Rounds.fund ER (Rd (OSm m) (RVm m) (Ym m)) allCells allToks) $$ HX with ⟨Hst, Hr, Hat, Htok⟩
  imodintro
  ihave Hst' := (Entails.of_eq (cells_eq fun g => roundState ER (Rd (OSm m) (RVm m) (Ym m)) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

/-- The barrier is the one semaphore the region does not scope. -/
theorem unscopedSems0_eq (c : Dev nD) : (unscopedSems0 c : sProp 𝕄) = semVal (cell c none) 0 := by
  unfold unscopedSems0; rw [bigSep_eq_bigSepL_of_eq [SemLoc.reg barS.sem] (by decide +kernel) (by decide)]; rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (cell c k) 0 : sProp 𝕄) := by
  rw [unscopedSems0_eq, cells_opt]
  unfold Pipeline.ownSems0
  iintro ⟨HS, HB⟩
  isplitl [HB]; · iexact HB
  iexact HS
theorem sems0_of (c : Dev nD) : (bigSep Finset.univ fun k : CI => semVal (cell c k) 0 : sProp 𝕄)
    ⊢ iprop(unscopedSems0 c ∗ Pipeline.ownSems0 (Ix := Unit) (Name := ℕ) (U := UU) (Lvl := ℕ) (Val := Elt F) (τ := τ) osem c) := by
  rw [unscopedSems0_eq, cells_opt]
  unfold Pipeline.ownSems0
  iintro ⟨HB, HS⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd (OSm m) (RVm m) (Ym m)) κ (cell c k)))
          ∗ (bigSep Finset.univ fun k : CI => iprop(atPos ER (cell c k) 0 ∅ 0 ∗ reached ER (cell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (cell c k) 0) ∗ bigSep Finset.univ fun k : CI => roundState ER (Rd (OSm m) (RVm m) (Ym m)) (cell c k) 0)
      ⊢ (|={Set.univ}=> bigSep Finset.univ fun k : CI => iprop(∃ κ : ℕ, cellInv ER (Rd (OSm m) (RVm m) (Ym m)) κ (cell c k)) : sProp 𝕄) from by
        rw [← bigSep_sep']
        exact (bigSep_mono fun k _ => (Rounds.body_intro ER (Rd (OSm m) (RVm m) (Ym m)) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What stays with one device. -/
def linear (c : Dev nD) : sProp 𝕄 := iprop((bigSep Finset.univ fun k : CI => atPos ER (cell c k) 0 ∅ 0) ∗ payToks c)
theorem ghost_intro (K : Dev nD × CI → ℕ) (c : Dev nD) : iprop(records (OSm m) (RVm m) (Ym m) K ∗ linear c) ⊢ G' m c := by
  unfold linear G' ghost
  iintro ⟨HR, Ha, Ht⟩
  iexists K
  isplitl [HR]; · iexact HR
  isplitl [Ha]; · iexact Ha
  iexact Ht

theorem regroup :
    (bigSep Finset.univ fun c : Dev nD => iprop((bigSep Finset.univ fun k : CI => iprop(∃ κ : ℕ, cellInv ER (Rd (OSm m) (RVm m) (Ym m)) κ (cell c k)))
          ∗ (bigSep Finset.univ fun k : CI => iprop(atPos ER (cell c k) 0 ∅ 0 ∗ reached ER (cell c k) 0)) ∗ toks c) : sProp 𝕄)
      ⊢ bigSep Finset.univ (G' m) := by
  rw [bigSep_sep', bigSep_sep', ← bigSep_univ_prod (fun ck : Dev nD × CI => iprop(∃ κ : ℕ, cellInv ER (Rd (OSm m) (RVm m) (Ym m)) κ (cell ck.1 ck.2))),
    bigSep_congr (s := Finset.univ) (fun (c : Dev nD) _ => bigSep_sep' Finset.univ (fun k : CI => (atPos ER (cell c k) 0 ∅ 0 : sProp 𝕄)) (fun k => reached ER (cell c k) 0)),
    bigSep_sep', ← bigSep_univ_prod (fun ck : Dev nD × CI => (reached ER (cell ck.1 ck.2) 0 : sProp 𝕄))]
  iintro ⟨HI, ⟨Hat, #HR⟩, Htok⟩
  ihave HK := (BI.bigSep_exists_pi Finset.univ (fun (ck : Dev nD × CI) (κ : ℕ) => (cellInv ER (Rd (OSm m) (RVm m) (Ym m)) κ (cell ck.1 ck.2) : sProp 𝕄))) $$ HI
  icases HK with ⟨%K, #HI⟩
  ihave Htk := (toks_dealt (F := F)) $$ Htok
  iapply (bigSep_with_persistent (R := records (OSm m) (RVm m) (Ym m) K) fun c _ => ghost_intro m K c)
  isplitr
  · unfold records; isplitl; · iexact HI
    iexact HR
  · unfold linear
    rw [bigSep_sep']
    isplitl [Hat]; · iexact Hat
    iexact Htk

/-- The step over all devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of_launch (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  iintro ⟨Hs, Hr⟩
  ihave H := (sems0_of (F := F) c) $$ Hs
  icases H with ⟨HB, HS⟩
  isplitl [HB]; · iexact HB
  isplitl [HS]; · iexact HS
  iexact Hr

/-- Every semaphore that is not a cell is at level 0. -/
theorem lv_stage (c : Dev nD) (w : Fin 6) (s : Fin ((cfg0.win w).nbuf)) : lv ((c : Thread nD τ), .dma ((cfg0.win w).sem s)) () = 0 := by
  have h : dec (.dma ((cfg0.win w).sem s)) = none := by
    unfold dec Function.partialInv
    refine dif_neg ?_
    rintro ⟨k, hk⟩
    rcases k with _ | k
    · cases hk
    · exact ownSemFacts.disj k w s hk
  show (dec (.dma ((cfg0.win w).sem s))).elim 0 lvk = 0
  rw [h]; rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayW c _ 0 _ (le_of_eq (lv_stage c w s)) fun g u h => by
        obtain ⟨j, h | h | h⟩ := OBar_pos h
        · exact ⟨j, _, h, by show 0 < 3; decide⟩
        · exact ⟨j, _, h, by show 0 < 2; decide⟩
        · exact ⟨j, _, h, by show 0 < 1; decide⟩
    · show _ ⊢ MayWait _ _ () (0 : T)
      rw [MayWait_zero]; iintro -; iempintro

/-! ## The run -/

/-- A window's array after the run. -/
def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

/-- Every fair run of the program ends, with every window's array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array is unchanged. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.KernelIdeal.Body
end
-- ==== Proof.KI.Result.lean ====
module

public import proofs.«01_k».proof.Proof.KI.Launch

@[expose] public section

set_option maxRecDepth 65536

noncomputable section

/-! What the run leaves, in terms of the memory it starts from. -/

namespace Cert.KernelIdeal.Body

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! Every window is the whole of its array. -/

theorem read_blk0 (f : (main_arg0 : Ref sig .tc).ty.Contents (Elt F)) : (win0_0.blk (0 : Fin 1)).view.read (Elt F) f = f :=
  Memref.read_access_unit_zero (Elt F) main_arg0 (show (fun a => (win0_0.index (0 : Fin 1)) a * main_arg0.ty.shape.size a) = fun _ => 0 from
    funext fun a => by fin_cases a <;> decide) (fun a => by fin_cases a <;> decide) f
theorem read_blk1 (f : (main_arg1 : Ref sig .tc).ty.Contents (Elt F)) : (win0_1.blk (0 : Fin 1)).view.read (Elt F) f = f :=
  Memref.read_access_unit_zero (Elt F) main_arg1 (show (fun a => (win0_1.index (0 : Fin 1)) a * main_arg1.ty.shape.size a) = fun _ => 0 from
    funext fun a => by fin_cases a <;> decide) (fun a => by fin_cases a <;> decide) f
theorem read_blk2 (f : (main_arg2 : Ref sig .tc).ty.Contents (Elt F)) : (win0_2.blk (0 : Fin 1)).view.read (Elt F) f = f :=
  Memref.read_access_unit_zero (Elt F) main_arg2 (show (fun a => (win0_2.index (0 : Fin 1)) a * main_arg2.ty.shape.size a) = fun _ => 0 from
    funext fun a => by fin_cases a <;> decide) (fun a => by fin_cases a <;> decide) f
theorem read_blk3 (f : (main_arg3 : Ref sig .tc).ty.Contents (Elt F)) : (win0_3.blk (0 : Fin 1)).view.read (Elt F) f = f :=
  Memref.read_access_unit_zero (Elt F) main_arg3 (show (fun a => (win0_3.index (0 : Fin 1)) a * main_arg3.ty.shape.size a) = fun _ => 0 from
    funext fun a => by fin_cases a <;> decide) (fun a => by fin_cases a <;> decide) f
theorem read_blk4 (f : (main_arg4 : Ref sig .tc).ty.Contents (Elt F)) : (win0_4.blk (0 : Fin 1)).view.read (Elt F) f = f :=
  Memref.read_access_unit_zero (Elt F) main_arg4 (show (fun a => (win0_4.index (0 : Fin 1)) a * main_arg4.ty.shape.size a) = fun _ => 0 from
    funext fun a => by fin_cases a <;> decide) (fun a => by fin_cases a <;> decide) f
theorem read_blk5 (f : (main_v1 : Ref sig .tc).ty.Contents (Elt F)) : (win0_5.blk (0 : Fin 1)).view.read (Elt F) f = f :=
  Memref.read_access_unit_zero (Elt F) main_v1 (show (fun a => (win0_5.index (0 : Fin 1)) a * main_v1.ty.shape.size a) = fun _ => 0 from
    funext fun a => by fin_cases a <;> decide) (fun a => by fin_cases a <;> decide) f

theorem inX_eq (c : Dev nD) : inX m c = m ((c : Thread nD τ).loc main_arg0) := read_blk0 _
theorem inQ_eq (c : Dev nD) : inQ m c = m ((c : Thread nD τ).loc main_arg1) := read_blk1 _
theorem inO_eq (c : Dev nD) : inO m c = m ((c : Thread nD τ).loc main_arg2) := read_blk2 _
theorem inK_eq (c : Dev nD) : inK m c = m ((c : Thread nD τ).loc main_arg3) := read_blk3 _
theorem inV_eq (c : Dev nD) : inV m c = m ((c : Thread nD τ).loc main_arg4) := read_blk4 _

/-- The result array holds the computed result. -/
theorem finalA_out (c : Dev nD) : finalA m ρ c (5 : Fin 6) = Ym m := by
  refine (read_blk5 (finalA m ρ c (5 : Fin 6))).symm.trans ?_
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-- The arguments are unchanged and every counter is at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c (0 : Fin 6)).trans (finalA_in m ρ c (0 : Fin 6) rfl),
    (h.1 c (1 : Fin 6)).trans (finalA_in m ρ c (1 : Fin 6) rfl), (h.1 c (2 : Fin 6)).trans (finalA_in m ρ c (2 : Fin 6) rfl),
    (h.1 c (3 : Fin 6)).trans (finalA_in m ρ c (3 : Fin 6) rfl), (h.1 c (4 : Fin 6)).trans (finalA_in m ρ c (4 : Fin 6) rfl)⟩, h.2⟩) (run_main m ρ)

/-- The same with the result, the same on every device. -/
theorem value_run : θ_run defs (onTc (τ := τ) (main (F := F))) ⟨m, fun _ => 0, ρ⟩ (fun r => ∀ c : Dev nD,
      r.2.mem ((c.tc : Thread nD τ).loc main_v1) = Ym m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c (5 : Fin 6)).trans (finalA_out m ρ c), (h.1 c (0 : Fin 6)).trans (finalA_in m ρ c (0 : Fin 6) rfl),
    (h.1 c (1 : Fin 6)).trans (finalA_in m ρ c (1 : Fin 6) rfl), (h.1 c (2 : Fin 6)).trans (finalA_in m ρ c (2 : Fin 6) rfl),
    (h.1 c (3 : Fin 6)).trans (finalA_in m ρ c (3 : Fin 6) rfl), (h.1 c (4 : Fin 6)).trans (finalA_in m ρ c (4 : Fin 6) rfl)⟩) (run_main m ρ)

end Cert.KernelIdeal.Body
end
-- ==== Proof.Val.Softmax.lean ====
module

public import Idealize.ShloMosaic.PureOps.Ideal.Laws
public import Idealize.ShloMosaic.Lib.IdealHost
public import Mathlib.Data.EReal.Inv

@[expose] public section

noncomputable section

/-! Facts about sums, exponentials and maxima of extended reals: a softmax with the row maximum subtracted is the
softmax without. -/

namespace Cert.Attn

open Idealize.ShloMosaic
open scoped BigOperators

variable {ι : Type*}

/-- A finite sum of reals, read as extended reals. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over any finite sum of extended reals. -/
theorem sum_mul_coe (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- The weights of a row of real scores add up to a positive real. -/
theorem exp_sum [Fintype ι] (s : ι → ℝ) : ∑ j, Ideal.exp (s j : EReal) = ((∑ j, Real.exp (s j) : ℝ) : EReal) := by
  rw [coe_sum]; rfl

/-- Averaging `v` with the weights `exp (s j - m)` is averaging it with the weights `exp (s j)`: the factor
`exp (-m)` cancels. The scores and `m` are real; `v` may be infinite. -/
theorem softmax_row [Fintype ι] [Nonempty ι] (s : ι → ℝ) (m : ℝ) (v : ι → EReal) :
    Ideal.div (∑ j, v j * Ideal.exp ((s j : EReal) - (m : EReal))) (∑ j, Ideal.exp ((s j : EReal) - (m : EReal)))
      = (∑ j, Ideal.exp (s j : EReal) * v j) * Ideal.div 1 (∑ j, Ideal.exp (s j : EReal)) := by
  have he : ∀ j, Ideal.exp ((s j : EReal) - (m : EReal)) = ((Real.exp (s j) * Real.exp (-m) : ℝ) : EReal) := fun j => by
    rw [← EReal.coe_sub, Ideal.exp_coe, sub_eq_add_neg, Real.exp_add]
  have hL : 0 < ∑ j, Real.exp (s j) := Finset.sum_pos (fun j _ => Real.exp_pos _) Finset.univ_nonempty
  have ht : 0 < Real.exp (-m) := Real.exp_pos _
  simp only [he]
  rw [exp_sum, ← coe_sum, ← Finset.sum_mul, Ideal.div_coe (mul_pos hL ht).ne', Ideal.div_coe hL.ne', one_mul]
  have hn : ∑ j, v j * ((Real.exp (s j) * Real.exp (-m) : ℝ) : EReal) = (∑ j, Ideal.exp (s j : EReal) * v j) * (Real.exp (-m) : EReal) := by
    rw [sum_mul_coe _ _ ht.le]
    refine Finset.sum_congr rfl fun j _ => ?_
    rw [EReal.coe_mul, Ideal.exp_coe, ← mul_assoc, mul_comm (v j)]
  rw [hn, mul_assoc, ← EReal.coe_mul]
  congr 2
  field_simp

/-- A fold of maxima over a list of values below `⊤`, from a start below `⊤`, is below `⊤`. -/
theorem foldl_max_ne_top {α : Type*} (f : α → EReal) : ∀ (l : List α) (b : EReal), b ≠ ⊤ → (∀ a ∈ l, f a ≠ ⊤) →
    l.foldl (fun r a => max r (f a)) b ≠ ⊤
  | [], _, hb, _ => hb
  | a :: l, b, hb, h => foldl_max_ne_top f l _ (by
      show max b (f a) ≠ ⊤
      rcases max_choice b (f a) with e | e <;> rw [e]
      · exact hb
      · exact h a (List.mem_cons_self ..)) fun x hx => h x (List.mem_cons_of_mem _ hx)

/-- A fold of maxima is at least its start and at least every value of the list. -/
theorem le_foldl_max {α : Type*} (f : α → EReal) : ∀ (l : List α) (b : EReal),
    b ≤ l.foldl (fun r a => max r (f a)) b ∧ ∀ a ∈ l, f a ≤ l.foldl (fun r a => max r (f a)) b
  | [], _ => ⟨le_rfl, fun _ h => absurd h (by simp)⟩
  | a :: l, b => by
    obtain ⟨h1, h2⟩ := le_foldl_max f l (max b (f a))
    refine ⟨(le_max_left _ _).trans h1, fun x hx => ?_⟩
    rcases List.mem_cons.1 hx with rfl | hx
    · exact (le_max_right _ _).trans h1
    · exact h2 x hx

/-- The maximum, folded from `⊥`, of a list of reals that is not empty is a real. -/
theorem foldl_max_real {α : Type*} (f : α → EReal) (l : List α) (hl : ∃ a, a ∈ l) (hf : ∀ a ∈ l, ∃ r : ℝ, f a = r) :
    ∃ r : ℝ, l.foldl (fun r a => max r (f a)) ⊥ = r := by
  have ht := foldl_max_ne_top f l ⊥ bot_ne_top fun a ha => by
    obtain ⟨r, hr⟩ := hf a ha; rw [hr]; exact EReal.coe_ne_top r
  obtain ⟨a, ha⟩ := hl
  have hb : l.foldl (fun r a => max r (f a)) ⊥ ≠ ⊥ := fun e => by
    have := (le_foldl_max f l ⊥).2 a ha
    obtain ⟨r, hr⟩ := hf a ha
    rw [e, hr] at this
    exact EReal.coe_ne_bot r (le_bot_iff.1 this)
  exact ⟨_, (EReal.coe_toReal ht hb).symm⟩

/-- A conjunction of bits folded over a list is one only if every bit is. -/
theorem foldl_and_one {α : Type*} (f : α → BitVec 1) : ∀ (l : List α) (b : BitVec 1), l.foldl (fun r a => r &&& f a) b = 1#1 →
    b = 1#1 ∧ ∀ a ∈ l, f a = 1#1
  | [], _, h => ⟨h, fun _ h => absurd h (by simp)⟩
  | a :: l, b, h => by
    obtain ⟨h1, h2⟩ := foldl_and_one f l _ h
    have : ∀ x y : BitVec 1, x &&& y = 1#1 → x = 1#1 ∧ y = 1#1 := by decide
    obtain ⟨hb, ha⟩ := this _ _ h1
    refine ⟨hb, fun x hx => ?_⟩
    rcases List.mem_cons.1 hx with rfl | hx
    · exact ha
    · exact h2 x hx

/-- A value whose absolute value is below `⊤` is a real. -/
theorem real_of_abs_lt {a : EReal} (h : max a (-a) < ⊤) : ∃ r : ℝ, a = r := by
  induction a with
  | bot => simp at h
  | top => simp at h
  | coe r => exact ⟨r, rfl⟩

/-- A finite sum of products of reals is a real. -/
theorem real_sum_mul (s : Finset ι) (f g : ι → EReal) (hf : ∀ i, ∃ r : ℝ, f i = r) (hg : ∀ i, ∃ r : ℝ, g i = r) :
    ∃ r : ℝ, ∑ i ∈ s, f i * g i = r := by
  choose a ha using hf
  choose b hb using hg
  refine ⟨∑ i ∈ s, a i * b i, ?_⟩
  rw [coe_sum]
  exact Finset.sum_congr rfl fun i _ => by rw [ha, hb, EReal.coe_mul]

/-- A real factor on the left operands of a sum of products of reals comes out of the sum. -/
theorem sum_scale (s : Finset ι) (f g : ι → EReal) (c : ℝ) (hf : ∀ i, ∃ r : ℝ, f i = r) (hg : ∀ i, ∃ r : ℝ, g i = r) :
    ∑ i ∈ s, (f i * (c : EReal)) * g i = (∑ i ∈ s, f i * g i) * (c : EReal) := by
  choose a ha using hf
  choose b hb using hg
  simp only [ha, hb, ← EReal.coe_mul, ← coe_sum]
  rw [Finset.sum_mul]
  congr 1
  exact Finset.sum_congr rfl fun i _ => by ring

/-- A sum over `S * n` terms is the sum over `S` blocks of `n`. -/
theorem sum_split {M : Type*} [AddCommMonoid M] {S n L : ℕ} (hL : S * n = L) (lt : ∀ (s : Fin S) (k : Fin n), n * s.val + k.val < L) (f : Fin L → M) :
    ∑ l, f l = ∑ s : Fin S, ∑ k : Fin n, f ⟨n * s.val + k.val, lt s k⟩ := by
  subst hL
  rw [← finProdFinEquiv.sum_comp, Fintype.sum_prod_type]
  exact Finset.sum_congr rfl fun s _ => Finset.sum_congr rfl fun k _ => congrArg f (Fin.ext (Nat.add_comm _ _))

end Cert.Attn

end
-- ==== Proof.Val.Finite.lean ====
module

public import proofs.«01_k».proof.Defs
public import proofs.«01_k».proof.Proof.Val.Softmax

@[expose] public section

noncomputable section

/-! The precondition, read: every entry of the activations, the query weight and the keys is a real number. -/

namespace Cert.Attn

open Idealize.ShloMosaic

/-- The side conditions of the kernel's precondition. -/
theorem finite_facts : Cert.Pre_finite_KernelIdeal.Facts where
  bitsLt_bf16_f32 := by decide
  bcast_S_S1x512x1024 := by decide
  reducesTo_S1x512x1024_S_d0_1_2 := by decide
  h_S_ := by decide
  bcast_S_S1024x1024 := by decide
  reducesTo_S1024x1024_S_d0_1 := by decide
  bcast_S_S1x2048x2x128 := by decide
  reducesTo_S1x2048x2x128_S_d0_1_2_3 := by decide

/-- The side conditions of the same precondition of the whole arrays. -/
theorem finite_facts_ref : Cert.Pre_finite_ReferenceIdeal.Facts where
  bitsLt_bf16_f32 := by decide
  bcast_S_S1x512x1024 := by decide
  reducesTo_S1x512x1024_S_d0_1_2 := by decide
  h_S_ := by decide
  bcast_S_S1024x1024 := by decide
  reducesTo_S1024x1024_S_d0_1 := by decide
  bcast_S_S1x65536x2x128 := by decide
  reducesTo_S1x65536x2x128_S_d0_1_2_3 := by decide

/-- A conjunction of all bits of an array is one only if every bit is. -/
theorem reduce_and_one {s : Shape} {axes : List (Fin s.rank)} (b : s.Idx → BitVec 1) (init : (⟨0, ![]⟩ : Shape).Idx → BitVec 1)
    (h : s.ReducesTo axes (⟨0, ![]⟩ : Shape)) (hu : 0 < (⟨0, ![]⟩ : Shape).numel) (j : (⟨0, ![]⟩ : Shape).Idx)
    (e : Host.reduce IntOp.andi b init h hu j = 1#1) (i : s.Idx) : b i = 1#1 := by
  unfold Host.reduce at e
  have := (foldl_and_one (fun n => b (s.rowMajor.symm n)) _ _ e).2 (s.rowMajor i)
    (List.mem_filter.2 ⟨List.mem_finRange _, decide_eq_true (funext fun a => a.elim0)⟩)
  rwa [Equiv.symm_apply_apply] at this

/-- The bound the entries are compared with is infinity. -/
theorem bound_top : Ideal.ofBits .f32 0x7F800000#32 = ⊤ := by simp [Ideal.ofBits, Ideal.ieee]

/-- An entry found below infinity in absolute value is a real. -/
theorem real_of_bit {a : EReal} (h : Ideal.cmp .olt (max a (-a)) (Ideal.ofBits .f32 0x7F800000#32) = 1#1) : ∃ r : ℝ, a = r := by
  refine real_of_abs_lt ?_
  rw [bound_top] at h
  by_contra hn
  simp [Ideal.cmp, hn] at h

/-- The precondition of one device's blocks: the activations, the query weight and the keys are real. -/
theorem finite_real [Cert.Pre_finite_KernelIdeal.Facts] (x : FVec Ideal Cert.Pre_finite_KernelIdeal.S1x512x1024 .bf16)
    (wq wo : FVec Ideal Cert.Pre_finite_KernelIdeal.S1024x1024 .bf16) (kk vv : FVec Ideal Cert.Pre_finite_KernelIdeal.S1x2048x2x128 .bf16)
    (h : Cert.Pre_finite_KernelIdeal.fn (F := Ideal) x wq wo kk vv = fun _ => 1#1) :
    (∀ i, ∃ r : ℝ, x i = r) ∧ (∀ i, ∃ r : ℝ, wq i = r) ∧ ∀ i, ∃ r : ℝ, kk i = r := by
  have e := congrFun h (fun a => a.elim0)
  have band : ∀ x y : BitVec 1, x &&& y = 1#1 → x = 1#1 ∧ y = 1#1 := by decide
  obtain ⟨e12, e3⟩ := band _ _ e
  obtain ⟨e1, e2⟩ := band _ _ e12
  exact ⟨fun i => real_of_bit (reduce_and_one _ _ _ _ _ e1 i), fun i => real_of_bit (reduce_and_one _ _ _ _ _ e2 i),
    fun i => real_of_bit (reduce_and_one _ _ _ _ _ e3 i)⟩

end Cert.Attn

end
-- ==== Proof.Val.Heads.lean ====
module

public import proofs.«01_k».proof.Proof.KI.Contents
public import Idealize.ShloMosaic.Lib.MatmulPlain
public import Idealize.ShloMosaic.Lib.ValueLayout
public import Idealize.ShloMosaic.Lib.ValueIdx
public import Idealize.ShloMosaic.PureOps.Ideal.Laws
public import Idealize.ShloMosaic.Lib.IdealHost
public import Idealize.ShloMosaic.Lib.IdealHost

@[expose] public section

noncomputable section

/-! The partial results of one device, read at one entry: for each head the weighted sum of the device's values, and in
the ninth plane the sums of the weights. -/

namespace Cert.KernelIdeal.Body

open Idealize.ShloMosaic Idealize.ShloMosaic.ValueIdx Cert.KernelIdeal Cert.KernelIdeal.Gen
open scoped BigOperators

/-! ## The shape of the computation -/

section Shape
variable {F : FTy → Type} [FloatOps F]

/-- The exponentials of one head's scores: `o` is the head's first column among the queries. -/
def expo (o : ℕ) (hs : S512x1024.Slices ![0, o] S512x128) (q : FVec F S512x1024 .f32) (kg : Vec F S1x2048x1x128 .bf16) : FVec F S512x2048 .f32 :=
  exp (matmul dot_S512x128_S2048x128_S512x2048_1_1_0_0_n_n none (truncf .bf16 (extractStridedSlice S512x128 ![0, o] q hs) bitsLt_bf16_f32)
    (shapeCast S2048x128 kg shapeCasts_S1x2048x1x128_S2048x128) (constant S512x2048 .f32 0x00000000#32))

/-- One head's weighted sums of the values. -/
def outs (p : FVec F S512x2048 .f32) (vg : Vec F S1x2048x1x128 .bf16) : FVec F S1x512x128 .bf16 :=
  shapeCast S1x512x128 (truncf .bf16 (matmul dot_S512x2048_S2048x128_S512x128_1_0_0_1_n_n none (truncf .bf16 p bitsLt_bf16_f32)
    (shapeCast S2048x128 vg shapeCasts_S1x2048x1x128_S2048x128) (constant S512x128 .f32 0x00000000#32)) bitsLt_bf16_f32) shapeCasts_S512x128_S1x512x128

/-- One head's sums of the weights. -/
def sums (p : FVec F S512x2048 .f32) : FVec F S1x512x1 .bf16 :=
  shapeCast S1x512x1 (truncf .bf16 (multiReduction .add [1] S512 p 0x00000000#32 reduces_S512x2048_S512 (.inl rfl) rfl) bitsLt_bf16_f32)
    shapeCasts_S512_S1x512x1

/-- One head's two stores: its plane, and its column of the ninth plane. -/
def putHd (h : ℕ) (iH : ∀ a, (![h, 0, 0] : Fin 3 → ℕ) a + S1x512x128.size a ≤ S9x512x128.size a)
    (iL : ∀ a, (![8, 0, h] : Fin 3 → ℕ) a + S1x512x1.size a ≤ S9x512x128.size a) (p : FVec F S512x2048 .f32) (vg : Vec F S1x2048x1x128 .bf16)
    (f : CSend F) : CSend F := putL h iL (sums p) (putH h iH (outs p vg) f)

/-- All the stores, head after head. -/
theorem sendAll_heads (x : CX F) (wq : CQ F) (kk : CK F) (vv : CV F) (f : CSend F) : sendAll x wq kk vv f =
    putHd 7 inb_S9x512x128_S1x512x128_7_0_0 inb_S9x512x128_S1x512x1_8_0_7 (expo 896 slices_S512x1024_o0_896_S512x128 (act x wq) (getK1 kk)) (getV1 vv)
    (putHd 6 inb_S9x512x128_S1x512x128_6_0_0 inb_S9x512x128_S1x512x1_8_0_6 (expo 768 slices_S512x1024_o0_768_S512x128 (act x wq) (getK1 kk)) (getV1 vv)
    (putHd 5 inb_S9x512x128_S1x512x128_5_0_0 inb_S9x512x128_S1x512x1_8_0_5 (expo 640 slices_S512x1024_o0_640_S512x128 (act x wq) (getK1 kk)) (getV1 vv)
    (putHd 4 inb_S9x512x128_S1x512x128_4_0_0 inb_S9x512x128_S1x512x1_8_0_4 (expo 512 slices_S512x1024_o0_512_S512x128 (act x wq) (getK1 kk)) (getV1 vv)
    (putHd 3 inb_S9x512x128_S1x512x128_3_0_0 inb_S9x512x128_S1x512x1_8_0_3 (expo 384 slices_S512x1024_o0_384_S512x128 (act x wq) (getK0 kk)) (getV0 vv)
    (putHd 2 inb_S9x512x128_S1x512x128_2_0_0 inb_S9x512x128_S1x512x1_8_0_2 (expo 256 slices_S512x1024_o0_256_S512x128 (act x wq) (getK0 kk)) (getV0 vv)
    (putHd 1 inb_S9x512x128_S1x512x128_1_0_0 inb_S9x512x128_S1x512x1_8_0_1 (expo 128 slices_S512x1024_o0_128_S512x128 (act x wq) (getK0 kk)) (getV0 vv)
    (putHd 0 inb_S9x512x128_S1x512x128_0_0_0 inb_S9x512x128_S1x512x1_8_0_0 (expo 0 slices_S512x1024_o0_0_S512x128 (act x wq) (getK0 kk)) (getV0 vv)
    (putH 8 inb_S9x512x128_S1x512x128_8_0_0 (k0_pay3 (F := F)) f)))))))) := rfl

/-- A store of a rectangle, read inside it. -/
theorem store_in {o z : Fin S9x512x128.rank → ℕ} {inb : ∀ a, o a + z a ≤ S9x512x128.size a}
    (w : (Rect.unit (s := S9x512x128) o z inb).shape.Idx → Elt F .bf16) (f : CSend F)
    (x : (Rect.unit (s := S9x512x128) o z inb).shape.Idx) (y : S9x512x128.Idx) (h : ∀ a, (y a).val = o a + (x a).val) :
    (oSend.access (Rect.unit (s := S9x512x128) o z inb)).write (Elt F) f w Finset.univ y = w x := by
  have : y = (oSend.access (Rect.unit (s := S9x512x128) o z inb)).emb x := (unit_emb y h).symm
  rw [this]
  erw [View.write_emb_of_mem _ _ (Finset.mem_univ x)]
  rfl

/-- A store of a rectangle, read outside it. -/
theorem store_out {o z : Fin S9x512x128.rank → ℕ} {inb : ∀ a, o a + z a ≤ S9x512x128.size a}
    (w : (Rect.unit (s := S9x512x128) o z inb).shape.Idx → Elt F .bf16) (f : CSend F) (y : S9x512x128.Idx)
    (a : Fin S9x512x128.rank) (h : ¬ (o a ≤ (y a).val ∧ (y a).val < o a + z a)) :
    (oSend.access (Rect.unit (s := S9x512x128) o z inb)).write (Elt F) f w Finset.univ y = f y := by
  have hm : y ∉ (oSend.access (Rect.unit (s := S9x512x128) o z inb)).set := by
    have e : (oSend.access (Rect.unit (s := S9x512x128) o z inb)).set = (Rect.unit (s := S9x512x128) o z inb).set := View.set_slice_whole _ _
    rw [e]
    exact fun hy => h (Rect.mem_set_unit.1 hy a)
  erw [View.write_of_not_mem _ _ _ hm]

/-- An entry after a store of plane `h`. -/
theorem putH_apply {h : ℕ} {i} (w : FVec F S1x512x128 .bf16) (f : CSend F) (a : Fin 9) (r : Fin 512) (d : Fin 128) :
    putH h i w f (ix3 a r d) = if a.val = h then w (ix3 0 r d) else f (ix3 a r d) := by
  split
  · next e =>
    refine store_in w f (ix3 0 r d : S1x512x128.Idx) _ fun b => ?_
    match b with
    | ⟨0, _⟩ => exact e
    | ⟨1, _⟩ => exact (Nat.zero_add _).symm
    | ⟨2, _⟩ => exact (Nat.zero_add _).symm
  · next e => exact store_out w f _ 0 fun hm => e (by
      have h1 : h ≤ a.val := hm.1
      have h2 : a.val < h + 1 := hm.2
      omega)

/-- An entry after a store of column `h` of the ninth plane. -/
theorem putL_apply {h : ℕ} {i} (w : FVec F S1x512x1 .bf16) (f : CSend F) (a : Fin 9) (r : Fin 512) (d : Fin 128) :
    putL h i w f (ix3 a r d) = if a.val = 8 ∧ d.val = h then w (ix3 0 r 0) else f (ix3 a r d) := by
  split
  · next e =>
    refine store_in w f (ix3 0 r 0 : S1x512x1.Idx) _ fun b => ?_
    match b with
    | ⟨0, _⟩ => exact e.1
    | ⟨1, _⟩ => exact (Nat.zero_add _).symm
    | ⟨2, _⟩ => exact e.2
  · next e =>
    by_cases ha : a.val = 8
    · exact store_out w f _ 2 fun hm => e ⟨ha, by
        have h1 : h ≤ d.val := hm.1
        have h2 : d.val < h + 1 := hm.2
        omega⟩
    · exact store_out w f _ 0 fun hm => ha (by
        have h1 : 8 ≤ a.val := hm.1
        have h2 : a.val < 8 + 1 := hm.2
        omega)

/-- One head's stores, read in one of the first eight planes. -/
theorem putHd_plane {h : ℕ} {iH iL} (p : FVec F S512x2048 .f32) (vg : Vec F S1x2048x1x128 .bf16) (f : CSend F) (a : Fin 9) (ha : a.val < 8)
    (r : Fin 512) (d : Fin 128) : putHd h iH iL p vg f (ix3 a r d) = if a.val = h then outs p vg (ix3 0 r d) else f (ix3 a r d) := by
  unfold putHd
  rw [putL_apply, if_neg (by omega), putH_apply]

/-- One head's stores, read in the ninth plane. -/
theorem putHd_last {h : ℕ} {iH iL} (hh : h < 8) (p : FVec F S512x2048 .f32) (vg : Vec F S1x2048x1x128 .bf16) (f : CSend F)
    (r : Fin 512) (d : Fin 128) :
    putHd h iH iL p vg f (ix3 (8 : Fin 9) r d) = if d.val = h then sums p (ix3 0 r 0) else f (ix3 (8 : Fin 9) r d) := by
  unfold putHd
  rw [putL_apply, putH_apply, if_neg (show ¬ (8 : Fin 9).val = h by show ¬ 8 = h; omega)]
  simp

end Shape

/-! ## The values -/

/-- Arrays of extended reals: the activations, a square weight, one device's keys or values. -/
abbrev AX := S1x512x1024.Idx → EReal
abbrev AW := S1024x1024.Idx → EReal
abbrev AK := S1x2048x2x128.Idx → EReal

/-- The scale of the scores, `1/√128` as the 32-bit float the program holds. -/
def SC : EReal := Ideal.ofBits .f32 0x3DB504F3#32

/-- The scaled query of row `r`, column `c`. -/
def qv (x : AX) (wq : AW) (r : Fin 512) (c : Fin 1024) : EReal := (∑ k : Fin 1024, x (ix3 0 r k) * wq (ix2 k c)) * SC

/-- The column of head `h`'s coordinate `e`. -/
def colOf (h : Fin 8) (e : Fin 128) : Fin 1024 := ⟨128 * h.val + e.val, by omega⟩
/-- The group of keys and values head `h` reads. -/
def grp (h : Fin 8) : Fin 2 := ⟨h.val / 4, by omega⟩

/-- The weight of the device's key `j` for head `h` of row `r`. -/
def wt (x : AX) (wq : AW) (kk : AK) (h : Fin 8) (r : Fin 512) (j : Fin 2048) : EReal :=
  Ideal.exp (∑ e : Fin 128, qv x wq r (colOf h e) * kk (ix4 0 j (grp h) e))

theorem act_apply (x : AX) (wq : AW) (r : Fin 512) (c : Fin 1024) : act (F := Ideal) x wq (ix2 r c) = qv x wq r c := by
  unfold act k0_pay2 k0_pay1 qv
  simp only []
  rw [mulf_apply, broadcast_apply]
  refine congrArg₂ (· * ·) ?_ rfl
  refine (Ideal.matmul_plain_apply (M := 512) (K := 1024) (N := 1024) none _ _ _ r c).trans ?_
  rw [constant_apply, Ideal.ofBits_zero_f32, zero_add]
  refine Finset.sum_congr rfl fun k _ => congrArg₂ (· * ·) ?_ ?_
  · rw [shapeCast_1ab_ab_apply]
    show x _ = x _
    refine congrArg x (unit_emb _ fun a => ?_)
    match a with
    | ⟨0, _⟩ => rfl
    | ⟨1, _⟩ => exact (Nat.zero_add _).symm
    | ⟨2, _⟩ => exact (Nat.zero_add _).symm
  · rw [shapeCast_apply _ _ _ (ix2 k c) rfl]
    show wq _ = wq _
    refine congrArg wq (unit_emb _ fun a => ?_)
    match a with
    | ⟨0, _⟩ => exact (Nat.zero_add _).symm
    | ⟨1, _⟩ => exact (Nat.zero_add _).symm

theorem getK0_apply (f : AK) (j : Fin 2048) (e : Fin 128) : getK0 (F := Ideal) f (ix4 0 j 0 e) = f (ix4 0 j 0 e) := by
  show f _ = f _
  refine congrArg f (unit_emb _ fun a => ?_)
  match a with
  | ⟨0, _⟩ => rfl
  | ⟨1, _⟩ => exact (Nat.zero_add _).symm
  | ⟨2, _⟩ => rfl
  | ⟨3, _⟩ => exact (Nat.zero_add _).symm
theorem getK1_apply (f : AK) (j : Fin 2048) (e : Fin 128) : getK1 (F := Ideal) f (ix4 0 j 0 e) = f (ix4 0 j 1 e) := by
  show f _ = f _
  refine congrArg f (unit_emb _ fun a => ?_)
  match a with
  | ⟨0, _⟩ => rfl
  | ⟨1, _⟩ => exact (Nat.zero_add _).symm
  | ⟨2, _⟩ => rfl
  | ⟨3, _⟩ => exact (Nat.zero_add _).symm
theorem getV0_apply (f : AK) (j : Fin 2048) (e : Fin 128) : getV0 (F := Ideal) f (ix4 0 j 0 e) = f (ix4 0 j 0 e) := getK0_apply f j e
theorem getV1_apply (f : AK) (j : Fin 2048) (e : Fin 128) : getV1 (F := Ideal) f (ix4 0 j 0 e) = f (ix4 0 j 1 e) := getK1_apply f j e

/-- A block of keys or values of one group, without its unit axes. -/
theorem cast_group (g : Vec Ideal S1x2048x1x128 .bf16) (j : Fin 2048) (e : Fin 128) :
    shapeCast S2048x128 g shapeCasts_S1x2048x1x128_S2048x128 (ix2 j e) = g (ix4 0 j 0 e) :=
  shapeCast_apply _ _ _ _ (by
    rewrite [Shape.rowMajor_val_two, Shape.rowMajor_val_four]
    show ((0 * 2048 + j.val) * 1 + 0) * 128 + e.val = j.val * 128 + e.val
    omega)

/-- One weight. -/
theorem expo_apply (x : AX) (wq : AW) (kk : AK) (h : Fin 8) (o : ℕ) (ho : o = 128 * h.val) (hs) (kg : Vec Ideal S1x2048x1x128 .bf16)
    (hk : ∀ j e, kg (ix4 0 j 0 e) = kk (ix4 0 j (grp h) e)) (r : Fin 512) (j : Fin 2048) :
    expo o hs (act (F := Ideal) x wq) kg (ix2 r j) = wt x wq kk h r j := by
  unfold expo wt
  refine congrArg Ideal.exp ?_
  refine (Ideal.matmul_transposedRhs_apply (M := 512) (K := 128) (N := 2048) none _ _ _ r j).trans ?_
  rw [constant_apply, Ideal.ofBits_zero_f32, zero_add]
  refine Finset.sum_congr rfl fun e _ => congrArg₂ (· * ·) ?_ ?_
  · rw [truncf_apply, slice2_axis1_apply o _ _ r e (colOf h e) (by subst ho; rfl), act_apply]
  · rw [cast_group, hk]

/-- One head's output at an entry. -/
theorem outs_apply (p : FVec Ideal S512x2048 .f32) (vg : Vec Ideal S1x2048x1x128 .bf16) (r : Fin 512) (d : Fin 128) :
    outs p vg (ix3 0 r d) = ∑ j : Fin 2048, p (ix2 r j) * vg (ix4 0 j 0 d) := by
  unfold outs
  rw [shapeCast_ab_1ab_apply, truncf_apply]
  refine (Ideal.matmul_plain_apply (M := 512) (K := 2048) (N := 128) none _ _ _ r d).trans ?_
  rw [constant_apply, Ideal.ofBits_zero_f32, zero_add]
  exact Finset.sum_congr rfl fun j _ => congrArg₂ (· * ·) rfl (cast_group _ _ _)

/-- One head's sum of weights at a row. -/
theorem sums_apply (p : FVec Ideal S512x2048 .f32) (r : Fin 512) : sums p (ix3 0 r 0) = ∑ j : Fin 2048, p (ix2 r j) := by
  unfold sums
  rw [shapeCast_apply _ _ _ (ix1 r) (by
    rewrite [Shape.rowMajor_val_one, Shape.rowMajor_val_three]
    show r.val = (0 * 512 + r.val) * 1 + 0
    omega), truncf_apply]
  refine (Ideal.multiReduction_add_single _ _ reduces_S512x2048_S512 _ _ _).trans ?_
  refine Finset.sum_congr rfl fun j _ => congrArg p (funext fun a => ?_)
  match a with
  | ⟨0, _⟩ => rfl
  | ⟨1, _⟩ => rfl

/-- A device's partial outputs: head `h`, row `r`, coordinate `d`. -/
theorem sendAll_out (x : AX) (wq : AW) (kk : AK) (vv : AK) (f : CSend Ideal) (h : Fin 8) (r : Fin 512) (d : Fin 128) :
    sendAll (F := Ideal) x wq kk vv f (ix3 (h.castSucc : Fin 9) r d) = ∑ j : Fin 2048, wt x wq kk h r j * vv (ix4 0 j (grp h) d) := by
  rw [sendAll_heads]
  have key : ∀ (o : ℕ) (ho : o = 128 * h.val) (hs) (kg vg : Vec Ideal S1x2048x1x128 .bf16) (hk : ∀ j e, kg (ix4 0 j 0 e) = kk (ix4 0 j (grp h) e))
      (hv : ∀ j e, vg (ix4 0 j 0 e) = vv (ix4 0 j (grp h) e)),
      outs (expo o hs (act (F := Ideal) x wq) kg) vg (ix3 0 r d) = ∑ j : Fin 2048, wt x wq kk h r j * vv (ix4 0 j (grp h) d) := fun o ho hs kg vg hk hv => by
    rw [outs_apply]
    exact Finset.sum_congr rfl fun j _ => by rw [expo_apply x wq kk h o ho hs kg hk, hv]
  have hh : (h.castSucc : Fin 9).val < 8 := h.isLt
  simp only [putHd_plane _ _ _ _ hh, Fin.val_castSucc]
  fin_cases h
  · exact key 0 rfl _ _ _ (getK0_apply kk) (getV0_apply vv)
  · exact key 128 rfl _ _ _ (getK0_apply kk) (getV0_apply vv)
  · exact key 256 rfl _ _ _ (getK0_apply kk) (getV0_apply vv)
  · exact key 384 rfl _ _ _ (getK0_apply kk) (getV0_apply vv)
  · exact key 512 rfl _ _ _ (getK1_apply kk) (getV1_apply vv)
  · exact key 640 rfl _ _ _ (getK1_apply kk) (getV1_apply vv)
  · exact key 768 rfl _ _ _ (getK1_apply kk) (getV1_apply vv)
  · exact key 896 rfl _ _ _ (getK1_apply kk) (getV1_apply vv)

/-- A device's sums of weights: head `h`, row `r`. -/
theorem sendAll_sum (x : AX) (wq : AW) (kk : AK) (vv : AK) (f : CSend Ideal) (h : Fin 8) (r : Fin 512) :
    sendAll (F := Ideal) x wq kk vv f (ix3 (8 : Fin 9) r (⟨h.val, by omega⟩ : Fin 128)) = ∑ j : Fin 2048, wt x wq kk h r j := by
  rw [sendAll_heads]
  have key : ∀ (o : ℕ) (ho : o = 128 * h.val) (hs) (kg : Vec Ideal S1x2048x1x128 .bf16) (hk : ∀ j e, kg (ix4 0 j 0 e) = kk (ix4 0 j (grp h) e)),
      sums (expo o hs (act (F := Ideal) x wq) kg) (ix3 0 r 0) = ∑ j : Fin 2048, wt x wq kk h r j := fun o ho hs kg hk => by
    rw [sums_apply]
    exact Finset.sum_congr rfl fun j _ => expo_apply x wq kk h o ho hs kg hk r j
  rw [putHd_last (by omega), putHd_last (by omega), putHd_last (by omega), putHd_last (by omega), putHd_last (by omega),
    putHd_last (by omega), putHd_last (by omega), putHd_last (by omega)]
  fin_cases h
  · exact key 0 rfl _ _ (getK0_apply kk)
  · exact key 128 rfl _ _ (getK0_apply kk)
  · exact key 256 rfl _ _ (getK0_apply kk)
  · exact key 384 rfl _ _ (getK0_apply kk)
  · exact key 512 rfl _ _ (getK1_apply kk)
  · exact key 640 rfl _ _ (getK1_apply kk)
  · exact key 768 rfl _ _ (getK1_apply kk)
  · exact key 896 rfl _ _ (getK1_apply kk)

end Cert.KernelIdeal.Body

end
-- ==== Proof.Val.Rows.lean ====
module

public import proofs.«01_k».proof.Proof.Val.Heads

@[expose] public section

noncomputable section

/-! One device's sixteen finished rows, read at one entry. -/

namespace Cert.KernelIdeal.Body

open Idealize.ShloMosaic Idealize.ShloMosaic.ValueIdx Cert.KernelIdeal Cert.KernelIdeal.Gen
open scoped BigOperators

/-! ## The shape of the computation -/

section Shape
variable {F : FTy → Type} [FloatOps F]

/-- One head's normalised rows times its rows of the output projection. -/
def projHd (h : ℕ) (hs : S9x16x128.Slices ![h, 0, 0] S1x16x128) (hc : S16x8.Slices ![0, h] S16x1) (t : FVec F S9x16x128 .f32)
    (w : Vec F S128x1024 .bf16) : FVec F S16x1024 .f32 :=
  matmul dot_S16x128_S128x1024_S16x1024_1_0_0_1_n_n none
    (truncf .bf16 (mulf (shapeCast S16x128 (extractStridedSlice S1x16x128 ![h, 0, 0] t hs) shapeCasts_S1x16x128_S16x128)
      (broadcastTo S16x128 (shapeCast S16x1 (shapeCast S16 (extractStridedSlice S16x1 ![0, h] (recip t) hc) shapeCasts_S16x1_S16) shapeCasts_S16_S16x1)
        broadcasts_S16x1_S16x128)) bitsLt_bf16_f32)
    (shapeCast S128x1024 w shapeCasts_S128x1024_S128x1024) (constant S16x1024 .f32 0x00000000#32)

/-- The eight heads added, head after head. -/
theorem proj8_heads (t : FVec F S9x16x128 .f32) (w : CO F) : proj8 t w =
    addf (addf (addf (addf (addf (addf (addf (addf (k0_pay47 (F := F))
      (projHd 0 slices_S9x16x128_o0_0_0_S1x16x128 slices_S16x8_o0_0_S16x1 t (woV w 0)))
      (projHd 1 slices_S9x16x128_o1_0_0_S1x16x128 slices_S16x8_o0_1_S16x1 t (woV w 1)))
      (projHd 2 slices_S9x16x128_o2_0_0_S1x16x128 slices_S16x8_o0_2_S16x1 t (woV w 2)))
      (projHd 3 slices_S9x16x128_o3_0_0_S1x16x128 slices_S16x8_o0_3_S16x1 t (woV w 3)))
      (projHd 4 slices_S9x16x128_o4_0_0_S1x16x128 slices_S16x8_o0_4_S16x1 t (woV w 4)))
      (projHd 5 slices_S9x16x128_o5_0_0_S1x16x128 slices_S16x8_o0_5_S16x1 t (woV w 5)))
      (projHd 6 slices_S9x16x128_o6_0_0_S1x16x128 slices_S16x8_o0_6_S16x1 t (woV w 6)))
      (projHd 7 slices_S9x16x128_o7_0_0_S1x16x128 slices_S16x8_o0_7_S16x1 t (woV w 7)) := rfl

end Shape

/-! ## The sum over the devices -/

/-- One device's partial results, as extended reals. -/
abbrev AS := S9x512x128.Idx → EReal

/-- Row `r` of the sixteen rows of device `d`. -/
def rowOf (d : Fin 32) (r : Fin 16) : Fin 512 := ⟨16 * d.val + r.val, by omega⟩

/-- The device's own rows. -/
theorem ownV_apply (d : Fin 32) (f : CSend Ideal) (a : Fin 9) (r : Fin 16) (c : Fin 128) :
    ownV (F := Ideal) d f (ix3 a r c) = f (ix3 a (rowOf d r) c) := by
  show f _ = f _
  refine congrArg f (unit_emb _ fun b => ?_)
  have hb := congrFun (k0_off65_eq d) b
  refine Eq.trans ?_ (congrArg (· + ((ix3 a r c : S9x16x128.Idx) b).val) hb.symm)
  match b with
  | ⟨0, _⟩ => exact (Nat.zero_add _).symm
  | ⟨1, _⟩ => rfl
  | ⟨2, _⟩ => exact (Nat.zero_add _).symm

/-- What slot `j` holds. -/
theorem slotV_apply (g : CRecv Ideal) (j : Fin 32) (a : Fin 9) (r : Fin 16) (c : Fin 128) :
    slotV (F := Ideal) g j (ix4 0 a r c) = g (ix4 j a r c) := by
  show g _ = g _
  refine congrArg g (unit_emb _ fun b => ?_)
  match b with
  | ⟨0, _⟩ => rfl
  | ⟨1, _⟩ => exact (Nat.zero_add _).symm
  | ⟨2, _⟩ => exact (Nat.zero_add _).symm
  | ⟨3, _⟩ => exact (Nat.zero_add _).symm

/-- The contribution of device `j`. -/
theorem contrib_apply (d j : Fin 32) (g : CRecv Ideal) (a : Fin 9) (r : Fin 16) (c : Fin 128) :
    contrib (F := Ideal) (me d) g j.val (ix3 a r c) = if j = d then (0 : EReal) else g (ix4 j a r c) := by
  have hj : (Fin.ofNat 32 j.val) = j := Fin.ext (Nat.mod_eq_of_lt j.isLt)
  unfold contrib
  rw [hj]
  unfold Scalar.select
  by_cases e : j = d
  · rw [if_pos e, if_pos (show _ = (1 : BitVec 1) from (me_eq d j).2 e), broadcast_apply]
    exact Ideal.ofBits_zero_f32
  · rw [if_neg e, if_neg (show ¬ _ = (1 : BitVec 1) from fun q => e ((me_eq d j).1 q)), extf_apply]
    refine (shapeCast_apply _ _ _ (ix4 0 a r c) ?_).trans (slotV_apply g j a r c)
    rewrite [Shape.rowMajor_val_three, Shape.rowMajor_val_four]
    show ((0 * 9 + a.val) * 16 + r.val) * 128 + c.val = (a.val * 16 + r.val) * 128 + c.val
    omega

/-- The first `n` contributions, added. -/
theorem acc_apply (d : Fin 32) (v : FVec Ideal S9x16x128 .f32) (g : CRecv Ideal) (i : S9x16x128.Idx) :
    ∀ n, acc (me d) v g n i = v i + ∑ j ∈ Finset.range n, contrib (F := Ideal) (me d) g j i
  | 0 => by rw [Finset.sum_range_zero, add_zero]; rfl
  | n + 1 => by
    rw [Finset.sum_range_succ, ← add_assoc, ← acc_apply d v g i n]; rfl

/-- The sum over the devices of the rows of device `d`, if the other devices' slots hold their partial results. -/
theorem total_apply (d : Fin 32) (OS : Fin 32 → AS) (a : Fin 9) (r : Fin 16) (c : Fin 128) :
    total (F := Ideal) d (OS d) (gather (F := Ideal) OS d) (ix3 a r c) = ∑ j : Fin 32, OS j (ix3 a (rowOf d r) c) := by
  have h1 : total (F := Ideal) d (OS d) (gather (F := Ideal) OS d) (ix3 a r c) =
      OS d (ix3 a (rowOf d r) c) + ∑ j : Fin 32, (if j = d then (0 : EReal) else OS j (ix3 a (rowOf d r) c)) := by
    unfold total
    rw [acc_apply]
    refine congrArg₂ (· + ·) (ownV_apply d (OS d) a r c) ?_
    rw [Finset.sum_range]
    exact Finset.sum_congr rfl fun j _ => contrib_apply d j (gather (F := Ideal) OS d) a r c
  have h2 : (OS d (ix3 a (rowOf d r) c) : EReal) = ∑ j : Fin 32, (if j = d then OS j (ix3 a (rowOf d r) c) else (0 : EReal)) := by
    rw [Finset.sum_ite_eq' Finset.univ d fun j => (OS j (ix3 a (rowOf d r) c) : EReal), if_pos (Finset.mem_univ _)]
  rw [h1, h2, ← Finset.sum_add_distrib]
  refine Finset.sum_congr rfl fun j _ => ?_
  by_cases e : j = d
  · rw [if_pos e, if_pos e, add_zero]
  · rw [if_neg e, if_neg e, zero_add]

/-! ## The projection -/

/-- The inverse of a sum of weights. -/
theorem recip_apply (t : FVec Ideal S9x16x128 .f32) (r : Fin 16) (h : Fin 8) :
    recip t (ix2 r h) = Ideal.div 1 (t (ix3 (8 : Fin 9) r (⟨h.val, by omega⟩ : Fin 128))) := by
  unfold recip
  rw [divf_apply, broadcast_apply, shapeCast_1ab_ab_apply]
  refine congrArg₂ Ideal.div Ideal.ofBits_one_f32 (extractStridedSlice_apply _ _ _ _ _ fun b => ?_)
  match b with
  | ⟨0, _⟩ => rfl
  | ⟨1, _⟩ => exact (Nat.zero_add _).symm
  | ⟨2, _⟩ => exact (Nat.zero_add _).symm

/-- One head's part of one entry of the result. -/
theorem projHd_apply (h : Fin 8) {hs hc} (t : FVec Ideal S9x16x128 .f32) (w : AW) (r : Fin 16) (c : Fin 1024) :
    projHd h.val hs hc t (woV (F := Ideal) w h) (ix2 r c) =
      ∑ e : Fin 128, (t (ix3 (h.castSucc : Fin 9) r e) * Ideal.div 1 (t (ix3 (8 : Fin 9) r (⟨h.val, by omega⟩ : Fin 128)))) * w (ix2 (colOf h e) c) := by
  unfold projHd
  refine (Ideal.matmul_plain_apply (M := 16) (K := 128) (N := 1024) none _ _ _ r c).trans ?_
  rw [constant_apply, Ideal.ofBits_zero_f32, zero_add]
  refine Finset.sum_congr rfl fun e _ => congrArg₂ (· * ·) ?_ ?_
  · rw [truncf_apply, mulf_apply]
    refine congrArg₂ (· * ·) ?_ ?_
    · rw [shapeCast_1ab_ab_apply]
      refine extractStridedSlice_apply _ _ _ _ _ fun b => ?_
      match b with
      | ⟨0, _⟩ => rfl
      | ⟨1, _⟩ => exact (Nat.zero_add _).symm
      | ⟨2, _⟩ => exact (Nat.zero_add _).symm
    · rw [← recip_apply]
      refine (broadcastTo_apply _ _ _ (ix2 r (0 : Fin 1)) fun b => ?_).trans ?_
      · match b with
        | ⟨0, _⟩ => rfl
        | ⟨1, _⟩ => rfl
      · rw [shapeCast_apply _ _ _ (ix1 r) (by
          rewrite [Shape.rowMajor_val_one, Shape.rowMajor_val_two]
          show r.val = r.val * 1 + 0
          omega), shapeCast_apply _ _ _ (ix2 r (0 : Fin 1)) (by
          rewrite [Shape.rowMajor_val_one, Shape.rowMajor_val_two]
          show r.val * 1 + 0 = r.val
          omega)]
        refine extractStridedSlice_apply _ _ _ _ _ fun b => ?_
        match b with
        | ⟨0, _⟩ => exact (Nat.zero_add _).symm
        | ⟨1, _⟩ => rfl
  · rw [shapeCast_apply _ _ _ (ix2 e c) rfl]
    show w _ = w _
    refine congrArg w (unit_emb _ fun b => ?_)
    match b with
    | ⟨0, _⟩ => rfl
    | ⟨1, _⟩ => exact (Nat.zero_add _).symm

/-- One entry of the rows of device `d`. -/
theorem rows_apply (d : Fin 32) (f : CSend Ideal) (g : CRecv Ideal) (w : AW) (r : Fin 16) (c : Fin 1024) :
    rows (F := Ideal) d f g w (ix3 0 r c) = ∑ h : Fin 8, ∑ e : Fin 128,
      (total (F := Ideal) d f g (ix3 (h.castSucc : Fin 9) r e) * Ideal.div 1 (total (F := Ideal) d f g (ix3 (8 : Fin 9) r (⟨h.val, by omega⟩ : Fin 128))))
        * w (ix2 (colOf h e) c) := by
  unfold rows k0_pay54
  rw [shapeCast_ab_1ab_apply, proj8_heads]
  generalize total (F := Ideal) d f g = t
  simp only [addf_apply]
  rw [Fin.sum_univ_eight, ← projHd_apply 0 t w r c, ← projHd_apply 1 t w r c, ← projHd_apply 2 t w r c, ← projHd_apply 3 t w r c,
    ← projHd_apply 4 t w r c, ← projHd_apply 5 t w r c, ← projHd_apply 6 t w r c, ← projHd_apply 7 t w r c]
  have hz : k0_pay47 (F := Ideal) (ix2 r c) = (0 : EReal) := Ideal.ofBits_zero_f32
  rw [hz, zero_add]
  rfl

end Cert.KernelIdeal.Body

end
-- ==== Proof.Val.Ref.lean ====
module

public import proofs.«01_k».proof.Proof.Gen.ReferenceIdeal.Read
public import proofs.«01_k».proof.Proof.Val.Heads
public import proofs.«01_k».proof.Proof.Val.Softmax

@[expose] public section

noncomputable section

/-! The reference, read at one entry of its result. -/

namespace Cert.Attn

open Idealize.ShloMosaic Idealize.ShloMosaic.ValueIdx Cert.ReferenceIdeal Cert.ReferenceIdeal.Read
open Cert.KernelIdeal.Body (colOf grp SC AX AW)
open scoped BigOperators

/-- All the keys or all the values. -/
abbrev BK := S1x65536x2x128.Idx → EReal

variable (x : AX) (wq wo : AW) (kk vv : BK)

/-- The query of row `r`, column `c`, before scaling. -/
def rq (r : Fin 512) (c : Fin 1024) : EReal := ∑ k : Fin 1024, x (ix3 0 r k) * wq (ix2 k c)

/-- The score of key `j` for head `h` of row `r`. -/
def rs (h : Fin 8) (r : Fin 512) (j : Fin 65536) : EReal :=
  (∑ e : Fin 128, rq x wq r (colOf h e) * kk (ix4 0 j (grp h) e)) * SC

theorem ref_query (r : Fin 512) (c : Fin 1024) : val_main_v3 (F := Ideal) x wq (ix2 r c) = rq x wq r c := by
  rw [val_main_v3_apply]
  refine Finset.sum_congr rfl fun k _ => congrArg₂ (· * ·) ?_ ?_
  · rw [val_main_v1_apply, val_main_v0_apply]
    refine congrArg x (funext fun a => Fin.ext ?_)
    match a with
    | ⟨0, _⟩ => rfl
    | ⟨1, _⟩ => show (r.val * 1024 + k.val) / 1024 % 512 = r.val; omega
    | ⟨2, _⟩ => show (r.val * 1024 + k.val) % 1024 = k.val; omega
  · rw [val_main_v2_apply]
    refine congrArg wq (funext fun a => Fin.ext ?_)
    match a with
    | ⟨0, _⟩ => rfl
    | ⟨1, _⟩ => rfl

theorem ref_q (r : Fin 512) (h : Fin 8) (e : Fin 128) : val_main_v6 (F := Ideal) x wq (ix3 r h e) = rq x wq r (colOf h e) := by
  rw [val_main_v6_apply, val_main_v5_apply, val_main_v4_apply, ← ref_query]
  refine congrArg (val_main_v3 (F := Ideal) x wq) (funext fun a => Fin.ext ?_)
  match a with
  | ⟨0, _⟩ => show ((r.val * 8 + h.val) * 128 + e.val) / 1024 = r.val; omega
  | ⟨1, _⟩ => show ((r.val * 8 + h.val) * 128 + e.val) % 1024 = 128 * h.val + e.val; omega

theorem ref_k (j : Fin 65536) (h : Fin 8) (e : Fin 128) : val_main_v10 (F := Ideal) kk (ix3 j h e) = kk (ix4 0 j (grp h) e) := by
  rw [val_main_v10_apply, val_main_v9_apply, val_main_v8_apply, val_main_v7_apply]
  refine congrArg kk (funext fun a => Fin.ext ?_)
  have h1 : ((j.val * 8 + h.val) * 128 + e.val) / 1024 = j.val := by omega
  have h2 : ((j.val * 8 + h.val) * 128 + e.val) / 512 % 2 = h.val / 4 := by omega
  have h3 : ((j.val * 8 + h.val) * 128 + e.val) % 128 = e.val := by omega
  have h4 : h.val / 4 < 2 := by omega
  have h5 := j.isLt
  have h6 := e.isLt
  match a with
  | ⟨0, _⟩ => rfl
  | ⟨1, _⟩ =>
    show ((((j.val * 8 + h.val) * 128 + e.val) / 1024 * 2 + ((j.val * 8 + h.val) * 128 + e.val) / 512 % 2) * 128
      + ((j.val * 8 + h.val) * 128 + e.val) % 128) / 256 % 65536 = j.val
    rw [h1, h2, h3]; clear h1 h2 h3; revert h4; generalize h.val / 4 = g; intro h4; omega
  | ⟨2, _⟩ =>
    show ((((j.val * 8 + h.val) * 128 + e.val) / 1024 * 2 + ((j.val * 8 + h.val) * 128 + e.val) / 512 % 2) * 128
      + ((j.val * 8 + h.val) * 128 + e.val) % 128) / 128 % 2 = h.val / 4
    rw [h1, h2, h3]; clear h1 h2 h3; revert h4; generalize h.val / 4 = g; intro h4; omega
  | ⟨3, _⟩ =>
    show ((((j.val * 8 + h.val) * 128 + e.val) / 1024 * 2 + ((j.val * 8 + h.val) * 128 + e.val) / 512 % 2) * 128
      + ((j.val * 8 + h.val) * 128 + e.val) % 128) % 128 = e.val
    rw [h1, h2, h3]; clear h1 h2 h3; revert h4; generalize h.val / 4 = g; intro h4; omega

/-- The values are repeated over the heads exactly as the keys are. -/
theorem ref_v (j : Fin 65536) (h : Fin 8) (e : Fin 128) : val_main_v14 (F := Ideal) vv (ix3 j h e) = vv (ix4 0 j (grp h) e) :=
  ref_k vv j h e

theorem ref_score (h : Fin 8) (r : Fin 512) (j : Fin 65536) : val_main_v19 (F := Ideal) x wq kk (ix3 h r j) = rs x wq kk h r j := by
  rw [val_main_v19_apply, val_main_v17_apply, val_main_v16_apply, val_main_v15_apply, val_main_v18_apply, val_main_cst_apply]
  refine congrArg₂ (· * ·) (Finset.sum_congr rfl fun e _ => congrArg₂ (· * ·) ?_ ?_) rfl
  · rw [← ref_q]
    refine congrArg _ (funext fun a => ?_)
    match a with
    | ⟨0, _⟩ => rfl
    | ⟨1, _⟩ => rfl
    | ⟨2, _⟩ => rfl
  · refine Eq.trans (congrArg (val_main_v10 (F := Ideal) kk) (?_ : _ = ix3 j h e)) (ref_k kk j h e)
    refine (funext fun a => ?_)
    match a with
    | ⟨0, _⟩ => rfl
    | ⟨1, _⟩ => rfl
    | ⟨2, _⟩ => rfl

/-- The maximum of a row of scores, as the reference computes it. -/
def rmax (h : Fin 8) (r : Fin 512) : EReal := val_main_v20 (F := Ideal) x wq kk (ix2 h r)

/-- The maximum of a row of real scores is real. -/
theorem rmax_real (h : Fin 8) (r : Fin 512) (hs : ∀ h r j, ∃ s : ℝ, rs x wq kk h r j = s) : ∃ m : ℝ, rmax x wq kk h r = m := by
  unfold rmax val_main_v20 Host.reduce
  have hb : (val_main_cst_0 (F := Ideal) (Shape.Idx.first Gen.h_S_) : EReal) = ⊥ := by
    rw [val_main_cst_0_apply]
    simp [Ideal.ofBits, Ideal.ieee]
  rw [hb]
  refine foldl_max_real (fun n => val_main_v19 (F := Ideal) x wq kk (S8x512x65536.rowMajor.symm n)) _ ?_ ?_
  · refine ⟨S8x512x65536.rowMajor (ix3 h r 0), List.mem_filter.2 ⟨List.mem_finRange _, decide_eq_true ?_⟩⟩
    rw [Equiv.symm_apply_apply]
    refine funext fun a => ?_
    match a with
    | ⟨0, _⟩ => rfl
    | ⟨1, _⟩ => rfl
  · intro n _
    obtain ⟨s, e⟩ := hs (S8x512x65536.rowMajor.symm n 0) (S8x512x65536.rowMajor.symm n 1) (S8x512x65536.rowMajor.symm n 2)
    refine ⟨s, Eq.trans ?_ e⟩
    refine Eq.trans (congrArg (val_main_v19 (F := Ideal) x wq kk) (?_ : _ = ix3 _ _ _)) (ref_score x wq kk _ _ _)
    refine (funext fun a => ?_)
    match a with
    | ⟨0, _⟩ => rfl
    | ⟨1, _⟩ => rfl
    | ⟨2, _⟩ => rfl

theorem ref_exp (h : Fin 8) (r : Fin 512) (j : Fin 65536) :
    val_main_v24 (F := Ideal) x wq kk (ix3 h r j) = Ideal.exp (rs x wq kk h r j - rmax x wq kk h r) := by
  rw [val_main_v24_apply, val_main_v23_apply, val_main_v22_apply, val_main_v21_apply, ref_score]
  refine congrArg (fun m => Ideal.exp (rs x wq kk h r j - m)) (congrArg (val_main_v20 (F := Ideal) x wq kk) (funext fun a => ?_))
  match a with
  | ⟨0, _⟩ => rfl
  | ⟨1, _⟩ => rfl

/-- The attention output before the projection. -/
theorem ref_out (r : Fin 512) (h : Fin 8) (d : Fin 128) : val_main_v31 (F := Ideal) x wq kk vv (ix3 r h d) =
    Ideal.div (∑ j : Fin 65536, vv (ix4 0 j (grp h) d) * Ideal.exp (rs x wq kk h r j - rmax x wq kk h r))
      (∑ j : Fin 65536, Ideal.exp (rs x wq kk h r j - rmax x wq kk h r)) := by
  rw [val_main_v31_apply, val_main_v28_apply, val_main_v27_apply, val_main_v30_apply, val_main_v29_apply, val_main_v26_apply, val_main_v25_apply,
    val_main_cst_1_apply]
  refine congrArg₂ Ideal.div (Finset.sum_congr rfl fun j _ => congrArg₂ (· * ·) ?_ ?_) ?_
  · refine Eq.trans (congrArg (val_main_v14 (F := Ideal) vv) (?_ : _ = ix3 j h d)) (ref_v vv j h d)
    refine (funext fun a => ?_)
    match a with
    | ⟨0, _⟩ => rfl
    | ⟨1, _⟩ => rfl
    | ⟨2, _⟩ => rfl
  · rw [← ref_exp]
    refine congrArg _ (funext fun a => ?_)
    match a with
    | ⟨0, _⟩ => rfl
    | ⟨1, _⟩ => rfl
    | ⟨2, _⟩ => rfl
  · refine (congrArg (· + _) Ideal.ofBits_zero_f32).trans ((zero_add _).trans (Finset.sum_congr rfl fun j _ => ?_))
    rw [← ref_exp]
    refine congrArg _ (funext fun a => ?_)
    match a with
    | ⟨0, _⟩ => rfl
    | ⟨1, _⟩ => rfl
    | ⟨2, _⟩ => rfl

/-- The result: the sum over the heads and their coordinates of the normalised outputs times the output projection. -/
theorem ref_result (r : Fin 512) (c : Fin 1024) : val_main_v35 (F := Ideal) x wq wo kk vv (ix3 0 r c) =
    ∑ h : Fin 8, ∑ e : Fin 128, val_main_v31 (F := Ideal) x wq kk vv (ix3 r h e) * wo (ix2 (colOf h e) c) := by
  rw [val_main_v35_apply, val_main_v34_apply]
  have h1 : ∀ k : Fin 1024, val_main_v32 (F := Ideal) x wq kk vv (lidx_main_v34 (idx_main_v35 (ix3 0 r c)) k) * val_main_v33 (F := Ideal) wo (ridx_main_v34 (idx_main_v35 (ix3 0 r c)) k)
      = val_main_v31 (F := Ideal) x wq kk vv (ix3 r ⟨k.val / 128, by omega⟩ ⟨k.val % 128, by omega⟩) * wo (ix2 k c) := fun k => by
    rw [val_main_v32_apply, val_main_v33_apply]
    refine congrArg₂ (· * ·) (congrArg _ (funext fun a => Fin.ext ?_)) (congrArg wo (funext fun a => ?_))
    · match a with
      | ⟨0, _⟩ => show (r.val * 1024 + k.val) / 1024 = r.val; omega
      | ⟨1, _⟩ => show (r.val * 1024 + k.val) / 128 % 8 = k.val / 128; omega
      | ⟨2, _⟩ => show (r.val * 1024 + k.val) % 128 = k.val % 128; omega
    · match a with
      | ⟨0, _⟩ => rfl
      | ⟨1, _⟩ => rfl
  refine (Finset.sum_congr rfl fun k _ => h1 k).trans ?_
  rw [sum_split (S := 8) (n := 128) rfl fun h e => (colOf h e).isLt]
  refine Finset.sum_congr rfl fun h _ => Finset.sum_congr rfl fun e _ => ?_
  refine congrArg₂ (· * ·) (congrArg _ (funext fun a => Fin.ext ?_)) rfl
  match a with
  | ⟨0, _⟩ => rfl
  | ⟨1, _⟩ => show (128 * h.val + e.val) / 128 = h.val; omega
  | ⟨2, _⟩ => show (128 * h.val + e.val) % 128 = e.val; omega

end Cert.Attn

end
-- ==== Proof.Val.Equation.lean ====
module

public import proofs.«01_k».proof.Proof.Val.Rows
public import proofs.«01_k».proof.Proof.Val.Ref

@[expose] public section

noncomputable section

/-! The kernel's result is the reference's, when the activations, the query weight and the keys are real. -/

namespace Cert.Attn

open Idealize.ShloMosaic Idealize.ShloMosaic.ValueIdx Cert.ReferenceIdeal.Read
open Cert.KernelIdeal.Body (colOf grp SC AX AW AK AS qv wt rowOf OSof RVof Yof gather total rows sendAll)
open scoped BigOperators

/-- The scale is a real. -/
theorem SC_real : ∃ s : ℝ, SC = s := by
  unfold SC
  simp only [Ideal.ofBits, Ideal.ieee]
  exact ⟨_, rfl⟩

/-- Key `j` of device `c` among all keys. -/
def keyOf (c : Fin 32) (j : Fin 2048) : Fin 65536 := ⟨2048 * c.val + j.val, by omega⟩

section
variable (x : AX) (wq wo : AW) (bk bv : Fin 32 → AK) (kk vv : BK)
variable (hx : ∀ i, ∃ r : ℝ, x i = r) (hq : ∀ i, ∃ r : ℝ, wq i = r) (hk : ∀ i, ∃ r : ℝ, kk i = r)
variable (ek : ∀ c j g e, bk c (ix4 0 j g e) = kk (ix4 0 (keyOf c j) g e)) (ev : ∀ c j g e, bv c (ix4 0 j g e) = vv (ix4 0 (keyOf c j) g e))

include hx hq in
/-- The queries are real. -/
theorem rq_real (r : Fin 512) (c : Fin 1024) : ∃ s : ℝ, rq x wq r c = s := real_sum_mul _ _ _ (fun _ => hx _) fun _ => hq _

include hx hq hk in
/-- The scores are real. -/
theorem rs_real (h : Fin 8) (r : Fin 512) (j : Fin 65536) : ∃ s : ℝ, rs x wq kk h r j = s := by
  obtain ⟨a, ha⟩ := real_sum_mul Finset.univ (fun e : Fin 128 => rq x wq r (colOf h e)) (fun e => kk (ix4 0 j (grp h) e))
    (fun _ => rq_real x wq hx hq _ _) fun _ => hk _
  obtain ⟨s, hs⟩ := SC_real
  exact ⟨a * s, by unfold rs; rw [ha, hs, EReal.coe_mul]⟩

include hx hq hk ek in
/-- A weight of the kernel is the exponential of the reference's score. -/
theorem wt_eq (c : Fin 32) (h : Fin 8) (r : Fin 512) (j : Fin 2048) :
    wt x wq (bk c) h r j = Ideal.exp (rs x wq kk h r (keyOf c j)) := by
  obtain ⟨s, hs⟩ := SC_real
  unfold wt rs
  refine congrArg Ideal.exp ?_
  have := sum_scale Finset.univ (fun e : Fin 128 => rq x wq r (colOf h e)) (fun e => kk (ix4 0 (keyOf c j) (grp h) e)) s
    (fun _ => rq_real x wq hx hq _ _) fun _ => hk _
  rw [hs, ← this, ← hs]
  exact Finset.sum_congr rfl fun e _ => congrArg₂ (· * ·) rfl (ek c j (grp h) e)

/-- The partial results of all devices. -/
abbrev OS (c : Fin 32) : AS := OSof (F := Ideal) (fun _ => x) (fun _ => wq) bk bv c

include hx hq hk ek ev in
/-- The outputs summed over the devices: all keys. -/
theorem total_out (d : Fin 32) (h : Fin 8) (r : Fin 16) (e : Fin 128) :
    total (F := Ideal) d (OS x wq bk bv d) (gather (F := Ideal) (OS x wq bk bv) d) (ix3 (h.castSucc : Fin 9) r e)
      = ∑ j : Fin 65536, Ideal.exp (rs x wq kk h (rowOf d r) j) * vv (ix4 0 j (grp h) e) := by
  rw [Cert.KernelIdeal.Body.total_apply, sum_split (S := 32) (n := 2048) rfl fun c j => (keyOf c j).isLt]
  refine Finset.sum_congr rfl fun c _ => ?_
  have hc : OS x wq bk bv c (ix3 (h.castSucc : Fin 9) (rowOf d r) e) = ∑ j : Fin 2048, wt x wq (bk c) h (rowOf d r) j * bv c (ix4 0 j (grp h) e) :=
    Cert.KernelIdeal.Body.sendAll_out x wq (bk c) (bv c) _ h (rowOf d r) e
  refine hc.trans (Finset.sum_congr rfl fun j _ => ?_)
  rw [wt_eq x wq bk kk hx hq hk ek, ev]
  rfl

include hx hq hk ek in
/-- The weights summed over the devices: all keys. -/
theorem total_sum (d : Fin 32) (h : Fin 8) (r : Fin 16) :
    total (F := Ideal) d (OS x wq bk bv d) (gather (F := Ideal) (OS x wq bk bv) d) (ix3 (8 : Fin 9) r (⟨h.val, by omega⟩ : Fin 128))
      = ∑ j : Fin 65536, Ideal.exp (rs x wq kk h (rowOf d r) j) := by
  rw [Cert.KernelIdeal.Body.total_apply, sum_split (S := 32) (n := 2048) rfl fun c j => (keyOf c j).isLt]
  refine Finset.sum_congr rfl fun c _ => ?_
  have hc : OS x wq bk bv c (ix3 (8 : Fin 9) (rowOf d r) (⟨h.val, by omega⟩ : Fin 128)) = ∑ j : Fin 2048, wt x wq (bk c) h (rowOf d r) j :=
    Cert.KernelIdeal.Body.sendAll_sum x wq (bk c) (bv c) _ h (rowOf d r)
  refine hc.trans (Finset.sum_congr rfl fun j _ => ?_)
  rw [wt_eq x wq bk kk hx hq hk ek]
  rfl

include hx hq hk in
/-- The reference's output before the projection, without the maximum. -/
theorem ref_out_eq (r : Fin 512) (h : Fin 8) (d : Fin 128) : val_main_v31 (F := Ideal) x wq kk vv (ix3 r h d) =
    (∑ j : Fin 65536, Ideal.exp (rs x wq kk h r j) * vv (ix4 0 j (grp h) d)) * Ideal.div 1 (∑ j : Fin 65536, Ideal.exp (rs x wq kk h r j)) := by
  obtain ⟨m, hm⟩ := rmax_real x wq kk h r (rs_real x wq kk hx hq hk)
  choose s hs using fun j => rs_real x wq kk hx hq hk h r j
  rw [ref_out, hm]
  simp only [hs]
  exact softmax_row s m _

include hx hq hk ek ev in
/-- Every entry of the kernel's result is the reference's. -/
theorem result_eq : Yof (F := Ideal) (fun _ => x) (fun _ => wq) (fun _ => wo) bk bv = val_main_v35 (F := Ideal) x wq wo kk vv := by
  funext i
  obtain ⟨u, R, c, rfl⟩ : ∃ (u : Fin 1) (R : Fin 512) (c : Fin 1024), i = ix3 u R c := ⟨i 0, i 1, i 2, funext fun a => by
    match a with
    | ⟨0, _⟩ => rfl
    | ⟨1, _⟩ => rfl
    | ⟨2, _⟩ => rfl⟩
  obtain rfl : u = 0 := Fin.ext (by omega)
  rw [ref_result]
  let d : Fin 32 := ⟨R.val / 16, by omega⟩
  let r : Fin 16 := ⟨R.val % 16, by omega⟩
  have hR : rowOf d r = R := Fin.ext (show 16 * (R.val / 16) + R.val % 16 = R.val by omega)
  refine (Cert.KernelIdeal.Body.rows_apply d (OS x wq bk bv d) (gather (F := Ideal) (OS x wq bk bv) d) wo r c).trans ?_
  refine Finset.sum_congr rfl fun h _ => Finset.sum_congr rfl fun e _ => ?_
  rw [total_out x wq bk bv kk vv hx hq hk ek ev, total_sum x wq bk bv kk hx hq hk ek, ref_out_eq x wq kk vv hx hq hk, hR]

end

end Cert.Attn

end
-- ==== Proof.lean ====
/- The certificate's claim, assembled from the runs of the three programs. -/
module

public import proofs.«01_k».proof.Defs
public import proofs.«01_k».proof.Proof.Gen.ReferenceIdeal.Run
public import proofs.«01_k».proof.Proof.Gen.ReferenceIdeal.Read
public import proofs.«01_k».proof.Proof.K.Result
public import proofs.«01_k».proof.Proof.KI.Result
public import proofs.«01_k».proof.Proof.Val.Finite
public import proofs.«01_k».proof.Proof.Val.Equation

@[expose] public section

noncomputable section

namespace Cert.Proof

open Idealize.ShloMosaic Idealize.ShloMosaic.ValueIdx Idealize.SL.Sem

/-- The kernel as printed runs to its end without a fault and leaves its arguments and every semaphore as at the start. -/
theorem kernel_quiescent : Cert.quiescent_Kernel := fun m g _ => Cert.Kernel.Body.frame_run (F := Bits) m g

/-- The idealized kernel does the same. -/
theorem ideal_quiescent : Cert.quiescent_KernelIdeal := fun m g _ => Cert.KernelIdeal.Body.frame_run (F := Ideal) m g

/-- The idealized reference does the same. -/
theorem reference_quiescent : Cert.quiescent_ReferenceIdeal := fun m g _ =>
  (θ_run Cert.ReferenceIdeal.defs _ _).mono (fun r h => ⟨fun c => (h c).2,
    Idealize.ShloMosaic.sem_eq_zero_of_no_sems (by decide) r.2⟩) (Cert.ReferenceIdeal.Value.run (F := Ideal) m g)

/-- A device's block of the keys or values, read in the whole array. -/
theorem block_entry (v : Cert.Attn.BK) (c : Fin 32) (j : Fin 2048) (g : Fin 2) (e : Fin 128) :
    Layout.block (α := EReal) ⟨4, ![1, 2048, 2, 128]⟩ ⟨4, ![1, 65536, 2, 128]⟩ 1 32 c v
    (by decide) (ix4 0 j g e) = v (ix4 0 (Cert.Attn.keyOf c j) g e) := by
  rw [Layout.block_apply]
  refine congrArg v (funext fun b => Fin.ext ?_)
  match b with
  | ⟨0, _⟩ => rfl
  | ⟨1, _⟩ => exact congrArg (· + j.val) (Nat.mul_comm c.val 2048)
  | ⟨2, _⟩ => rfl
  | ⟨3, _⟩ => rfl

/-- Every place in the whole array of keys is a place in some device's block. -/
theorem block_place (i : (⟨4, ![1, 65536, 2, 128]⟩ : Shape).Idx) :
    ∃ (c : Fin 32) (j : Fin 2048) (g : Fin 2) (e : Fin 128), i = ix4 0 (Cert.Attn.keyOf c j) g e := by
  have h1 : (i 1).val < 65536 := (i 1).isLt
  refine ⟨⟨(i 1).val / 2048, by omega⟩, ⟨(i 1).val % 2048, by omega⟩, i 2, i 3, funext fun b => Fin.ext ?_⟩
  match b with
  | ⟨0, _⟩ => exact Nat.lt_one_iff.mp (i 0).isLt
  | ⟨1, _⟩ => exact (Nat.div_add_mod (i 1).val 2048).symm
  | ⟨2, _⟩ => rfl
  | ⟨3, _⟩ => rfl

/-- On real activations, query weight and keys, the idealized kernel leaves on every device the array the idealized reference leaves. -/
theorem kernel_algebraic : Cert.algebraic_KernelIdeal_ReferenceIdeal_pre_finite_KernelIdeal (hPre_finite_KernelIdeal := Cert.Attn.finite_facts) := by
  intro m g m' g' hpre hargs
  have hr := fun c => @Cert.Attn.finite_real Cert.Attn.finite_facts _ _ _ _ _ (hpre c)
  have h0 := hargs 0
  have hx := (hr 0).1
  have hq := (hr 0).2.1
  rw [h0.1] at hx
  rw [h0.2.1] at hq
  have ek : ∀ c j g e, Cert.KernelIdeal.Body.inK m c (ix4 0 j g e) = m' ((Dev.tc 0).loc Cert.ReferenceIdeal.main_arg3) (ix4 0 (Cert.Attn.keyOf c j) g e) := fun c j g e =>
    (congrFun ((Cert.KernelIdeal.Body.inK_eq m c).trans (hargs c).2.2.2.1) _).trans (block_entry _ c j g e)
  have ev : ∀ c j g e, Cert.KernelIdeal.Body.inV m c (ix4 0 j g e) = m' ((Dev.tc 0).loc Cert.ReferenceIdeal.main_arg4) (ix4 0 (Cert.Attn.keyOf c j) g e) := fun c j g e =>
    (congrFun ((Cert.KernelIdeal.Body.inV_eq m c).trans (hargs c).2.2.2.2) _).trans (block_entry _ c j g e)
  have hk : ∀ i, ∃ r : ℝ, m' ((Dev.tc 0).loc Cert.ReferenceIdeal.main_arg3) i = (r : EReal) := fun i => by
    obtain ⟨c, j, g, e, rfl⟩ := block_place i
    obtain ⟨r, h⟩ := (hr c).2.2 (ix4 0 j g e)
    exact ⟨r, ((ek c j g e).symm.trans (congrFun (Cert.KernelIdeal.Body.inK_eq m c) _)).trans h⟩
  have ex : Cert.KernelIdeal.Body.inX m = fun _ => m' ((Dev.tc 0).loc Cert.ReferenceIdeal.main_arg0) :=
    funext fun c => (Cert.KernelIdeal.Body.inX_eq m c).trans (hargs c).1
  have eq : Cert.KernelIdeal.Body.inQ m = fun _ => m' ((Dev.tc 0).loc Cert.ReferenceIdeal.main_arg1) :=
    funext fun c => (Cert.KernelIdeal.Body.inQ_eq m c).trans (hargs c).2.1
  have eo : Cert.KernelIdeal.Body.inO m = fun _ => m' ((Dev.tc 0).loc Cert.ReferenceIdeal.main_arg2) :=
    funext fun c => (Cert.KernelIdeal.Body.inO_eq m c).trans (hargs c).2.2.1
  have hY : Cert.KernelIdeal.Body.Ym m = Cert.ReferenceIdeal.Value.res_main_v35 m' 0 := by
    refine Eq.trans ?_ ((Cert.Attn.result_eq _ _ _ _ _ _ _ hx hq hk ek ev).trans (Cert.ReferenceIdeal.Read.val_main_v35_eq m' 0).symm)
    show Cert.KernelIdeal.Body.Yof _ _ _ _ _ = _
    rw [ex, eq, eo]
  refine ⟨Cert.ReferenceIdeal.Value.res_main_v35 m' 0, ?_, ?_⟩
  · exact (θ_run Cert.KernelIdeal.defs _ _).mono (fun r h c => ⟨(h c).1.trans hY, (h c).2⟩) (Cert.KernelIdeal.Body.value_run (F := Ideal) m g)
  · exact (θ_run Cert.ReferenceIdeal.defs _ _).mono (fun r h => h 0) (Cert.ReferenceIdeal.Value.run (F := Ideal) m' g')

/-- All claims together. -/
theorem claim : Cert.Claim := ⟨Cert.Kernel.Gen.facts, Cert.KernelIdeal.Gen.facts, Cert.ReferenceIdeal.Gen.facts, Cert.Attn.finite_facts,
  Cert.Attn.finite_facts_ref, kernel_quiescent, ideal_quiescent, fun m g _ => ideal_quiescent m g trivial, reference_quiescent,
  fun m g _ => reference_quiescent m g trivial, trivial, kernel_algebraic⟩

end Cert.Proof

end
